-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_gate_closed [hPre_attention_gate_closed : Cert.Pre_attention_gate_closed.Facts] (m : (ℓ : Loc Cert.KernelIdeal.nD Cert.KernelIdeal.τ Cert.KernelIdeal.sig) → Buf (Elt Ideal) ℓ) : Prop :=
  ∀ c : Dev Cert.KernelIdeal.nD,
    (Cert.Pre_attention_gate_closed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_attention_gate_closed [hKernelIdeal : Cert.KernelIdeal.Facts] [hPre_attention_gate_closed : Cert.Pre_attention_gate_closed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_gate_closed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def holds_KernelIdeal_is_conv_branch_where_closed [hKernelIdeal : Cert.KernelIdeal.Facts] [hPost_is_conv_branch_where_closed : Cert.Post_is_conv_branch_where_closed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ (Cert.Post_is_conv_branch_where_closed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (r.2.mem ((c.tc : Thread Cert.KernelIdeal.nD Cert.KernelIdeal.τ).loc Cert.KernelIdeal.main_v6))) = (fun _ => 1#1))

def holds_KernelIdeal_is_conv_branch_pre_attention_gate_closed [hKernelIdeal : Cert.KernelIdeal.Facts] [hPre_attention_gate_closed : Cert.Pre_attention_gate_closed.Facts] [hPost_is_conv_branch : Cert.Post_is_conv_branch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_gate_closed m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ (Cert.Post_is_conv_branch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (r.2.mem ((c.tc : Thread Cert.KernelIdeal.nD Cert.KernelIdeal.τ).loc Cert.KernelIdeal.main_v6))) = (fun _ => 1#1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_5)) (v6 : (c : Dev Cert.Kernel3Ideal.nD) → Buf (Elt Ideal) ((c.tc : Thread Cert.Kernel3Ideal.nD Cert.Kernel3Ideal.τ).loc Cert.Kernel3Ideal.main_v4_6)) (v7 : (c : Dev Cert.Kernel3Ideal.nD) → Buf (Elt Ideal) ((c.tc : Thread Cert.Kernel3Ideal.nD Cert.Kernel3Ideal.τ).loc Cert.Kernel3Ideal.main_v4_7)) (v8 : (c : Dev Cert.Kernel3Ideal.nD) → Buf (Elt Ideal) ((c.tc : Thread Cert.Kernel3Ideal.nD Cert.Kernel3Ideal.τ).loc Cert.Kernel3Ideal.main_v4_8)) (v9 : (c : Dev Cert.Kernel3Ideal.nD) → Buf (Elt Ideal) ((c.tc : Thread Cert.Kernel3Ideal.nD Cert.Kernel3Ideal.τ).loc Cert.Kernel3Ideal.main_v4_9)) (v10 : (c : Dev Cert.Kernel3Ideal.nD) → Buf (Elt Ideal) ((c.tc : Thread Cert.Kernel3Ideal.nD Cert.Kernel3Ideal.τ).loc Cert.Kernel3Ideal.main_v4_10)) (v11 : (c : Dev Cert.Kernel3Ideal.nD) → Buf (Elt Ideal) ((c.tc : Thread Cert.Kernel3Ideal.nD Cert.Kernel3Ideal.τ).loc Cert.Kernel3Ideal.main_v4_11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_5) = v5 c
          ∧ r.2.mem ((c.tc : Thread Cert.Kernel3Ideal.nD Cert.Kernel3Ideal.τ).loc Cert.Kernel3Ideal.main_v4_6) = v6 c
          ∧ r.2.mem ((c.tc : Thread Cert.Kernel3Ideal.nD Cert.Kernel3Ideal.τ).loc Cert.Kernel3Ideal.main_v4_7) = v7 c
          ∧ r.2.mem ((c.tc : Thread Cert.Kernel3Ideal.nD Cert.Kernel3Ideal.τ).loc Cert.Kernel3Ideal.main_v4_8) = v8 c
          ∧ r.2.mem ((c.tc : Thread Cert.Kernel3Ideal.nD Cert.Kernel3Ideal.τ).loc Cert.Kernel3Ideal.main_v4_9) = v9 c
          ∧ r.2.mem ((c.tc : Thread Cert.Kernel3Ideal.nD Cert.Kernel3Ideal.τ).loc Cert.Kernel3Ideal.main_v4_10) = v10 c
          ∧ r.2.mem ((c.tc : Thread Cert.Kernel3Ideal.nD Cert.Kernel3Ideal.τ).loc Cert.Kernel3Ideal.main_v4_11) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v107) = v0 c
          ∧ r.2.mem ((c.tc : Thread Cert.Reference3Ideal.nD Cert.Reference3Ideal.τ).loc Cert.Reference3Ideal.main_v109) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_v113) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v121) = v5 c
          ∧ r.2.mem ((c.tc : Thread Cert.Reference3Ideal.nD Cert.Reference3Ideal.τ).loc Cert.Reference3Ideal.main_v128) = v6 c
          ∧ r.2.mem ((c.tc : Thread Cert.Reference3Ideal.nD Cert.Reference3Ideal.τ).loc Cert.Reference3Ideal.main_v130) = v7 c
          ∧ r.2.mem ((c.tc : Thread Cert.Reference3Ideal.nD Cert.Reference3Ideal.τ).loc Cert.Reference3Ideal.main_v132) = v8 c
          ∧ r.2.mem ((c.tc : Thread Cert.Reference3Ideal.nD Cert.Reference3Ideal.τ).loc Cert.Reference3Ideal.main_v134) = v9 c
          ∧ r.2.mem ((c.tc : Thread Cert.Reference3Ideal.nD Cert.Reference3Ideal.τ).loc Cert.Reference3Ideal.main_v136) = v10 c
          ∧ r.2.mem ((c.tc : Thread Cert.Reference3Ideal.nD Cert.Reference3Ideal.τ).loc Cert.Reference3Ideal.main_v138) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attention_gate_closed : Cert.Pre_attention_gate_closed.Facts) (hPost_is_conv_branch_where_closed : Cert.Post_is_conv_branch_where_closed.Facts) (hPost_is_conv_branch : Cert.Post_is_conv_branch.Facts),
    quiescent_Kernel (hKernel := hKernel)
    ∧ quiescent_KernelIdeal (hKernelIdeal := hKernelIdeal)
    ∧ quiescent_KernelIdeal_pre_attention_gate_closed (hKernelIdeal := hKernelIdeal) (hPre_attention_gate_closed := hPre_attention_gate_closed)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ holds_KernelIdeal_is_conv_branch_where_closed (hKernelIdeal := hKernelIdeal) (hPost_is_conv_branch_where_closed := hPost_is_conv_branch_where_closed)
    ∧ holds_KernelIdeal_is_conv_branch_pre_attention_gate_closed (hKernelIdeal := hKernelIdeal) (hPre_attention_gate_closed := hPre_attention_gate_closed) (hPost_is_conv_branch := hPost_is_conv_branch)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Post_is_conv_branch.lean ====
abbrev S16384x512 : Shape := ⟨2, ![16384, 512]⟩
abbrev S128x512 : Shape := ⟨2, ![128, 512]⟩
abbrev S16384x1024 : Shape := ⟨2, ![16384, 1024]⟩
abbrev S2x8192x1024 : Shape := ⟨3, ![2, 8192, 1024]⟩
abbrev S1x8x15x31 : Shape := ⟨4, ![1, 8, 15, 31]⟩
abbrev S512x1024 : Shape := ⟨2, ![512, 1024]⟩
abbrev S1024x1024 : Shape := ⟨2, ![1024, 1024]⟩
abbrev S2x8x8x512 : Shape := ⟨4, ![2, 8, 8, 512]⟩
abbrev S2x7x1x512 : Shape := ⟨4, ![2, 7, 1, 512]⟩
abbrev S2x7x512 : Shape := ⟨3, ![2, 7, 512]⟩
abbrev S_ : Shape := ⟨0, ![]⟩
abbrev S2x8x512 : Shape := ⟨3, ![2, 8, 512]⟩
abbrev S1024 : Shape := ⟨1, ![1024]⟩
abbrev S1x1x1024x1 : Shape := ⟨4, ![1, 1, 1024, 1]⟩
abbrev S2x8x1024x512 : Shape := ⟨4, ![2, 8, 1024, 512]⟩
abbrev S2x8x1x512 : Shape := ⟨4, ![2, 8, 1, 512]⟩
abbrev S2x8192x512 : Shape := ⟨3, ![2, 8192, 512]⟩

class Facts : Prop where
  bitsLt_bf16_f32 : FTy.bits .bf16 < FTy.bits .f32
  shapeCasts_S16384x1024_S2x8192x1024 : S16384x1024.ShapeCasts S2x8192x1024
  shapeCasts_S128x512_S2x8x8x512 : S128x512.ShapeCasts S2x8x8x512
  slices_S2x8x8x512_S2x7x1x512_0_1_2_0 : S2x8x8x512.Slices ![0, 1, 2, 0] S2x7x1x512
  shapeCasts_S2x7x1x512_S2x7x512 : S2x7x1x512.ShapeCasts S2x7x512
  slices_S2x8x8x512_S2x7x1x512_0_0_1_0 : S2x8x8x512.Slices ![0, 0, 1, 0] S2x7x1x512
  pads_S2x7x512_S2x8x512_000_100_000 : S2x7x512.Pads (![0, 1, 0] : Fin 3 → Nat) ![0, 0, 0] ![0, 0, 0] S2x8x512
  h_S_ : 0 < S_.numel
  slices_S2x8x8x512_S2x7x1x512_0_0_3_0 : S2x8x8x512.Slices ![0, 0, 3, 0] S2x7x1x512
  slices_S2x8x8x512_S2x7x1x512_0_1_0_0 : S2x8x8x512.Slices ![0, 1, 0, 0] S2x7x1x512
  pads_S2x7x512_S2x8x512_000_010_000 : S2x7x512.Pads (![0, 0, 0] : Fin 3 → Nat) ![0, 1, 0] ![0, 0, 0] S2x8x512
  bcast_S1024_S1x1x1024x1_2 : S1024.BroadcastsInDim S1x1x1024x1 (![2] : Fin 1 → Fin S1x1x1024x1.rank)
  shapeCasts_S16384x512_S2x8x1024x512 : S16384x512.ShapeCasts S2x8x1024x512
  bcast_S_S1x1x1024x1 : S_.BroadcastsInDim S1x1x1024x1 (![] : Fin 0 → Fin S1x1x1024x1.rank)
  bcast_S2x8x512_S2x8x1x512_0_1_3 : S2x8x512.BroadcastsInDim S2x8x1x512 (![0, 1, 3] : Fin 3 → Fin S2x8x1x512.rank)
  bcast_S1x1x1024x1_S2x8x1024x512_0_1_2_3 : S1x1x1024x1.BroadcastsInDim S2x8x1024x512 (![0, 1, 2, 3] : Fin 4 → Fin S2x8x1024x512.rank)
  bcast_S2x8x1x512_S2x8x1024x512_0_1_2_3 : S2x8x1x512.BroadcastsInDim S2x8x1024x512 (![0, 1, 2, 3] : Fin 4 → Fin S2x8x1024x512.rank)
  bcast_S_S2x8x1024x512 : S_.BroadcastsInDim S2x8x1024x512 (![] : Fin 0 → Fin S2x8x1024x512.rank)
  shapeCasts_S2x8x1024x512_S2x8192x512 : S2x8x1024x512.ShapeCasts S2x8192x512
  dot_S2x8192x512_S512x1024_S2x8192x1024_2_0_01_1_n_n_wf : DotDims.WF S2x8192x512 S512x1024 S2x8192x1024 [2] [0] [0, 1] [1] [] []
  dot_S2x8192x1024_S1024x1024_S2x8192x1024_2_0_01_1_n_n_wf : DotDims.WF S2x8192x1024 S1024x1024 S2x8192x1024 [2] [0] [0, 1] [1] [] []

variable [Facts]

def dot_S2x8192x512_S512x1024_S2x8192x1024_2_0_01_1_n_n : DotDims S2x8192x512 S512x1024 S2x8192x1024 where
  lhsContracting := [2]
  rhsContracting := [0]
  lhsNonContracting := [0, 1]
  rhsNonContracting := [1]
  lhsBatch := []
  rhsBatch := []
  wf := dot_S2x8192x512_S512x1024_S2x8192x1024_2_0_01_1_n_n_wf
def dot_S2x8192x1024_S1024x1024_S2x8192x1024_2_0_01_1_n_n : DotDims S2x8192x1024 S1024x1024 S2x8192x1024 where
  lhsContracting := [2]
  rhsContracting := [0]
  lhsNonContracting := [0, 1]
  rhsNonContracting := [1]
  lhsBatch := []
  rhsBatch := []
  wf := dot_S2x8192x1024_S1024x1024_S2x8192x1024_2_0_01_1_n_n_wf
def fn_pad {F : FTy → Type} [FloatOps F] (arg0 : FVec F S2x7x512 .f32) (arg1 : IVec S_ 32) : FVec F S2x8x512 .f32 :=
  let v0 : FVec F S_ .f32 := sitofp .f32 arg1
  let v1 : FVec F S2x8x512 .f32 := (fun x v => pad S2x8x512 ![0, 1, 0] ![0, 0, 0] ![0, 0, 0] x v pads_S2x7x512_S2x8x512_000_100_000 h_S_) arg0 v0
  v1

def fn_pad_0 {F : FTy → Type} [FloatOps F] (arg0 : FVec F S2x7x512 .f32) (arg1 : IVec S_ 32) : FVec F S2x8x512 .f32 :=
  let v0 : FVec F S_ .f32 := sitofp .f32 arg1
  let v1 : FVec F S2x8x512 .f32 := (fun x v => pad S2x8x512 ![0, 0, 0] ![0, 1, 0] ![0, 0, 0] x v pads_S2x7x512_S2x8x512_000_010_000 h_S_) arg0 v0
  v1

def fn_where {F : FTy → Type} [FloatOps F] (arg0 : IVec S1x1x1024x1 1) (arg1 : FVec F S2x8x1x512 .f32) (arg2 : FVec F S_ .f32) : FVec F S2x8x1024x512 .f32 :=
  let v0 : FVec F S_ .f32 := id arg2
  let v1 : IVec S2x8x1024x512 1 := broadcastInDim S2x8x1024x512 ![0, 1, 2, 3] bcast_S1x1x1024x1_S2x8x1024x512_0_1_2_3 arg0
  let v2 : FVec F S2x8x1024x512 .f32 := broadcastInDim S2x8x1024x512 ![0, 1, 2, 3] bcast_S2x8x1x512_S2x8x1024x512_0_1_2_3 arg1
  let v3 : FVec F S2x8x1024x512 .f32 := broadcastInDim S2x8x1024x512 ![] bcast_S_S2x8x1024x512 v0
  let v4 : FVec F S2x8x1024x512 .f32 := select v1 v2 v3
  v4

def fn_part1 {F : FTy → Type} [FloatOps F] (main_arg7 : FVec F S2x8192x1024 .f32) (main_arg10 : FVec F S512x1024 .bf16) (main_arg11 : FVec F S1024x1024 .bf16) (main_arg12 : FVec F S2x8192x1024 .f32) (main_v1 : FVec F S2x8192x1024 .f32) (main_v8 : FVec F S2x8x512 .f32) (main_v14 : FVec F S2x8x512 .f32) (main_v16 : IVec S1x1x1024x1 32) (main_v18 : FVec F S2x8x1024x512 .f32) (main_v20 : IVec S1x1x1024x1 1) : IVec S2x8192x1024 1 :=
  let main_v21 : FVec F S2x8x1x512 .f32 := broadcastInDim S2x8x1x512 ![0, 1, 3] bcast_S2x8x512_S2x8x1x512_0_1_3 main_v8
  let main_cst : FVec F S_ .f32 := constant S_ .f32 0x00000000#32
  let main_v22 : FVec F S2x8x1024x512 .f32 := fn_where (F := F) main_v20 main_v21 main_cst
  let main_v23 : FVec F S2x8x1024x512 .f32 := addf main_v18 main_v22
  let main_c_2 : IVec S_ 32 := constantI S_ 32 1023#32
  let main_v24 : IVec S1x1x1024x1 32 := broadcastInDim S1x1x1024x1 ![] bcast_S_S1x1x1024x1 main_c_2
  let main_v25 : IVec S1x1x1024x1 1 := cmpi .eq main_v16 main_v24
  let main_v26 : FVec F S2x8x1x512 .f32 := broadcastInDim S2x8x1x512 ![0, 1, 3] bcast_S2x8x512_S2x8x1x512_0_1_3 main_v14
  let main_cst_3 : FVec F S_ .f32 := constant S_ .f32 0x00000000#32
  let main_v27 : FVec F S2x8x1024x512 .f32 := fn_where (F := F) main_v25 main_v26 main_cst_3
  let main_v28 : FVec F S2x8x1024x512 .f32 := addf main_v23 main_v27
  let main_v29 : FVec F S2x8192x512 .f32 := shapeCast S2x8192x512 main_v28 shapeCasts_S2x8x1024x512_S2x8192x512
  let main_v30 : FVec F S512x1024 .f32 := (extf .f32 · bitsLt_bf16_f32) main_arg10
  let main_v31 : FVec F S2x8192x1024 .f32 := (fun l r => Host.dotGeneral dot_S2x8192x512_S512x1024_S2x8192x1024_2_0_01_1_n_n none l r) main_v29 main_v30
  let main_v32 : FVec F S2x8192x1024 .f32 := mulf main_v1 main_v31
  let main_v33 : FVec F S1024x1024 .f32 := (extf .f32 · bitsLt_bf16_f32) main_arg11
  let main_v34 : FVec F S2x8192x1024 .f32 := (fun l r => Host.dotGeneral dot_S2x8192x1024_S1024x1024_S2x8192x1024_2_0_01_1_n_n none l r) main_v32 main_v33
  let main_v35 : FVec F S2x8192x1024 .f32 := addf main_arg7 main_v34
  let main_v36 : IVec S2x8192x1024 1 := cmpf .oeq main_arg12 main_v35
  main_v36

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S128x512 .f32) (main_arg5 : FVec F S16384x1024 .bf16) (main_arg6 : FVec F S16384x1024 .bf16) (main_arg7 : FVec F S2x8192x1024 .f32) (main_arg8 : FVec F S1x8x15x31 .f32) (main_arg9 : FVec F S512x1024 .bf16) (main_arg10 : FVec F S512x1024 .bf16) (main_arg11 : FVec F S1024x1024 .bf16) (main_arg12 : FVec F S2x8192x1024 .f32) : IVec S2x8192x1024 1 :=
  let main_v0 : FVec F S16384x1024 .f32 := (extf .f32 · bitsLt_bf16_f32) main_arg6
  let main_v1 : FVec F S2x8192x1024 .f32 := shapeCast S2x8192x1024 main_v0 shapeCasts_S16384x1024_S2x8192x1024
  let main_v2 : FVec F S2x8x8x512 .f32 := shapeCast S2x8x8x512 main_arg4 shapeCasts_S128x512_S2x8x8x512
  let main_v3 : FVec F S2x7x1x512 .f32 := (extractStridedSlice S2x7x1x512 ![0, 1, 2, 0] · slices_S2x8x8x512_S2x7x1x512_0_1_2_0) main_v2
  let main_v4 : FVec F S2x7x512 .f32 := shapeCast S2x7x512 main_v3 shapeCasts_S2x7x1x512_S2x7x512
  let main_v5 : FVec F S2x7x1x512 .f32 := (extractStridedSlice S2x7x1x512 ![0, 0, 1, 0] · slices_S2x8x8x512_S2x7x1x512_0_0_1_0) main_v2
  let main_v6 : FVec F S2x7x512 .f32 := shapeCast S2x7x512 main_v5 shapeCasts_S2x7x1x512_S2x7x512
  let main_v7 : FVec F S2x7x512 .f32 := mulf main_v4 main_v6
  let main_c : IVec S_ 32 := constantI S_ 32 0#32
  let main_v8 : FVec F S2x8x512 .f32 := fn_pad (F := F) main_v7 main_c
  let main_v9 : FVec F S2x7x1x512 .f32 := (extractStridedSlice S2x7x1x512 ![0, 0, 3, 0] · slices_S2x8x8x512_S2x7x1x512_0_0_3_0) main_v2
  let main_v10 : FVec F S2x7x512 .f32 := shapeCast S2x7x512 main_v9 shapeCasts_S2x7x1x512_S2x7x512
  let main_v11 : FVec F S2x7x1x512 .f32 := (extractStridedSlice S2x7x1x512 ![0, 1, 0, 0] · slices_S2x8x8x512_S2x7x1x512_0_1_0_0) main_v2
  let main_v12 : FVec F S2x7x512 .f32 := shapeCast S2x7x512 main_v11 shapeCasts_S2x7x1x512_S2x7x512
  let main_v13 : FVec F S2x7x512 .f32 := mulf main_v10 main_v12
  let main_c_0 : IVec S_ 32 := constantI S_ 32 0#32
  let main_v14 : FVec F S2x8x512 .f32 := fn_pad_0 (F := F) main_v13 main_c_0
  let main_v15 : IVec S1024 32 := iotaInDim S1024 32 0
  let main_v16 : IVec S1x1x1024x1 32 := broadcastInDim S1x1x1024x1 ![2] bcast_S1024_S1x1x1024x1_2 main_v15
  let main_v17 : FVec F S16384x512 .f32 := (extf .f32 · bitsLt_bf16_f32) main_arg3
  let main_v18 : FVec F S2x8x1024x512 .f32 := shapeCast S2x8x1024x512 main_v17 shapeCasts_S16384x512_S2x8x1024x512
  let main_c_1 : IVec S_ 32 := constantI S_ 32 0#32
  let main_v19 : IVec S1x1x1024x1 32 := broadcastInDim S1x1x1024x1 ![] bcast_S_S1x1x1024x1 main_c_1
  let main_v20 : IVec S1x1x1024x1 1 := cmpi .eq main_v16 main_v19
  fn_part1 (F := F) main_arg7 main_arg10 main_arg11 main_arg12 main_v1 main_v8 main_v14 main_v16 main_v18 main_v20
-- ==== Post_is_conv_branch_where_closed.lean ====
abbrev S16384x512 : Shape := ⟨2, ![16384, 512]⟩
abbrev S128x512 : Shape := ⟨2, ![128, 512]⟩
abbrev S16384x1024 : Shape := ⟨2, ![16384, 1024]⟩
abbrev S2x8192x1024 : Shape := ⟨3, ![2, 8192, 1024]⟩
abbrev S1x8x15x31 : Shape := ⟨4, ![1, 8, 15, 31]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S2x8192x1 : Shape := ⟨3, ![2, 8192, 1]⟩
abbrev S2x8x8x512 : Shape := ⟨4, ![2, 8, 8, 512]⟩
abbrev S2x7x1x512 : Shape := ⟨4, ![2, 7, 1, 512]⟩
abbrev S2x7x512 : Shape := ⟨3, ![2, 7, 512]⟩
abbrev S2x8x512 : Shape := ⟨3, ![2, 8, 512]⟩
abbrev S1024 : Shape := ⟨1, ![1024]⟩
abbrev S1x1x1024x1 : Shape := ⟨4, ![1, 1, 1024, 1]⟩
abbrev S2x8x1024x512 : Shape := ⟨4, ![2, 8, 1024, 512]⟩
abbrev S2x8x1x512 : Shape := ⟨4, ![2, 8, 1, 512]⟩
abbrev S2x8192x512 : Shape := ⟨3, ![2, 8192, 512]⟩

class Facts : Prop where
  bcast_S_S16384x1024 : S_.BroadcastsInDim S16384x1024 (![] : Fin 0 → Fin S16384x1024.rank)
  reducesTo_S16384x1024_S16384_d1 : S16384x1024.ReducesTo [1] S16384
  h_S_ : 0 < S_.numel
  shapeCasts_S16384_S2x8192x1 : S16384.ShapeCasts S2x8192x1
  bitsLt_bf16_f32 : FTy.bits .bf16 < FTy.bits .f32
  shapeCasts_S16384x1024_S2x8192x1024 : S16384x1024.ShapeCasts S2x8192x1024
  shapeCasts_S128x512_S2x8x8x512 : S128x512.ShapeCasts S2x8x8x512
  slices_S2x8x8x512_S2x7x1x512_0_1_2_0 : S2x8x8x512.Slices ![0, 1, 2, 0] S2x7x1x512
  shapeCasts_S2x7x1x512_S2x7x512 : S2x7x1x512.ShapeCasts S2x7x512
  slices_S2x8x8x512_S2x7x1x512_0_0_1_0 : S2x8x8x512.Slices ![0, 0, 1, 0] S2x7x1x512
  pads_S2x7x512_S2x8x512_000_100_000 : S2x7x512.Pads (![0, 1, 0] : Fin 3 → Nat) ![0, 0, 0] ![0, 0, 0] S2x8x512
  slices_S2x8x8x512_S2x7x1x512_0_0_3_0 : S2x8x8x512.Slices ![0, 0, 3, 0] S2x7x1x512
  slices_S2x8x8x512_S2x7x1x512_0_1_0_0 : S2x8x8x512.Slices ![0, 1, 0, 0] S2x7x1x512
  pads_S2x7x512_S2x8x512_000_010_000 : S2x7x512.Pads (![0, 0, 0] : Fin 3 → Nat) ![0, 1, 0] ![0, 0, 0] S2x8x512
  bcast_S1024_S1x1x1024x1_2 : S1024.BroadcastsInDim S1x1x1024x1 (![2] : Fin 1 → Fin S1x1x1024x1.rank)
  shapeCasts_S16384x512_S2x8x1024x512 : S16384x512.ShapeCasts S2x8x1024x512
  bcast_S_S1x1x1024x1 : S_.BroadcastsInDim S1x1x1024x1 (![] : Fin 0 → Fin S1x1x1024x1.rank)
  bcast_S2x8x512_S2x8x1x512_0_1_3 : S2x8x512.BroadcastsInDim S2x8x1x512 (![0, 1, 3] : Fin 3 → Fin S2x8x1x512.rank)
  bcast_S1x1x1024x1_S2x8x1024x512_0_1_2_3 : S1x1x1024x1.BroadcastsInDim S2x8x1024x512 (![0, 1, 2, 3] : Fin 4 → Fin S2x8x1024x512.rank)
  bcast_S2x8x1x512_S2x8x1024x512_0_1_2_3 : S2x8x1x512.BroadcastsInDim S2x8x1024x512 (![0, 1, 2, 3] : Fin 4 → Fin S2x8x1024x512.rank)
  bcast_S_S2x8x1024x512 : S_.BroadcastsInDim S2x8x1024x512 (![] : Fin 0 → Fin S2x8x1024x512.rank)
  shapeCasts_S2x8x1024x512_S2x8192x512 : S2x8x1024x512.ShapeCasts S2x8192x512
  bcast_S2x8192x1_S2x8192x1024_0_1_2 : S2x8192x1.BroadcastsInDim S2x8192x1024 (![0, 1, 2] : Fin 3 → Fin S2x8192x1024.rank)
  dot_S2x8192x512_S512x1024_S2x8192x1024_2_0_01_1_n_n_wf : DotDims.WF S2x8192x512 S512x1024 S2x8192x1024 [2] [0] [0, 1] [1] [] []
  dot_S2x8192x1024_S1024x1024_S2x8192x1024_2_0_01_1_n_n_wf : DotDims.WF S2x8192x1024 S1024x1024 S2x8192x1024 [2] [0] [0, 1] [1] [] []

variable [Facts]

def dot_S2x8192x512_S512x1024_S2x8192x1024_2_0_01_1_n_n : DotDims S2x8192x512 S512x1024 S2x8192x1024 where
  lhsContracting := [2]
  rhsContracting := [0]
  lhsNonContracting := [0, 1]
  rhsNonContracting := [1]
  lhsBatch := []
  rhsBatch := []
  wf := dot_S2x8192x512_S512x1024_S2x8192x1024_2_0_01_1_n_n_wf
def dot_S2x8192x1024_S1024x1024_S2x8192x1024_2_0_01_1_n_n : DotDims S2x8192x1024 S1024x1024 S2x8192x1024 where
  lhsContracting := [2]
  rhsContracting := [0]
  lhsNonContracting := [0, 1]
  rhsNonContracting := [1]
  lhsBatch := []
  rhsBatch := []
  wf := dot_S2x8192x1024_S1024x1024_S2x8192x1024_2_0_01_1_n_n_wf
def fn_pad {F : FTy → Type} [FloatOps F] (arg0 : FVec F S2x7x512 .f32) (arg1 : IVec S_ 32) : FVec F S2x8x512 .f32 :=
  let v0 : FVec F S_ .f32 := sitofp .f32 arg1
  let v1 : FVec F S2x8x512 .f32 := (fun x v => pad S2x8x512 ![0, 1, 0] ![0, 0, 0] ![0, 0, 0] x v pads_S2x7x512_S2x8x512_000_100_000 h_S_) arg0 v0
  v1

def fn_pad_0 {F : FTy → Type} [FloatOps F] (arg0 : FVec F S2x7x512 .f32) (arg1 : IVec S_ 32) : FVec F S2x8x512 .f32 :=
  let v0 : FVec F S_ .f32 := sitofp .f32 arg1
  let v1 : FVec F S2x8x512 .f32 := (fun x v => pad S2x8x512 ![0, 0, 0] ![0, 1, 0] ![0, 0, 0] x v pads_S2x7x512_S2x8x512_000_010_000 h_S_) arg0 v0
  v1

def fn_where {F : FTy → Type} [FloatOps F] (arg0 : IVec S1x1x1024x1 1) (arg1 : FVec F S2x8x1x512 .f32) (arg2 : FVec F S_ .f32) : FVec F S2x8x1024x512 .f32 :=
  let v0 : FVec F S_ .f32 := id arg2
  let v1 : IVec S2x8x1024x512 1 := broadcastInDim S2x8x1024x512 ![0, 1, 2, 3] bcast_S1x1x1024x1_S2x8x1024x512_0_1_2_3 arg0
  let v2 : FVec F S2x8x1024x512 .f32 := broadcastInDim S2x8x1024x512 ![0, 1, 2, 3] bcast_S2x8x1x512_S2x8x1024x512_0_1_2_3 arg1
  let v3 : FVec F S2x8x1024x512 .f32 := broadcastInDim S2x8x1024x512 ![] bcast_S_S2x8x1024x512 v0
  let v4 : FVec F S2x8x1024x512 .f32 := select v1 v2 v3
  v4

def fn_part2 {F : FTy → Type} [FloatOps F] (main_arg7 : FVec F S2x8192x1024 .f32) (main_arg12 : FVec F S2x8192x1024 .f32) (main_v6 : IVec S2x8192x1 1) (main_v39 : FVec F S2x8192x1024 .f32) : IVec S2x8192x1024 1 :=
  let main_v40 : FVec F S2x8192x1024 .f32 := addf main_arg7 main_v39
  let main_v41 : IVec S2x8192x1024 1 := cmpf .oeq main_arg12 main_v40
  let main_v42 : IVec S2x8192x1024 1 := broadcastInDim S2x8192x1024 ![0, 1, 2] bcast_S2x8192x1_S2x8192x1024_0_1_2 main_v6
  let main_v43 : IVec S2x8192x1024 1 := ori main_v42 main_v41
  main_v43

def fn_part1 {F : FTy → Type} [FloatOps F] (main_arg3 : FVec F S16384x512 .bf16) (main_arg7 : FVec F S2x8192x1024 .f32) (main_arg10 : FVec F S512x1024 .bf16) (main_arg11 : FVec F S1024x1024 .bf16) (main_arg12 : FVec F S2x8192x1024 .f32) (main_v5 : FVec F S2x8192x1024 .f32) (main_v6 : IVec S2x8192x1 1) (main_v13 : FVec F S2x8x512 .f32) (main_v19 : FVec F S2x8x512 .f32) : IVec S2x8192x1024 1 :=
  let main_v20 : IVec S1024 32 := iotaInDim S1024 32 0
  let main_v21 : IVec S1x1x1024x1 32 := broadcastInDim S1x1x1024x1 ![2] bcast_S1024_S1x1x1024x1_2 main_v20
  let main_v22 : FVec F S16384x512 .f32 := (extf .f32 · bitsLt_bf16_f32) main_arg3
  let main_v23 : FVec F S2x8x1024x512 .f32 := shapeCast S2x8x1024x512 main_v22 shapeCasts_S16384x512_S2x8x1024x512
  let main_c_2 : IVec S_ 32 := constantI S_ 32 0#32
  let main_v24 : IVec S1x1x1024x1 32 := broadcastInDim S1x1x1024x1 ![] bcast_S_S1x1x1024x1 main_c_2
  let main_v25 : IVec S1x1x1024x1 1 := cmpi .eq main_v21 main_v24
  let main_v26 : FVec F S2x8x1x512 .f32 := broadcastInDim S2x8x1x512 ![0, 1, 3] bcast_S2x8x512_S2x8x1x512_0_1_3 main_v13
  let main_cst_3 : FVec F S_ .f32 := constant S_ .f32 0x00000000#32
  let main_v27 : FVec F S2x8x1024x512 .f32 := fn_where (F := F) main_v25 main_v26 main_cst_3
  let main_v28 : FVec F S2x8x1024x512 .f32 := addf main_v23 main_v27
  let main_c_4 : IVec S_ 32 := constantI S_ 32 1023#32
  let main_v29 : IVec S1x1x1024x1 32 := broadcastInDim S1x1x1024x1 ![] bcast_S_S1x1x1024x1 main_c_4
  let main_v30 : IVec S1x1x1024x1 1 := cmpi .eq main_v21 main_v29
  let main_v31 : FVec F S2x8x1x512 .f32 := broadcastInDim S2x8x1x512 ![0, 1, 3] bcast_S2x8x512_S2x8x1x512_0_1_3 main_v19
  let main_cst_5 : FVec F S_ .f32 := constant S_ .f32 0x00000000#32
  let main_v32 : FVec F S2x8x1024x512 .f32 := fn_where (F := F) main_v30 main_v31 main_cst_5
  let main_v33 : FVec F S2x8x1024x512 .f32 := addf main_v28 main_v32
  let main_v34 : FVec F S2x8192x512 .f32 := shapeCast S2x8192x512 main_v33 shapeCasts_S2x8x1024x512_S2x8192x512
  let main_v35 : FVec F S512x1024 .f32 := (extf .f32 · bitsLt_bf16_f32) main_arg10
  let main_v36 : FVec F S2x8192x1024 .f32 := (fun l r => Host.dotGeneral dot_S2x8192x512_S512x1024_S2x8192x1024_2_0_01_1_n_n none l r) main_v34 main_v35
  let main_v37 : FVec F S2x8192x1024 .f32 := mulf main_v5 main_v36
  let main_v38 : FVec F S1024x1024 .f32 := (extf .f32 · bitsLt_bf16_f32) main_arg11
  let main_v39 : FVec F S2x8192x1024 .f32 := (fun l r => Host.dotGeneral dot_S2x8192x1024_S1024x1024_S2x8192x1024_2_0_01_1_n_n none l r) main_v37 main_v38
  fn_part2 (F := F) main_arg7 main_arg12 main_v6 main_v39

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S128x512 .f32) (main_arg5 : FVec F S16384x1024 .bf16) (main_arg6 : FVec F S16384x1024 .bf16) (main_arg7 : FVec F S2x8192x1024 .f32) (main_arg8 : FVec F S1x8x15x31 .f32) (main_arg9 : FVec F S512x1024 .bf16) (main_arg10 : FVec F S512x1024 .bf16) (main_arg11 : FVec F S1024x1024 .bf16) (main_arg12 : FVec F S2x8192x1024 .f32) : IVec S2x8192x1024 1 :=
  let main_cst : FVec F S_ .bf16 := constant S_ .bf16 0x0000#16
  let main_v0 : FVec F S16384x1024 .bf16 := broadcastInDim S16384x1024 ![] bcast_S_S16384x1024 main_cst
  let main_v1 : IVec S16384x1024 1 := cmpf .oeq main_arg5 main_v0
  let main_c : IVec S_ 1 := constantI S_ 1 1#1
  let main_v2 : IVec S16384 1 := (fun x v => Host.reduce IntOp.andi x v reducesTo_S16384x1024_S16384_d1 h_S_) main_v1 main_c
  let main_v3 : IVec S2x8192x1 1 := shapeCast S2x8192x1 main_v2 shapeCasts_S16384_S2x8192x1
  let main_v4 : FVec F S16384x1024 .f32 := (extf .f32 · bitsLt_bf16_f32) main_arg6
  let main_v5 : FVec F S2x8192x1024 .f32 := shapeCast S2x8192x1024 main_v4 shapeCasts_S16384x1024_S2x8192x1024
  let main_v6 : IVec S2x8192x1 1 := noti main_v3
  let main_v7 : FVec F S2x8x8x512 .f32 := shapeCast S2x8x8x512 main_arg4 shapeCasts_S128x512_S2x8x8x512
  let main_v8 : FVec F S2x7x1x512 .f32 := (extractStridedSlice S2x7x1x512 ![0, 1, 2, 0] · slices_S2x8x8x512_S2x7x1x512_0_1_2_0) main_v7
  let main_v9 : FVec F S2x7x512 .f32 := shapeCast S2x7x512 main_v8 shapeCasts_S2x7x1x512_S2x7x512
  let main_v10 : FVec F S2x7x1x512 .f32 := (extractStridedSlice S2x7x1x512 ![0, 0, 1, 0] · slices_S2x8x8x512_S2x7x1x512_0_0_1_0) main_v7
  let main_v11 : FVec F S2x7x512 .f32 := shapeCast S2x7x512 main_v10 shapeCasts_S2x7x1x512_S2x7x512
  let main_v12 : FVec F S2x7x512 .f32 := mulf main_v9 main_v11
  let main_c_0 : IVec S_ 32 := constantI S_ 32 0#32
  let main_v13 : FVec F S2x8x512 .f32 := fn_pad (F := F) main_v12 main_c_0
  let main_v14 : FVec F S2x7x1x512 .f32 := (extractStridedSlice S2x7x1x512 ![0, 0, 3, 0] · slices_S2x8x8x512_S2x7x1x512_0_0_3_0) main_v7
  let main_v15 : FVec F S2x7x512 .f32 := shapeCast S2x7x512 main_v14 shapeCasts_S2x7x1x512_S2x7x512
  let main_v16 : FVec F S2x7x1x512 .f32 := (extractStridedSlice S2x7x1x512 ![0, 1, 0, 0] · slices_S2x8x8x512_S2x7x1x512_0_1_0_0) main_v7
  let main_v17 : FVec F S2x7x512 .f32 := shapeCast S2x7x512 main_v16 shapeCasts_S2x7x1x512_S2x7x512
  let main_v18 : FVec F S2x7x512 .f32 := mulf main_v15 main_v17
  let main_c_1 : IVec S_ 32 := constantI S_ 32 0#32
  let main_v19 : FVec F S2x8x512 .f32 := fn_pad_0 (F := F) main_v18 main_c_1
  fn_part1 (F := F) main_arg3 main_arg7 main_arg10 main_arg11 main_arg12 main_v5 main_v6 main_v13 main_v19
-- ==== Pre_attention_gate_closed.lean ====
abbrev S16384x512 : Shape := ⟨2, ![16384, 512]⟩
abbrev S128x512 : Shape := ⟨2, ![128, 512]⟩
abbrev S16384x1024 : Shape := ⟨2, ![16384, 1024]⟩
abbrev S2x8192x1024 : Shape := ⟨3, ![2, 8192, 1024]⟩
abbrev S1x8x15x31 : Shape := ⟨4, ![1, 8, 15, 31]⟩
abbrev S512x1024 : Shape := ⟨2, ![512, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S128x512 .f32) (main_arg5 : FVec F S16384x1024 .bf16) (main_arg6 : FVec F S16384x1024 .bf16) (main_arg7 : FVec F S2x8192x1024 .f32) (main_arg8 : FVec F S1x8x15x31 .f32) (main_arg9 : FVec F S512x1024 .bf16) (main_arg10 : FVec F S512x1024 .bf16) (main_arg11 : FVec F S1024x1024 .bf16) : IVec S16384x1024 1 :=
  let main_cst : FVec F S_ .bf16 := constant S_ .bf16 0x0000#16
  let main_v0 : FVec F S16384x1024 .bf16 := broadcastInDim S16384x1024 ![] bcast_S_S16384x1024 main_cst
  let main_v1 : IVec S16384x1024 1 := cmpf .oeq main_arg5 main_v0
  main_v1
-- ==== Kernel.lean ====
abbrev S16384x512 : Shape := ⟨2, ![16384, 512]⟩
abbrev S128x512 : Shape := ⟨2, ![128, 512]⟩
abbrev S16384x1024 : Shape := ⟨2, ![16384, 1024]⟩
abbrev S2x8192x1024 : Shape := ⟨3, ![2, 8192, 1024]⟩
abbrev S1x8x15x31 : Shape := ⟨4, ![1, 8, 15, 31]⟩
abbrev S512x1024 : Shape := ⟨2, ![512, 1024]⟩
abbrev S1024x1024 : Shape := ⟨2, ![1024, 1024]⟩
abbrev S2x8192x512 : Shape := ⟨3, ![2, 8192, 512]⟩
abbrev S1x1024x512 : Shape := ⟨3, ![1, 1024, 512]⟩
abbrev S1x1536x512 : Shape := ⟨3, ![1, 1536, 512]⟩
abbrev S8x512 : Shape := ⟨2, ![8, 512]⟩
abbrev S1x1024x1024 : Shape := ⟨3, ![1, 1024, 1024]⟩
abbrev S1024x512 : Shape := ⟨2, ![1024, 512]⟩
abbrev S4x14x128x128 : Shape := ⟨4, ![4, 14, 128, 128]⟩
abbrev S64x128 : Shape := ⟨2, ![64, 128]⟩
abbrev S1x128 : Shape := ⟨2, ![1, 128]⟩
abbrev S15x33 : Shape := ⟨2, ![15, 33]⟩
abbrev S1x1x15x31 : Shape := ⟨4, ![1, 1, 15, 31]⟩
abbrev S15x31 : Shape := ⟨2, ![15, 31]⟩
abbrev S15x64 : Shape := ⟨2, ![15, 64]⟩
abbrev S15x128 : Shape := ⟨2, ![15, 128]⟩
abbrev S1x1x64x128 : Shape := ⟨4, ![1, 1, 64, 128]⟩
abbrev S512x128 : Shape := ⟨2, ![512, 128]⟩
abbrev S1x512 : Shape := ⟨2, ![1, 512]⟩
abbrev S16x512 : Shape := ⟨2, ![16, 512]⟩
abbrev S1x16x512 : Shape := ⟨3, ![1, 16, 512]⟩
abbrev S1x64x128 : Shape := ⟨3, ![1, 64, 128]⟩
abbrev S128x128 : Shape := ⟨2, ![128, 128]⟩
abbrev S1x512x128 : Shape := ⟨3, ![1, 512, 128]⟩
abbrev S1x1x128x128 : Shape := ⟨4, ![1, 1, 128, 128]⟩
abbrev S128 : Shape := ⟨1, ![128]⟩
abbrev S128x1 : Shape := ⟨2, ![128, 1]⟩
abbrev S512x256 : Shape := ⟨2, ![512, 256]⟩
abbrev S128x256 : Shape := ⟨2, ![128, 256]⟩

abbrev nBuf : Space → Nat
  | .hbm => 19
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S128x512, .f32⟩
  | .hbm, ⟨5, _⟩ => ⟨S16384x1024, .bf16⟩
  | .hbm, ⟨6, _⟩ => ⟨S16384x1024, .bf16⟩
  | .hbm, ⟨7, _⟩ => ⟨S2x8192x1024, .f32⟩
  | .hbm, ⟨8, _⟩ => ⟨S1x8x15x31, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S2x8192x512, .bf16⟩
  | .hbm, ⟨13, _⟩ => ⟨S2x8192x512, .bf16⟩
  | .hbm, ⟨14, _⟩ => ⟨S2x8192x512, .bf16⟩
  | .hbm, ⟨15, _⟩ => ⟨S2x8192x512, .bf16⟩
  | .hbm, ⟨16, _⟩ => ⟨S2x8192x1024, .bf16⟩
  | .hbm, ⟨17, _⟩ => ⟨S2x8192x1024, .bf16⟩
  | .hbm, ⟨18, _⟩ => ⟨S2x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1536x512, .bf16⟩
  | .local _ .vmem, ⟨3, _⟩ => ⟨S1x1536x512, .bf16⟩
  | .local _ .vmem, ⟨4, _⟩ => ⟨S1x1536x512, .bf16⟩
  | .local _ .vmem, ⟨5, _⟩ => ⟨S1x1536x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .f32⟩
  | .local _ .vmem, ⟨19, _⟩ => ⟨S1x1024x1024, .f32⟩
  | .local _ .vmem, ⟨20, _⟩ => ⟨S1x8x15x31, .f32⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S1x1024x1024, .f32⟩
  | .local _ .vmem, ⟨25, _⟩ => ⟨S1x1024x1024, .f32⟩
  | .local _ .vmem, ⟨26, _⟩ => ⟨S1024x512, .bf16⟩
  | .local _ .vmem, ⟨27, _⟩ => ⟨S1024x512, .bf16⟩
  | .local _ .vmem, ⟨28, _⟩ => ⟨S4x14x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c120_i32 : BitVec 32 := 120#32
  let c0_i32_38 : BitVec 32 := 0#32
  let arg1 : BitVec 32 := BitVec.ofNat 32 (i 1).val
  let c16_i32_35 : BitVec 32 := 16#32
  let v78 : BitVec 32 := Scalar.muli arg1 c16_i32_35
  let c0_i32_36 : BitVec 32 := 0#32
  let v79 : BitVec 32 := Scalar.addi v78 c0_i32_36
  let c4_i32_37 : BitVec 32 := 4#32
  let v80 : BitVec 32 := Scalar.subi v79 c4_i32_37
  let v81 : BitVec 32 := Scalar.maxsi c0_i32_38 v80
  let v82 : BitVec 32 := Scalar.minsi c120_i32 v81
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v83 : BitVec 32 := Scalar.subi v82 v17
  let c64_i32_39 : BitVec 32 := 64#32
  let v84 : BitVec 32 := Scalar.muli v83 c64_i32_39
  v84
def k0_off1 (i : grid0.Coords) (c0_i32_36 : BitVec 32) : Fin 3 → Nat :=
  let c0_43 : Index := 0#32
  let c120_i32 : BitVec 32 := 120#32
  let c0_i32_38 : BitVec 32 := 0#32
  let arg1 : BitVec 32 := BitVec.ofNat 32 (i 1).val
  let c16_i32_35 : BitVec 32 := 16#32
  let v78 : BitVec 32 := Scalar.muli arg1 c16_i32_35
  let v79 : BitVec 32 := Scalar.addi v78 c0_i32_36
  let c4_i32_37 : BitVec 32 := 4#32
  let v80 : BitVec 32 := Scalar.subi v79 c4_i32_37
  let v81 : BitVec 32 := Scalar.maxsi c0_i32_38 v80
  let v82 : BitVec 32 := Scalar.minsi c120_i32 v81
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v83 : BitVec 32 := Scalar.subi v82 v17
  let c64_i32_39 : BitVec 32 := 64#32
  let v84 : BitVec 32 := Scalar.muli v83 c64_i32_39
  let v85 : BitVec 32 := v84
  let v92 : Index := Scalar.indexCast v85
  let c0_44 : Index := 0#32
  ![0, v92.toNat, 0]
def k0_off2 (i : grid0.Coords) (c0_i32_36 : BitVec 32) (c0_i32_47 : BitVec 32) : Fin 4 → Nat :=
  let c0_48 : Index := 0#32
  let c7_i32_46 : BitVec 32 := 7#32
  let arg1 : BitVec 32 := BitVec.ofNat 32 (i 1).val
  let c16_i32_35 : BitVec 32 := 16#32
  let v78 : BitVec 32 := Scalar.muli arg1 c16_i32_35
  let v79 : BitVec 32 := Scalar.addi v78 c0_i32_36
  let c120_i32 : BitVec 32 := 120#32
  let c0_i32_38 : BitVec 32 := 0#32
  let c4_i32_37 : BitVec 32 := 4#32
  let v80 : BitVec 32 := Scalar.subi v79 c4_i32_37
  let v81 : BitVec 32 := Scalar.maxsi c0_i32_38 v80
  let v82 : BitVec 32 := Scalar.minsi c120_i32 v81
  let v86 : BitVec 32 := Scalar.subi v79 v82
  let v96 : BitVec 32 := Scalar.subi c7_i32_46 v86
  let v97 : BitVec 32 := Scalar.addi v96 c0_i32_47
  let v98 : Index := Scalar.indexCast v97
  let c0_49 : Index := 0#32
  let c0_50 : Index := 0#32
  ![0, v98.toNat, 0, 0]
def k0_mult2 (i : grid0.Coords) : BitVec 32 :=
  let c120_i32_68 : BitVec 32 := 120#32
  let c0_i32_67 : BitVec 32 := 0#32
  let arg1 : BitVec 32 := BitVec.ofNat 32 (i 1).val
  let c16_i32_64 : BitVec 32 := 16#32
  let v118 : BitVec 32 := Scalar.muli arg1 c16_i32_64
  let c0_i32_65 : BitVec 32 := 0#32
  let v119 : BitVec 32 := Scalar.addi v118 c0_i32_65
  let c4_i32_66 : BitVec 32 := 4#32
  let v120 : BitVec 32 := Scalar.subi v119 c4_i32_66
  let v121 : BitVec 32 := Scalar.maxsi c0_i32_67 v120
  let v122 : BitVec 32 := Scalar.minsi c120_i32_68 v121
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v123 : BitVec 32 := Scalar.subi v122 v17
  let c64_i32_69 : BitVec 32 := 64#32
  let v124 : BitVec 32 := Scalar.muli v123 c64_i32_69
  v124
def k0_off3 (i : grid0.Coords) (c0_i32_65 : BitVec 32) : Fin 3 → Nat :=
  let c0_72 : Index := 0#32
  let c120_i32_68 : BitVec 32 := 120#32
  let c0_i32_67 : BitVec 32 := 0#32
  let arg1 : BitVec 32 := BitVec.ofNat 32 (i 1).val
  let c16_i32_64 : BitVec 32 := 16#32
  let v118 : BitVec 32 := Scalar.muli arg1 c16_i32_64
  let v119 : BitVec 32 := Scalar.addi v118 c0_i32_65
  let c4_i32_66 : BitVec 32 := 4#32
  let v120 : BitVec 32 := Scalar.subi v119 c4_i32_66
  let v121 : BitVec 32 := Scalar.maxsi c0_i32_67 v120
  let v122 : BitVec 32 := Scalar.minsi c120_i32_68 v121
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v123 : BitVec 32 := Scalar.subi v122 v17
  let c64_i32_69 : BitVec 32 := 64#32
  let v124 : BitVec 32 := Scalar.muli v123 c64_i32_69
  let v125 : BitVec 32 := v124
  let v132 : Index := Scalar.indexCast v125
  let c128_73 : Index := 128#32
  ![0, v132.toNat, 128]
def k0_off4 (i : grid0.Coords) (c0_i32_65 : BitVec 32) (c0_i32_76 : BitVec 32) : Fin 4 → Nat :=
  let c1_77 : Index := 1#32
  let c7_i32_75 : BitVec 32 := 7#32
  let arg1 : BitVec 32 := BitVec.ofNat 32 (i 1).val
  let c16_i32_64 : BitVec 32 := 16#32
  let v118 : BitVec 32 := Scalar.muli arg1 c16_i32_64
  let v119 : BitVec 32 := Scalar.addi v118 c0_i32_65
  let c120_i32_68 : BitVec 32 := 120#32
  let c0_i32_67 : BitVec 32 := 0#32
  let c4_i32_66 : BitVec 32 := 4#32
  let v120 : BitVec 32 := Scalar.subi v119 c4_i32_66
  let v121 : BitVec 32 := Scalar.maxsi c0_i32_67 v120
  let v122 : BitVec 32 := Scalar.minsi c120_i32_68 v121
  let v126 : BitVec 32 := Scalar.subi v119 v122
  let v136 : BitVec 32 := Scalar.subi c7_i32_75 v126
  let v137 : BitVec 32 := Scalar.addi v136 c0_i32_76
  let v138 : Index := Scalar.indexCast v137
  let c0_78 : Index := 0#32
  let c0_79 : Index := 0#32
  ![1, v138.toNat, 0, 0]
def k0_mult3 (i : grid0.Coords) : BitVec 32 :=
  let c120_i32_99 : BitVec 32 := 120#32
  let c0_i32_98 : BitVec 32 := 0#32
  let arg1 : BitVec 32 := BitVec.ofNat 32 (i 1).val
  let c16_i32_95 : BitVec 32 := 16#32
  let v158 : BitVec 32 := Scalar.muli arg1 c16_i32_95
  let c0_i32_96 : BitVec 32 := 0#32
  let v159 : BitVec 32 := Scalar.addi v158 c0_i32_96
  let c4_i32_97 : BitVec 32 := 4#32
  let v160 : BitVec 32 := Scalar.subi v159 c4_i32_97
  let v161 : BitVec 32 := Scalar.maxsi c0_i32_98 v160
  let v162 : BitVec 32 := Scalar.minsi c120_i32_99 v161
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v163 : BitVec 32 := Scalar.subi v162 v17
  let c64_i32_100 : BitVec 32 := 64#32
  let v164 : BitVec 32 := Scalar.muli v163 c64_i32_100
  v164
def k0_off5 (i : grid0.Coords) (c0_i32_96 : BitVec 32) : Fin 3 → Nat :=
  let c0_103 : Index := 0#32
  let c120_i32_99 : BitVec 32 := 120#32
  let c0_i32_98 : BitVec 32 := 0#32
  let arg1 : BitVec 32 := BitVec.ofNat 32 (i 1).val
  let c16_i32_95 : BitVec 32 := 16#32
  let v158 : BitVec 32 := Scalar.muli arg1 c16_i32_95
  let v159 : BitVec 32 := Scalar.addi v158 c0_i32_96
  let c4_i32_97 : BitVec 32 := 4#32
  let v160 : BitVec 32 := Scalar.subi v159 c4_i32_97
  let v161 : BitVec 32 := Scalar.maxsi c0_i32_98 v160
  let v162 : BitVec 32 := Scalar.minsi c120_i32_99 v161
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v163 : BitVec 32 := Scalar.subi v162 v17
  let c64_i32_100 : BitVec 32 := 64#32
  let v164 : BitVec 32 := Scalar.muli v163 c64_i32_100
  let v165 : BitVec 32 := v164
  let v172 : Index := Scalar.indexCast v165
  let c256_104 : Index := 256#32
  ![0, v172.toNat, 256]
def k0_off6 (i : grid0.Coords) (c0_i32_96 : BitVec 32) (c0_i32_107 : BitVec 32) : Fin 4 → Nat :=
  let c2_108 : Index := 2#32
  let c7_i32_106 : BitVec 32 := 7#32
  let arg1 : BitVec 32 := BitVec.ofNat 32 (i 1).val
  let c16_i32_95 : BitVec 32 := 16#32
  let v158 : BitVec 32 := Scalar.muli arg1 c16_i32_95
  let v159 : BitVec 32 := Scalar.addi v158 c0_i32_96
  let c120_i32_99 : BitVec 32 := 120#32
  let c0_i32_98 : BitVec 32 := 0#32
  let c4_i32_97 : BitVec 32 := 4#32
  let v160 : BitVec 32 := Scalar.subi v159 c4_i32_97
  let v161 : BitVec 32 := Scalar.maxsi c0_i32_98 v160
  let v162 : BitVec 32 := Scalar.minsi c120_i32_99 v161
  let v166 : BitVec 32 := Scalar.subi v159 v162
  let v176 : BitVec 32 := Scalar.subi c7_i32_106 v166
  let v177 : BitVec 32 := Scalar.addi v176 c0_i32_107
  let v178 : Index := Scalar.indexCast v177
  let c0_109 : Index := 0#32
  let c0_110 : Index := 0#32
  ![2, v178.toNat, 0, 0]
def k0_mult4 (i : grid0.Coords) : BitVec 32 :=
  let c120_i32_130 : BitVec 32 := 120#32
  let c0_i32_129 : BitVec 32 := 0#32
  let arg1 : BitVec 32 := BitVec.ofNat 32 (i 1).val
  let c16_i32_126 : BitVec 32 := 16#32
  let v198 : BitVec 32 := Scalar.muli arg1 c16_i32_126
  let c0_i32_127 : BitVec 32 := 0#32
  let v199 : BitVec 32 := Scalar.addi v198 c0_i32_127
  let c4_i32_128 : BitVec 32 := 4#32
  let v200 : BitVec 32 := Scalar.subi v199 c4_i32_128
  let v201 : BitVec 32 := Scalar.maxsi c0_i32_129 v200
  let v202 : BitVec 32 := Scalar.minsi c120_i32_130 v201
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v203 : BitVec 32 := Scalar.subi v202 v17
  let c64_i32_131 : BitVec 32 := 64#32
  let v204 : BitVec 32 := Scalar.muli v203 c64_i32_131
  v204
def k0_off7 (i : grid0.Coords) (c0_i32_127 : BitVec 32) : Fin 3 → Nat :=
  let c0_134 : Index := 0#32
  let c120_i32_130 : BitVec 32 := 120#32
  let c0_i32_129 : BitVec 32 := 0#32
  let arg1 : BitVec 32 := BitVec.ofNat 32 (i 1).val
  let c16_i32_126 : BitVec 32 := 16#32
  let v198 : BitVec 32 := Scalar.muli arg1 c16_i32_126
  let v199 : BitVec 32 := Scalar.addi v198 c0_i32_127
  let c4_i32_128 : BitVec 32 := 4#32
  let v200 : BitVec 32 := Scalar.subi v199 c4_i32_128
  let v201 : BitVec 32 := Scalar.maxsi c0_i32_129 v200
  let v202 : BitVec 32 := Scalar.minsi c120_i32_130 v201
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v203 : BitVec 32 := Scalar.subi v202 v17
  let c64_i32_131 : BitVec 32 := 64#32
  let v204 : BitVec 32 := Scalar.muli v203 c64_i32_131
  let v205 : BitVec 32 := v204
  let v212 : Index := Scalar.indexCast v205
  let c384_135 : Index := 384#32
  ![0, v212.toNat, 384]
def k0_off8 (i : grid0.Coords) (c0_i32_127 : BitVec 32) (c0_i32_138 : BitVec 32) : Fin 4 → Nat :=
  let c3_139 : Index := 3#32
  let c7_i32_137 : BitVec 32 := 7#32
  let arg1 : BitVec 32 := BitVec.ofNat 32 (i 1).val
  let c16_i32_126 : BitVec 32 := 16#32
  let v198 : BitVec 32 := Scalar.muli arg1 c16_i32_126
  let v199 : BitVec 32 := Scalar.addi v198 c0_i32_127
  let c120_i32_130 : BitVec 32 := 120#32
  let c0_i32_129 : BitVec 32 := 0#32
  let c4_i32_128 : BitVec 32 := 4#32
  let v200 : BitVec 32 := Scalar.subi v199 c4_i32_128
  let v201 : BitVec 32 := Scalar.maxsi c0_i32_129 v200
  let v202 : BitVec 32 := Scalar.minsi c120_i32_130 v201
  let v206 : BitVec 32 := Scalar.subi v199 v202
  let v216 : BitVec 32 := Scalar.subi c7_i32_137 v206
  let v217 : BitVec 32 := Scalar.addi v216 c0_i32_138
  let v218 : Index := Scalar.indexCast v217
  let c0_140 : Index := 0#32
  let c0_141 : Index := 0#32
  ![3, v218.toNat, 0, 0]
def k0_mult5 (i : grid0.Coords) : BitVec 32 :=
  let c120_i32_161 : BitVec 32 := 120#32
  let c0_i32_160 : BitVec 32 := 0#32
  let arg1 : BitVec 32 := BitVec.ofNat 32 (i 1).val
  let c16_i32_157 : BitVec 32 := 16#32
  let v238 : BitVec 32 := Scalar.muli arg1 c16_i32_157
  let c1_i32_158 : BitVec 32 := 1#32
  let v239 : BitVec 32 := Scalar.addi v238 c1_i32_158
  let c4_i32_159 : BitVec 32 := 4#32
  let v240 : BitVec 32 := Scalar.subi v239 c4_i32_159
  let v241 : BitVec 32 := Scalar.maxsi c0_i32_160 v240
  let v242 : BitVec 32 := Scalar.minsi c120_i32_161 v241
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v243 : BitVec 32 := Scalar.subi v242 v17
  let c64_i32_162 : BitVec 32 := 64#32
  let v244 : BitVec 32 := Scalar.muli v243 c64_i32_162
  v244
def k0_mult6 (i : grid0.Coords) : BitVec 32 :=
  let c120_i32_192 : BitVec 32 := 120#32
  let c0_i32_191 : BitVec 32 := 0#32
  let arg1 : BitVec 32 := BitVec.ofNat 32 (i 1).val
  let c16_i32_188 : BitVec 32 := 16#32
  let v278 : BitVec 32 := Scalar.muli arg1 c16_i32_188
  let c0_i32_189 : BitVec 32 := 0#32
  let v279 : BitVec 32 := Scalar.addi v278 c0_i32_189
  let c4_i32_190 : BitVec 32 := 4#32
  let v280 : BitVec 32 := Scalar.subi v279 c4_i32_190
  let v281 : BitVec 32 := Scalar.maxsi c0_i32_191 v280
  let v282 : BitVec 32 := Scalar.minsi c120_i32_192 v281
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v283 : BitVec 32 := Scalar.subi v282 v17
  let c64_i32_193 : BitVec 32 := 64#32
  let v284 : BitVec 32 := Scalar.muli v283 c64_i32_193
  v284
def k0_mult7 (i : grid0.Coords) : BitVec 32 :=
  let c120_i32_204 : BitVec 32 := 120#32
  let c0_i32_203 : BitVec 32 := 0#32
  let arg1 : BitVec 32 := BitVec.ofNat 32 (i 1).val
  let c16_i32_200 : BitVec 32 := 16#32
  let v307 : BitVec 32 := Scalar.muli arg1 c16_i32_200
  let c1_i32_201 : BitVec 32 := 1#32
  let v308 : BitVec 32 := Scalar.addi v307 c1_i32_201
  let c4_i32_202 : BitVec 32 := 4#32
  let v309 : BitVec 32 := Scalar.subi v308 c4_i32_202
  let v310 : BitVec 32 := Scalar.maxsi c0_i32_203 v309
  let v311 : BitVec 32 := Scalar.minsi c120_i32_204 v310
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v312 : BitVec 32 := Scalar.subi v311 v17
  let c64_i32_205 : BitVec 32 := 64#32
  let v313 : BitVec 32 := Scalar.muli v312 c64_i32_205
  v313
def k0_mult8 (i : grid0.Coords) : BitVec 32 :=
  let c120_i32_236 : BitVec 32 := 120#32
  let c0_i32_235 : BitVec 32 := 0#32
  let arg1 : BitVec 32 := BitVec.ofNat 32 (i 1).val
  let c16_i32_232 : BitVec 32 := 16#32
  let v347 : BitVec 32 := Scalar.muli arg1 c16_i32_232
  let c0_i32_233 : BitVec 32 := 0#32
  let v348 : BitVec 32 := Scalar.addi v347 c0_i32_233
  let c4_i32_234 : BitVec 32 := 4#32
  let v349 : BitVec 32 := Scalar.subi v348 c4_i32_234
  let v350 : BitVec 32 := Scalar.maxsi c0_i32_235 v349
  let v351 : BitVec 32 := Scalar.minsi c120_i32_236 v350
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v352 : BitVec 32 := Scalar.subi v351 v17
  let c64_i32_237 : BitVec 32 := 64#32
  let v353 : BitVec 32 := Scalar.muli v352 c64_i32_237
  v353
def k0_mult9 (i : grid0.Coords) : BitVec 32 :=
  let c120_i32_248 : BitVec 32 := 120#32
  let c0_i32_247 : BitVec 32 := 0#32
  let arg1 : BitVec 32 := BitVec.ofNat 32 (i 1).val
  let c16_i32_244 : BitVec 32 := 16#32
  let v376 : BitVec 32 := Scalar.muli arg1 c16_i32_244
  let c1_i32_245 : BitVec 32 := 1#32
  let v377 : BitVec 32 := Scalar.addi v376 c1_i32_245
  let c4_i32_246 : BitVec 32 := 4#32
  let v378 : BitVec 32 := Scalar.subi v377 c4_i32_246
  let v379 : BitVec 32 := Scalar.maxsi c0_i32_247 v378
  let v380 : BitVec 32 := Scalar.minsi c120_i32_248 v379
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v381 : BitVec 32 := Scalar.subi v380 v17
  let c64_i32_249 : BitVec 32 := 64#32
  let v382 : BitVec 32 := Scalar.muli v381 c64_i32_249
  v382
def k0_mult10 (i : grid0.Coords) : BitVec 32 :=
  let c120_i32_280 : BitVec 32 := 120#32
  let c0_i32_279 : BitVec 32 := 0#32
  let arg1 : BitVec 32 := BitVec.ofNat 32 (i 1).val
  let c16_i32_276 : BitVec 32 := 16#32
  let v416 : BitVec 32 := Scalar.muli arg1 c16_i32_276
  let c0_i32_277 : BitVec 32 := 0#32
  let v417 : BitVec 32 := Scalar.addi v416 c0_i32_277
  let c4_i32_278 : BitVec 32 := 4#32
  let v418 : BitVec 32 := Scalar.subi v417 c4_i32_278
  let v419 : BitVec 32 := Scalar.maxsi c0_i32_279 v418
  let v420 : BitVec 32 := Scalar.minsi c120_i32_280 v419
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v421 : BitVec 32 := Scalar.subi v420 v17
  let c64_i32_281 : BitVec 32 := 64#32
  let v422 : BitVec 32 := Scalar.muli v421 c64_i32_281
  v422
def k0_mult11 (i : grid0.Coords) : BitVec 32 :=
  let c120_i32_292 : BitVec 32 := 120#32
  let c0_i32_291 : BitVec 32 := 0#32
  let arg1 : BitVec 32 := BitVec.ofNat 32 (i 1).val
  let c16_i32_288 : BitVec 32 := 16#32
  let v445 : BitVec 32 := Scalar.muli arg1 c16_i32_288
  let c1_i32_289 : BitVec 32 := 1#32
  let v446 : BitVec 32 := Scalar.addi v445 c1_i32_289
  let c4_i32_290 : BitVec 32 := 4#32
  let v447 : BitVec 32 := Scalar.subi v446 c4_i32_290
  let v448 : BitVec 32 := Scalar.maxsi c0_i32_291 v447
  let v449 : BitVec 32 := Scalar.minsi c120_i32_292 v448
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v450 : BitVec 32 := Scalar.subi v449 v17
  let c64_i32_293 : BitVec 32 := 64#32
  let v451 : BitVec 32 := Scalar.muli v450 c64_i32_293
  v451
def k0_mult12 (i : grid0.Coords) : BitVec 32 :=
  let c120_i32_324 : BitVec 32 := 120#32
  let c0_i32_323 : BitVec 32 := 0#32
  let arg1 : BitVec 32 := BitVec.ofNat 32 (i 1).val
  let c16_i32_320 : BitVec 32 := 16#32
  let v485 : BitVec 32 := Scalar.muli arg1 c16_i32_320
  let c0_i32_321 : BitVec 32 := 0#32
  let v486 : BitVec 32 := Scalar.addi v485 c0_i32_321
  let c4_i32_322 : BitVec 32 := 4#32
  let v487 : BitVec 32 := Scalar.subi v486 c4_i32_322
  let v488 : BitVec 32 := Scalar.maxsi c0_i32_323 v487
  let v489 : BitVec 32 := Scalar.minsi c120_i32_324 v488
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v490 : BitVec 32 := Scalar.subi v489 v17
  let c64_i32_325 : BitVec 32 := 64#32
  let v491 : BitVec 32 := Scalar.muli v490 c64_i32_325
  v491
def k0_mult13 (i : grid0.Coords) : BitVec 32 :=
  let c120_i32_336 : BitVec 32 := 120#32
  let c0_i32_335 : BitVec 32 := 0#32
  let arg1 : BitVec 32 := BitVec.ofNat 32 (i 1).val
  let c16_i32_332 : BitVec 32 := 16#32
  let v514 : BitVec 32 := Scalar.muli arg1 c16_i32_332
  let c2_i32_333 : BitVec 32 := 2#32
  let v515 : BitVec 32 := Scalar.addi v514 c2_i32_333
  let c4_i32_334 : BitVec 32 := 4#32
  let v516 : BitVec 32 := Scalar.subi v515 c4_i32_334
  let v517 : BitVec 32 := Scalar.maxsi c0_i32_335 v516
  let v518 : BitVec 32 := Scalar.minsi c120_i32_336 v517
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v519 : BitVec 32 := Scalar.subi v518 v17
  let c64_i32_337 : BitVec 32 := 64#32
  let v520 : BitVec 32 := Scalar.muli v519 c64_i32_337
  v520
def k0_mult14 (i : grid0.Coords) : BitVec 32 :=
  let c120_i32_368 : BitVec 32 := 120#32
  let c0_i32_367 : BitVec 32 := 0#32
  let arg1 : BitVec 32 := BitVec.ofNat 32 (i 1).val
  let c16_i32_364 : BitVec 32 := 16#32
  let v554 : BitVec 32 := Scalar.muli arg1 c16_i32_364
  let c1_i32_365 : BitVec 32 := 1#32
  let v555 : BitVec 32 := Scalar.addi v554 c1_i32_365
  let c4_i32_366 : BitVec 32 := 4#32
  let v556 : BitVec 32 := Scalar.subi v555 c4_i32_366
  let v557 : BitVec 32 := Scalar.maxsi c0_i32_367 v556
  let v558 : BitVec 32 := Scalar.minsi c120_i32_368 v557
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v559 : BitVec 32 := Scalar.subi v558 v17
  let c64_i32_369 : BitVec 32 := 64#32
  let v560 : BitVec 32 := Scalar.muli v559 c64_i32_369
  v560
def k0_mult15 (i : grid0.Coords) : BitVec 32 :=
  let c120_i32_380 : BitVec 32 := 120#32
  let c0_i32_379 : BitVec 32 := 0#32
  let arg1 : BitVec 32 := BitVec.ofNat 32 (i 1).val
  let c16_i32_376 : BitVec 32 := 16#32
  let v583 : BitVec 32 := Scalar.muli arg1 c16_i32_376
  let c2_i32_377 : BitVec 32 := 2#32
  let v584 : BitVec 32 := Scalar.addi v583 c2_i32_377
  let c4_i32_378 : BitVec 32 := 4#32
  let v585 : BitVec 32 := Scalar.subi v584 c4_i32_378
  let v586 : BitVec 32 := Scalar.maxsi c0_i32_379 v585
  let v587 : BitVec 32 := Scalar.minsi c120_i32_380 v586
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v588 : BitVec 32 := Scalar.subi v587 v17
  let c64_i32_381 : BitVec 32 := 64#32
  let v589 : BitVec 32 := Scalar.muli v588 c64_i32_381
  v589
def k0_mult16 (i : grid0.Coords) : BitVec 32 :=
  let c120_i32_412 : BitVec 32 := 120#32
  let c0_i32_411 : BitVec 32 := 0#32
  let arg1 : BitVec 32 := BitVec.ofNat 32 (i 1).val
  let c16_i32_408 : BitVec 32 := 16#32
  let v623 : BitVec 32 := Scalar.muli arg1 c16_i32_408
  let c1_i32_409 : BitVec 32 := 1#32
  let v624 : BitVec 32 := Scalar.addi v623 c1_i32_409
  let c4_i32_410 : BitVec 32 := 4#32
  let v625 : BitVec 32 := Scalar.subi v624 c4_i32_410
  let v626 : BitVec 32 := Scalar.maxsi c0_i32_411 v625
  let v627 : BitVec 32 := Scalar.minsi c120_i32_412 v626
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v628 : BitVec 32 := Scalar.subi v627 v17
  let c64_i32_413 : BitVec 32 := 64#32
  let v629 : BitVec 32 := Scalar.muli v628 c64_i32_413
  v629
def k0_mult17 (i : grid0.Coords) : BitVec 32 :=
  let c120_i32_424 : BitVec 32 := 120#32
  let c0_i32_423 : BitVec 32 := 0#32
  let arg1 : BitVec 32 := BitVec.ofNat 32 (i 1).val
  let c16_i32_420 : BitVec 32 := 16#32
  let v652 : BitVec 32 := Scalar.muli arg1 c16_i32_420
  let c2_i32_421 : BitVec 32 := 2#32
  let v653 : BitVec 32 := Scalar.addi v652 c2_i32_421
  let c4_i32_422 : BitVec 32 := 4#32
  let v654 : BitVec 32 := Scalar.subi v653 c4_i32_422
  let v655 : BitVec 32 := Scalar.maxsi c0_i32_423 v654
  let v656 : BitVec 32 := Scalar.minsi c120_i32_424 v655
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v657 : BitVec 32 := Scalar.subi v656 v17
  let c64_i32_425 : BitVec 32 := 64#32
  let v658 : BitVec 32 := Scalar.muli v657 c64_i32_425
  v658
def k0_mult18 (i : grid0.Coords) : BitVec 32 :=
  let c120_i32_456 : BitVec 32 := 120#32
  let c0_i32_455 : BitVec 32 := 0#32
  let arg1 : BitVec 32 := BitVec.ofNat 32 (i 1).val
  let c16_i32_452 : BitVec 32 := 16#32
  let v692 : BitVec 32 := Scalar.muli arg1 c16_i32_452
  let c1_i32_453 : BitVec 32 := 1#32
  let v693 : BitVec 32 := Scalar.addi v692 c1_i32_453
  let c4_i32_454 : BitVec 32 := 4#32
  let v694 : BitVec 32 := Scalar.subi v693 c4_i32_454
  let v695 : BitVec 32 := Scalar.maxsi c0_i32_455 v694
  let v696 : BitVec 32 := Scalar.minsi c120_i32_456 v695
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v697 : BitVec 32 := Scalar.subi v696 v17
  let c64_i32_457 : BitVec 32 := 64#32
  let v698 : BitVec 32 := Scalar.muli v697 c64_i32_457
  v698
def k0_mult19 (i : grid0.Coords) : BitVec 32 :=
  let c120_i32_468 : BitVec 32 := 120#32
  let c0_i32_467 : BitVec 32 := 0#32
  let arg1 : BitVec 32 := BitVec.ofNat 32 (i 1).val
  let c16_i32_464 : BitVec 32 := 16#32
  let v721 : BitVec 32 := Scalar.muli arg1 c16_i32_464
  let c2_i32_465 : BitVec 32 := 2#32
  let v722 : BitVec 32 := Scalar.addi v721 c2_i32_465
  let c4_i32_466 : BitVec 32 := 4#32
  let v723 : BitVec 32 := Scalar.subi v722 c4_i32_466
  let v724 : BitVec 32 := Scalar.maxsi c0_i32_467 v723
  let v725 : BitVec 32 := Scalar.minsi c120_i32_468 v724
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v726 : BitVec 32 := Scalar.subi v725 v17
  let c64_i32_469 : BitVec 32 := 64#32
  let v727 : BitVec 32 := Scalar.muli v726 c64_i32_469
  v727
def k0_mult20 (i : grid0.Coords) : BitVec 32 :=
  let c120_i32_500 : BitVec 32 := 120#32
  let c0_i32_499 : BitVec 32 := 0#32
  let arg1 : BitVec 32 := BitVec.ofNat 32 (i 1).val
  let c16_i32_496 : BitVec 32 := 16#32
  let v761 : BitVec 32 := Scalar.muli arg1 c16_i32_496
  let c1_i32_497 : BitVec 32 := 1#32
  let v762 : BitVec 32 := Scalar.addi v761 c1_i32_497
  let c4_i32_498 : BitVec 32 := 4#32
  let v763 : BitVec 32 := Scalar.subi v762 c4_i32_498
  let v764 : BitVec 32 := Scalar.maxsi c0_i32_499 v763
  let v765 : BitVec 32 := Scalar.minsi c120_i32_500 v764
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v766 : BitVec 32 := Scalar.subi v765 v17
  let c64_i32_501 : BitVec 32 := 64#32
  let v767 : BitVec 32 := Scalar.muli v766 c64_i32_501
  v767
def k0_mult21 (i : grid0.Coords) : BitVec 32 :=
  let c120_i32_511 : BitVec 32 := 120#32
  let c0_i32_510 : BitVec 32 := 0#32
  let arg1 : BitVec 32 := BitVec.ofNat 32 (i 1).val
  let c16_i32_508 : BitVec 32 := 16#32
  let v790 : BitVec 32 := Scalar.muli arg1 c16_i32_508
  let c3_i32 : BitVec 32 := 3#32
  let v791 : BitVec 32 := Scalar.addi v790 c3_i32
  let c4_i32_509 : BitVec 32 := 4#32
  let v792 : BitVec 32 := Scalar.subi v791 c4_i32_509
  let v793 : BitVec 32 := Scalar.maxsi c0_i32_510 v792
  let v794 : BitVec 32 := Scalar.minsi c120_i32_511 v793
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v795 : BitVec 32 := Scalar.subi v794 v17
  let c64_i32_512 : BitVec 32 := 64#32
  let v796 : BitVec 32 := Scalar.muli v795 c64_i32_512
  v796
def k0_mult22 (i : grid0.Coords) : BitVec 32 :=
  let c120_i32_542 : BitVec 32 := 120#32
  let c0_i32_541 : BitVec 32 := 0#32
  let arg1 : BitVec 32 := BitVec.ofNat 32 (i 1).val
  let c16_i32_538 : BitVec 32 := 16#32
  let v830 : BitVec 32 := Scalar.muli arg1 c16_i32_538
  let c2_i32_539 : BitVec 32 := 2#32
  let v831 : BitVec 32 := Scalar.addi v830 c2_i32_539
  let c4_i32_540 : BitVec 32 := 4#32
  let v832 : BitVec 32 := Scalar.subi v831 c4_i32_540
  let v833 : BitVec 32 := Scalar.maxsi c0_i32_541 v832
  let v834 : BitVec 32 := Scalar.minsi c120_i32_542 v833
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v835 : BitVec 32 := Scalar.subi v834 v17
  let c64_i32_543 : BitVec 32 := 64#32
  let v836 : BitVec 32 := Scalar.muli v835 c64_i32_543
  v836
def k0_mult23 (i : grid0.Coords) : BitVec 32 :=
  let c120_i32_554 : BitVec 32 := 120#32
  let c0_i32_553 : BitVec 32 := 0#32
  let arg1 : BitVec 32 := BitVec.ofNat 32 (i 1).val
  let c16_i32_550 : BitVec 32 := 16#32
  let v859 : BitVec 32 := Scalar.muli arg1 c16_i32_550
  let c3_i32_551 : BitVec 32 := 3#32
  let v860 : BitVec 32 := Scalar.addi v859 c3_i32_551
  let c4_i32_552 : BitVec 32 := 4#32
  let v861 : BitVec 32 := Scalar.subi v860 c4_i32_552
  let v862 : BitVec 32 := Scalar.maxsi c0_i32_553 v861
  let v863 : BitVec 32 := Scalar.minsi c120_i32_554 v862
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v864 : BitVec 32 := Scalar.subi v863 v17
  let c64_i32_555 : BitVec 32 := 64#32
  let v865 : BitVec 32 := Scalar.muli v864 c64_i32_555
  v865
def k0_mult24 (i : grid0.Coords) : BitVec 32 :=
  let c120_i32_586 : BitVec 32 := 120#32
  let c0_i32_585 : BitVec 32 := 0#32
  let arg1 : BitVec 32 := BitVec.ofNat 32 (i 1).val
  let c16_i32_582 : BitVec 32 := 16#32
  let v899 : BitVec 32 := Scalar.muli arg1 c16_i32_582
  let c2_i32_583 : BitVec 32 := 2#32
  let v900 : BitVec 32 := Scalar.addi v899 c2_i32_583
  let c4_i32_584 : BitVec 32 := 4#32
  let v901 : BitVec 32 := Scalar.subi v900 c4_i32_584
  let v902 : BitVec 32 := Scalar.maxsi c0_i32_585 v901
  let v903 : BitVec 32 := Scalar.minsi c120_i32_586 v902
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v904 : BitVec 32 := Scalar.subi v903 v17
  let c64_i32_587 : BitVec 32 := 64#32
  let v905 : BitVec 32 := Scalar.muli v904 c64_i32_587
  v905
def k0_mult25 (i : grid0.Coords) : BitVec 32 :=
  let c120_i32_598 : BitVec 32 := 120#32
  let c0_i32_597 : BitVec 32 := 0#32
  let arg1 : BitVec 32 := BitVec.ofNat 32 (i 1).val
  let c16_i32_594 : BitVec 32 := 16#32
  let v928 : BitVec 32 := Scalar.muli arg1 c16_i32_594
  let c3_i32_595 : BitVec 32 := 3#32
  let v929 : BitVec 32 := Scalar.addi v928 c3_i32_595
  let c4_i32_596 : BitVec 32 := 4#32
  let v930 : BitVec 32 := Scalar.subi v929 c4_i32_596
  let v931 : BitVec 32 := Scalar.maxsi c0_i32_597 v930
  let v932 : BitVec 32 := Scalar.minsi c120_i32_598 v931
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v933 : BitVec 32 := Scalar.subi v932 v17
  let c64_i32_599 : BitVec 32 := 64#32
  let v934 : BitVec 32 := Scalar.muli v933 c64_i32_599
  v934
def k0_mult26 (i : grid0.Coords) : BitVec 32 :=
  let c120_i32_630 : BitVec 32 := 120#32
  let c0_i32_629 : BitVec 32 := 0#32
  let arg1 : BitVec 32 := BitVec.ofNat 32 (i 1).val
  let c16_i32_626 : BitVec 32 := 16#32
  let v968 : BitVec 32 := Scalar.muli arg1 c16_i32_626
  let c2_i32_627 : BitVec 32 := 2#32
  let v969 : BitVec 32 := Scalar.addi v968 c2_i32_627
  let c4_i32_628 : BitVec 32 := 4#32
  let v970 : BitVec 32 := Scalar.subi v969 c4_i32_628
  let v971 : BitVec 32 := Scalar.maxsi c0_i32_629 v970
  let v972 : BitVec 32 := Scalar.minsi c120_i32_630 v971
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v973 : BitVec 32 := Scalar.subi v972 v17
  let c64_i32_631 : BitVec 32 := 64#32
  let v974 : BitVec 32 := Scalar.muli v973 c64_i32_631
  v974
def k0_mult27 (i : grid0.Coords) : BitVec 32 :=
  let c120_i32_642 : BitVec 32 := 120#32
  let c0_i32_641 : BitVec 32 := 0#32
  let arg1 : BitVec 32 := BitVec.ofNat 32 (i 1).val
  let c16_i32_638 : BitVec 32 := 16#32
  let v997 : BitVec 32 := Scalar.muli arg1 c16_i32_638
  let c3_i32_639 : BitVec 32 := 3#32
  let v998 : BitVec 32 := Scalar.addi v997 c3_i32_639
  let c4_i32_640 : BitVec 32 := 4#32
  let v999 : BitVec 32 := Scalar.subi v998 c4_i32_640
  let v1000 : BitVec 32 := Scalar.maxsi c0_i32_641 v999
  let v1001 : BitVec 32 := Scalar.minsi c120_i32_642 v1000
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1002 : BitVec 32 := Scalar.subi v1001 v17
  let c64_i32_643 : BitVec 32 := 64#32
  let v1003 : BitVec 32 := Scalar.muli v1002 c64_i32_643
  v1003
def k0_mult28 (i : grid0.Coords) : BitVec 32 :=
  let c120_i32_674 : BitVec 32 := 120#32
  let c0_i32_673 : BitVec 32 := 0#32
  let arg1 : BitVec 32 := BitVec.ofNat 32 (i 1).val
  let c16_i32_670 : BitVec 32 := 16#32
  let v1037 : BitVec 32 := Scalar.muli arg1 c16_i32_670
  let c2_i32_671 : BitVec 32 := 2#32
  let v1038 : BitVec 32 := Scalar.addi v1037 c2_i32_671
  let c4_i32_672 : BitVec 32 := 4#32
  let v1039 : BitVec 32 := Scalar.subi v1038 c4_i32_672
  let v1040 : BitVec 32 := Scalar.maxsi c0_i32_673 v1039
  let v1041 : BitVec 32 := Scalar.minsi c120_i32_674 v1040
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1042 : BitVec 32 := Scalar.subi v1041 v17
  let c64_i32_675 : BitVec 32 := 64#32
  let v1043 : BitVec 32 := Scalar.muli v1042 c64_i32_675
  v1043
def k0_mult29 (i : grid0.Coords) : BitVec 32 :=
  let c120_i32_686 : BitVec 32 := 120#32
  let c0_i32_685 : BitVec 32 := 0#32
  let arg1 : BitVec 32 := BitVec.ofNat 32 (i 1).val
  let c16_i32_682 : BitVec 32 := 16#32
  let v1066 : BitVec 32 := Scalar.muli arg1 c16_i32_682
  let c4_i32_683 : BitVec 32 := 4#32
  let v1067 : BitVec 32 := Scalar.addi v1066 c4_i32_683
  let c4_i32_684 : BitVec 32 := 4#32
  let v1068 : BitVec 32 := Scalar.subi v1067 c4_i32_684
  let v1069 : BitVec 32 := Scalar.maxsi c0_i32_685 v1068
  let v1070 : BitVec 32 := Scalar.minsi c120_i32_686 v1069
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1071 : BitVec 32 := Scalar.subi v1070 v17
  let c64_i32_687 : BitVec 32 := 64#32
  let v1072 : BitVec 32 := Scalar.muli v1071 c64_i32_687
  v1072
def k0_mult30 (i : grid0.Coords) : BitVec 32 :=
  let c120_i32_718 : BitVec 32 := 120#32
  let c0_i32_717 : BitVec 32 := 0#32
  let arg1 : BitVec 32 := BitVec.ofNat 32 (i 1).val
  let c16_i32_714 : BitVec 32 := 16#32
  let v1106 : BitVec 32 := Scalar.muli arg1 c16_i32_714
  let c3_i32_715 : BitVec 32 := 3#32
  let v1107 : BitVec 32 := Scalar.addi v1106 c3_i32_715
  let c4_i32_716 : BitVec 32 := 4#32
  let v1108 : BitVec 32 := Scalar.subi v1107 c4_i32_716
  let v1109 : BitVec 32 := Scalar.maxsi c0_i32_717 v1108
  let v1110 : BitVec 32 := Scalar.minsi c120_i32_718 v1109
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1111 : BitVec 32 := Scalar.subi v1110 v17
  let c64_i32_719 : BitVec 32 := 64#32
  let v1112 : BitVec 32 := Scalar.muli v1111 c64_i32_719
  v1112
def k0_mult31 (i : grid0.Coords) : BitVec 32 :=
  let c120_i32_730 : BitVec 32 := 120#32
  let c0_i32_729 : BitVec 32 := 0#32
  let arg1 : BitVec 32 := BitVec.ofNat 32 (i 1).val
  let c16_i32_726 : BitVec 32 := 16#32
  let v1135 : BitVec 32 := Scalar.muli arg1 c16_i32_726
  let c4_i32_727 : BitVec 32 := 4#32
  let v1136 : BitVec 32 := Scalar.addi v1135 c4_i32_727
  let c4_i32_728 : BitVec 32 := 4#32
  let v1137 : BitVec 32 := Scalar.subi v1136 c4_i32_728
  let v1138 : BitVec 32 := Scalar.maxsi c0_i32_729 v1137
  let v1139 : BitVec 32 := Scalar.minsi c120_i32_730 v1138
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1140 : BitVec 32 := Scalar.subi v1139 v17
  let c64_i32_731 : BitVec 32 := 64#32
  let v1141 : BitVec 32 := Scalar.muli v1140 c64_i32_731
  v1141
def k0_mult32 (i : grid0.Coords) : BitVec 32 :=
  let c120_i32_762 : BitVec 32 := 120#32
  let c0_i32_761 : BitVec 32 := 0#32
  let arg1 : BitVec 32 := BitVec.ofNat 32 (i 1).val
  let c16_i32_758 : BitVec 32 := 16#32
  let v1175 : BitVec 32 := Scalar.muli arg1 c16_i32_758
  let c3_i32_759 : BitVec 32 := 3#32
  let v1176 : BitVec 32 := Scalar.addi v1175 c3_i32_759
  let c4_i32_760 : BitVec 32 := 4#32
  let v1177 : BitVec 32 := Scalar.subi v1176 c4_i32_760
  let v1178 : BitVec 32 := Scalar.maxsi c0_i32_761 v1177
  let v1179 : BitVec 32 := Scalar.minsi c120_i32_762 v1178
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1180 : BitVec 32 := Scalar.subi v1179 v17
  let c64_i32_763 : BitVec 32 := 64#32
  let v1181 : BitVec 32 := Scalar.muli v1180 c64_i32_763
  v1181
def k0_mult33 (i : grid0.Coords) : BitVec 32 :=
  let c120_i32_774 : BitVec 32 := 120#32
  let c0_i32_773 : BitVec 32 := 0#32
  let arg1 : BitVec 32 := BitVec.ofNat 32 (i 1).val
  let c16_i32_770 : BitVec 32 := 16#32
  let v1204 : BitVec 32 := Scalar.muli arg1 c16_i32_770
  let c4_i32_771 : BitVec 32 := 4#32
  let v1205 : BitVec 32 := Scalar.addi v1204 c4_i32_771
  let c4_i32_772 : BitVec 32 := 4#32
  let v1206 : BitVec 32 := Scalar.subi v1205 c4_i32_772
  let v1207 : BitVec 32 := Scalar.maxsi c0_i32_773 v1206
  let v1208 : BitVec 32 := Scalar.minsi c120_i32_774 v1207
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1209 : BitVec 32 := Scalar.subi v1208 v17
  let c64_i32_775 : BitVec 32 := 64#32
  let v1210 : BitVec 32 := Scalar.muli v1209 c64_i32_775
  v1210
def k0_mult34 (i : grid0.Coords) : BitVec 32 :=
  let c120_i32_806 : BitVec 32 := 120#32
  let c0_i32_805 : BitVec 32 := 0#32
  let arg1 : BitVec 32 := BitVec.ofNat 32 (i 1).val
  let c16_i32_802 : BitVec 32 := 16#32
  let v1244 : BitVec 32 := Scalar.muli arg1 c16_i32_802
  let c3_i32_803 : BitVec 32 := 3#32
  let v1245 : BitVec 32 := Scalar.addi v1244 c3_i32_803
  let c4_i32_804 : BitVec 32 := 4#32
  let v1246 : BitVec 32 := Scalar.subi v1245 c4_i32_804
  let v1247 : BitVec 32 := Scalar.maxsi c0_i32_805 v1246
  let v1248 : BitVec 32 := Scalar.minsi c120_i32_806 v1247
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1249 : BitVec 32 := Scalar.subi v1248 v17
  let c64_i32_807 : BitVec 32 := 64#32
  let v1250 : BitVec 32 := Scalar.muli v1249 c64_i32_807
  v1250
def k0_mult35 (i : grid0.Coords) : BitVec 32 :=
  let c120_i32_818 : BitVec 32 := 120#32
  let c0_i32_817 : BitVec 32 := 0#32
  let arg1 : BitVec 32 := BitVec.ofNat 32 (i 1).val
  let c16_i32_814 : BitVec 32 := 16#32
  let v1273 : BitVec 32 := Scalar.muli arg1 c16_i32_814
  let c4_i32_815 : BitVec 32 := 4#32
  let v1274 : BitVec 32 := Scalar.addi v1273 c4_i32_815
  let c4_i32_816 : BitVec 32 := 4#32
  let v1275 : BitVec 32 := Scalar.subi v1274 c4_i32_816
  let v1276 : BitVec 32 := Scalar.maxsi c0_i32_817 v1275
  let v1277 : BitVec 32 := Scalar.minsi c120_i32_818 v1276
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1278 : BitVec 32 := Scalar.subi v1277 v17
  let c64_i32_819 : BitVec 32 := 64#32
  let v1279 : BitVec 32 := Scalar.muli v1278 c64_i32_819
  v1279
def k0_mult36 (i : grid0.Coords) : BitVec 32 :=
  let c120_i32_850 : BitVec 32 := 120#32
  let c0_i32_849 : BitVec 32 := 0#32
  let arg1 : BitVec 32 := BitVec.ofNat 32 (i 1).val
  let c16_i32_846 : BitVec 32 := 16#32
  let v1313 : BitVec 32 := Scalar.muli arg1 c16_i32_846
  let c3_i32_847 : BitVec 32 := 3#32
  let v1314 : BitVec 32 := Scalar.addi v1313 c3_i32_847
  let c4_i32_848 : BitVec 32 := 4#32
  let v1315 : BitVec 32 := Scalar.subi v1314 c4_i32_848
  let v1316 : BitVec 32 := Scalar.maxsi c0_i32_849 v1315
  let v1317 : BitVec 32 := Scalar.minsi c120_i32_850 v1316
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1318 : BitVec 32 := Scalar.subi v1317 v17
  let c64_i32_851 : BitVec 32 := 64#32
  let v1319 : BitVec 32 := Scalar.muli v1318 c64_i32_851
  v1319
def k0_mult37 (i : grid0.Coords) : BitVec 32 :=
  let c120_i32_861 : BitVec 32 := 120#32
  let c0_i32_860 : BitVec 32 := 0#32
  let arg1 : BitVec 32 := BitVec.ofNat 32 (i 1).val
  let c16_i32_858 : BitVec 32 := 16#32
  let v1342 : BitVec 32 := Scalar.muli arg1 c16_i32_858
  let c5_i32 : BitVec 32 := 5#32
  let v1343 : BitVec 32 := Scalar.addi v1342 c5_i32
  let c4_i32_859 : BitVec 32 := 4#32
  let v1344 : BitVec 32 := Scalar.subi v1343 c4_i32_859
  let v1345 : BitVec 32 := Scalar.maxsi c0_i32_860 v1344
  let v1346 : BitVec 32 := Scalar.minsi c120_i32_861 v1345
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1347 : BitVec 32 := Scalar.subi v1346 v17
  let c64_i32_862 : BitVec 32 := 64#32
  let v1348 : BitVec 32 := Scalar.muli v1347 c64_i32_862
  v1348
def k0_mult38 (i : grid0.Coords) : BitVec 32 :=
  let c120_i32_892 : BitVec 32 := 120#32
  let c0_i32_891 : BitVec 32 := 0#32
  let arg1 : BitVec 32 := BitVec.ofNat 32 (i 1).val
  let c16_i32_888 : BitVec 32 := 16#32
  let v1382 : BitVec 32 := Scalar.muli arg1 c16_i32_888
  let c4_i32_889 : BitVec 32 := 4#32
  let v1383 : BitVec 32 := Scalar.addi v1382 c4_i32_889
  let c4_i32_890 : BitVec 32 := 4#32
  let v1384 : BitVec 32 := Scalar.subi v1383 c4_i32_890
  let v1385 : BitVec 32 := Scalar.maxsi c0_i32_891 v1384
  let v1386 : BitVec 32 := Scalar.minsi c120_i32_892 v1385
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1387 : BitVec 32 := Scalar.subi v1386 v17
  let c64_i32_893 : BitVec 32 := 64#32
  let v1388 : BitVec 32 := Scalar.muli v1387 c64_i32_893
  v1388
def k0_mult39 (i : grid0.Coords) : BitVec 32 :=
  let c120_i32_904 : BitVec 32 := 120#32
  let c0_i32_903 : BitVec 32 := 0#32
  let arg1 : BitVec 32 := BitVec.ofNat 32 (i 1).val
  let c16_i32_900 : BitVec 32 := 16#32
  let v1411 : BitVec 32 := Scalar.muli arg1 c16_i32_900
  let c5_i32_901 : BitVec 32 := 5#32
  let v1412 : BitVec 32 := Scalar.addi v1411 c5_i32_901
  let c4_i32_902 : BitVec 32 := 4#32
  let v1413 : BitVec 32 := Scalar.subi v1412 c4_i32_902
  let v1414 : BitVec 32 := Scalar.maxsi c0_i32_903 v1413
  let v1415 : BitVec 32 := Scalar.minsi c120_i32_904 v1414
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1416 : BitVec 32 := Scalar.subi v1415 v17
  let c64_i32_905 : BitVec 32 := 64#32
  let v1417 : BitVec 32 := Scalar.muli v1416 c64_i32_905
  v1417
def k0_mult40 (i : grid0.Coords) : BitVec 32 :=
  let c120_i32_936 : BitVec 32 := 120#32
  let c0_i32_935 : BitVec 32 := 0#32
  let arg1 : BitVec 32 := BitVec.ofNat 32 (i 1).val
  let c16_i32_932 : BitVec 32 := 16#32
  let v1451 : BitVec 32 := Scalar.muli arg1 c16_i32_932
  let c4_i32_933 : BitVec 32 := 4#32
  let v1452 : BitVec 32 := Scalar.addi v1451 c4_i32_933
  let c4_i32_934 : BitVec 32 := 4#32
  let v1453 : BitVec 32 := Scalar.subi v1452 c4_i32_934
  let v1454 : BitVec 32 := Scalar.maxsi c0_i32_935 v1453
  let v1455 : BitVec 32 := Scalar.minsi c120_i32_936 v1454
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1456 : BitVec 32 := Scalar.subi v1455 v17
  let c64_i32_937 : BitVec 32 := 64#32
  let v1457 : BitVec 32 := Scalar.muli v1456 c64_i32_937
  v1457
def k0_mult41 (i : grid0.Coords) : BitVec 32 :=
  let c120_i32_948 : BitVec 32 := 120#32
  let c0_i32_947 : BitVec 32 := 0#32
  let arg1 : BitVec 32 := BitVec.ofNat 32 (i 1).val
  let c16_i32_944 : BitVec 32 := 16#32
  let v1480 : BitVec 32 := Scalar.muli arg1 c16_i32_944
  let c5_i32_945 : BitVec 32 := 5#32
  let v1481 : BitVec 32 := Scalar.addi v1480 c5_i32_945
  let c4_i32_946 : BitVec 32 := 4#32
  let v1482 : BitVec 32 := Scalar.subi v1481 c4_i32_946
  let v1483 : BitVec 32 := Scalar.maxsi c0_i32_947 v1482
  let v1484 : BitVec 32 := Scalar.minsi c120_i32_948 v1483
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1485 : BitVec 32 := Scalar.subi v1484 v17
  let c64_i32_949 : BitVec 32 := 64#32
  let v1486 : BitVec 32 := Scalar.muli v1485 c64_i32_949
  v1486
def k0_mult42 (i : grid0.Coords) : BitVec 32 :=
  let c120_i32_980 : BitVec 32 := 120#32
  let c0_i32_979 : BitVec 32 := 0#32
  let arg1 : BitVec 32 := BitVec.ofNat 32 (i 1).val
  let c16_i32_976 : BitVec 32 := 16#32
  let v1520 : BitVec 32 := Scalar.muli arg1 c16_i32_976
  let c4_i32_977 : BitVec 32 := 4#32
  let v1521 : BitVec 32 := Scalar.addi v1520 c4_i32_977
  let c4_i32_978 : BitVec 32 := 4#32
  let v1522 : BitVec 32 := Scalar.subi v1521 c4_i32_978
  let v1523 : BitVec 32 := Scalar.maxsi c0_i32_979 v1522
  let v1524 : BitVec 32 := Scalar.minsi c120_i32_980 v1523
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1525 : BitVec 32 := Scalar.subi v1524 v17
  let c64_i32_981 : BitVec 32 := 64#32
  let v1526 : BitVec 32 := Scalar.muli v1525 c64_i32_981
  v1526
def k0_mult43 (i : grid0.Coords) : BitVec 32 :=
  let c120_i32_992 : BitVec 32 := 120#32
  let c0_i32_991 : BitVec 32 := 0#32
  let arg1 : BitVec 32 := BitVec.ofNat 32 (i 1).val
  let c16_i32_988 : BitVec 32 := 16#32
  let v1549 : BitVec 32 := Scalar.muli arg1 c16_i32_988
  let c5_i32_989 : BitVec 32 := 5#32
  let v1550 : BitVec 32 := Scalar.addi v1549 c5_i32_989
  let c4_i32_990 : BitVec 32 := 4#32
  let v1551 : BitVec 32 := Scalar.subi v1550 c4_i32_990
  let v1552 : BitVec 32 := Scalar.maxsi c0_i32_991 v1551
  let v1553 : BitVec 32 := Scalar.minsi c120_i32_992 v1552
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1554 : BitVec 32 := Scalar.subi v1553 v17
  let c64_i32_993 : BitVec 32 := 64#32
  let v1555 : BitVec 32 := Scalar.muli v1554 c64_i32_993
  v1555
def k0_mult44 (i : grid0.Coords) : BitVec 32 :=
  let c120_i32_1024 : BitVec 32 := 120#32
  let c0_i32_1023 : BitVec 32 := 0#32
  let arg1 : BitVec 32 := BitVec.ofNat 32 (i 1).val
  let c16_i32_1020 : BitVec 32 := 16#32
  let v1589 : BitVec 32 := Scalar.muli arg1 c16_i32_1020
  let c4_i32_1021 : BitVec 32 := 4#32
  let v1590 : BitVec 32 := Scalar.addi v1589 c4_i32_1021
  let c4_i32_1022 : BitVec 32 := 4#32
  let v1591 : BitVec 32 := Scalar.subi v1590 c4_i32_1022
  let v1592 : BitVec 32 := Scalar.maxsi c0_i32_1023 v1591
  let v1593 : BitVec 32 := Scalar.minsi c120_i32_1024 v1592
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1594 : BitVec 32 := Scalar.subi v1593 v17
  let c64_i32_1025 : BitVec 32 := 64#32
  let v1595 : BitVec 32 := Scalar.muli v1594 c64_i32_1025
  v1595
def k0_mult45 (i : grid0.Coords) : BitVec 32 :=
  let c120_i32_1036 : BitVec 32 := 120#32
  let c0_i32_1035 : BitVec 32 := 0#32
  let arg1 : BitVec 32 := BitVec.ofNat 32 (i 1).val
  let c16_i32_1032 : BitVec 32 := 16#32
  let v1618 : BitVec 32 := Scalar.muli arg1 c16_i32_1032
  let c6_i32_1033 : BitVec 32 := 6#32
  let v1619 : BitVec 32 := Scalar.addi v1618 c6_i32_1033
  let c4_i32_1034 : BitVec 32 := 4#32
  let v1620 : BitVec 32 := Scalar.subi v1619 c4_i32_1034
  let v1621 : BitVec 32 := Scalar.maxsi c0_i32_1035 v1620
  let v1622 : BitVec 32 := Scalar.minsi c120_i32_1036 v1621
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1623 : BitVec 32 := Scalar.subi v1622 v17
  let c64_i32_1037 : BitVec 32 := 64#32
  let v1624 : BitVec 32 := Scalar.muli v1623 c64_i32_1037
  v1624
def k0_mult46 (i : grid0.Coords) : BitVec 32 :=
  let c120_i32_1068 : BitVec 32 := 120#32
  let c0_i32_1067 : BitVec 32 := 0#32
  let arg1 : BitVec 32 := BitVec.ofNat 32 (i 1).val
  let c16_i32_1064 : BitVec 32 := 16#32
  let v1658 : BitVec 32 := Scalar.muli arg1 c16_i32_1064
  let c5_i32_1065 : BitVec 32 := 5#32
  let v1659 : BitVec 32 := Scalar.addi v1658 c5_i32_1065
  let c4_i32_1066 : BitVec 32 := 4#32
  let v1660 : BitVec 32 := Scalar.subi v1659 c4_i32_1066
  let v1661 : BitVec 32 := Scalar.maxsi c0_i32_1067 v1660
  let v1662 : BitVec 32 := Scalar.minsi c120_i32_1068 v1661
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1663 : BitVec 32 := Scalar.subi v1662 v17
  let c64_i32_1069 : BitVec 32 := 64#32
  let v1664 : BitVec 32 := Scalar.muli v1663 c64_i32_1069
  v1664
def k0_mult47 (i : grid0.Coords) : BitVec 32 :=
  let c120_i32_1080 : BitVec 32 := 120#32
  let c0_i32_1079 : BitVec 32 := 0#32
  let arg1 : BitVec 32 := BitVec.ofNat 32 (i 1).val
  let c16_i32_1076 : BitVec 32 := 16#32
  let v1687 : BitVec 32 := Scalar.muli arg1 c16_i32_1076
  let c6_i32_1077 : BitVec 32 := 6#32
  let v1688 : BitVec 32 := Scalar.addi v1687 c6_i32_1077
  let c4_i32_1078 : BitVec 32 := 4#32
  let v1689 : BitVec 32 := Scalar.subi v1688 c4_i32_1078
  let v1690 : BitVec 32 := Scalar.maxsi c0_i32_1079 v1689
  let v1691 : BitVec 32 := Scalar.minsi c120_i32_1080 v1690
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1692 : BitVec 32 := Scalar.subi v1691 v17
  let c64_i32_1081 : BitVec 32 := 64#32
  let v1693 : BitVec 32 := Scalar.muli v1692 c64_i32_1081
  v1693
def k0_mult48 (i : grid0.Coords) : BitVec 32 :=
  let c120_i32_1112 : BitVec 32 := 120#32
  let c0_i32_1111 : BitVec 32 := 0#32
  let arg1 : BitVec 32 := BitVec.ofNat 32 (i 1).val
  let c16_i32_1108 : BitVec 32 := 16#32
  let v1727 : BitVec 32 := Scalar.muli arg1 c16_i32_1108
  let c5_i32_1109 : BitVec 32 := 5#32
  let v1728 : BitVec 32 := Scalar.addi v1727 c5_i32_1109
  let c4_i32_1110 : BitVec 32 := 4#32
  let v1729 : BitVec 32 := Scalar.subi v1728 c4_i32_1110
  let v1730 : BitVec 32 := Scalar.maxsi c0_i32_1111 v1729
  let v1731 : BitVec 32 := Scalar.minsi c120_i32_1112 v1730
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1732 : BitVec 32 := Scalar.subi v1731 v17
  let c64_i32_1113 : BitVec 32 := 64#32
  let v1733 : BitVec 32 := Scalar.muli v1732 c64_i32_1113
  v1733
def k0_mult49 (i : grid0.Coords) : BitVec 32 :=
  let c120_i32_1124 : BitVec 32 := 120#32
  let c0_i32_1123 : BitVec 32 := 0#32
  let arg1 : BitVec 32 := BitVec.ofNat 32 (i 1).val
  let c16_i32_1120 : BitVec 32 := 16#32
  let v1756 : BitVec 32 := Scalar.muli arg1 c16_i32_1120
  let c6_i32_1121 : BitVec 32 := 6#32
  let v1757 : BitVec 32 := Scalar.addi v1756 c6_i32_1121
  let c4_i32_1122 : BitVec 32 := 4#32
  let v1758 : BitVec 32 := Scalar.subi v1757 c4_i32_1122
  let v1759 : BitVec 32 := Scalar.maxsi c0_i32_1123 v1758
  let v1760 : BitVec 32 := Scalar.minsi c120_i32_1124 v1759
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1761 : BitVec 32 := Scalar.subi v1760 v17
  let c64_i32_1125 : BitVec 32 := 64#32
  let v1762 : BitVec 32 := Scalar.muli v1761 c64_i32_1125
  v1762
def k0_mult50 (i : grid0.Coords) : BitVec 32 :=
  let c120_i32_1156 : BitVec 32 := 120#32
  let c0_i32_1155 : BitVec 32 := 0#32
  let arg1 : BitVec 32 := BitVec.ofNat 32 (i 1).val
  let c16_i32_1152 : BitVec 32 := 16#32
  let v1796 : BitVec 32 := Scalar.muli arg1 c16_i32_1152
  let c5_i32_1153 : BitVec 32 := 5#32
  let v1797 : BitVec 32 := Scalar.addi v1796 c5_i32_1153
  let c4_i32_1154 : BitVec 32 := 4#32
  let v1798 : BitVec 32 := Scalar.subi v1797 c4_i32_1154
  let v1799 : BitVec 32 := Scalar.maxsi c0_i32_1155 v1798
  let v1800 : BitVec 32 := Scalar.minsi c120_i32_1156 v1799
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1801 : BitVec 32 := Scalar.subi v1800 v17
  let c64_i32_1157 : BitVec 32 := 64#32
  let v1802 : BitVec 32 := Scalar.muli v1801 c64_i32_1157
  v1802
def k0_mult51 (i : grid0.Coords) : BitVec 32 :=
  let c120_i32_1168 : BitVec 32 := 120#32
  let c0_i32_1167 : BitVec 32 := 0#32
  let arg1 : BitVec 32 := BitVec.ofNat 32 (i 1).val
  let c16_i32_1164 : BitVec 32 := 16#32
  let v1825 : BitVec 32 := Scalar.muli arg1 c16_i32_1164
  let c6_i32_1165 : BitVec 32 := 6#32
  let v1826 : BitVec 32 := Scalar.addi v1825 c6_i32_1165
  let c4_i32_1166 : BitVec 32 := 4#32
  let v1827 : BitVec 32 := Scalar.subi v1826 c4_i32_1166
  let v1828 : BitVec 32 := Scalar.maxsi c0_i32_1167 v1827
  let v1829 : BitVec 32 := Scalar.minsi c120_i32_1168 v1828
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1830 : BitVec 32 := Scalar.subi v1829 v17
  let c64_i32_1169 : BitVec 32 := 64#32
  let v1831 : BitVec 32 := Scalar.muli v1830 c64_i32_1169
  v1831
def k0_mult52 (i : grid0.Coords) : BitVec 32 :=
  let c120_i32_1200 : BitVec 32 := 120#32
  let c0_i32_1199 : BitVec 32 := 0#32
  let arg1 : BitVec 32 := BitVec.ofNat 32 (i 1).val
  let c16_i32_1196 : BitVec 32 := 16#32
  let v1865 : BitVec 32 := Scalar.muli arg1 c16_i32_1196
  let c5_i32_1197 : BitVec 32 := 5#32
  let v1866 : BitVec 32 := Scalar.addi v1865 c5_i32_1197
  let c4_i32_1198 : BitVec 32 := 4#32
  let v1867 : BitVec 32 := Scalar.subi v1866 c4_i32_1198
  let v1868 : BitVec 32 := Scalar.maxsi c0_i32_1199 v1867
  let v1869 : BitVec 32 := Scalar.minsi c120_i32_1200 v1868
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1870 : BitVec 32 := Scalar.subi v1869 v17
  let c64_i32_1201 : BitVec 32 := 64#32
  let v1871 : BitVec 32 := Scalar.muli v1870 c64_i32_1201
  v1871
def k0_mult53 (i : grid0.Coords) : BitVec 32 :=
  let c120_i32_1212 : BitVec 32 := 120#32
  let c0_i32_1211 : BitVec 32 := 0#32
  let arg1 : BitVec 32 := BitVec.ofNat 32 (i 1).val
  let c16_i32_1208 : BitVec 32 := 16#32
  let v1894 : BitVec 32 := Scalar.muli arg1 c16_i32_1208
  let c7_i32_1209 : BitVec 32 := 7#32
  let v1895 : BitVec 32 := Scalar.addi v1894 c7_i32_1209
  let c4_i32_1210 : BitVec 32 := 4#32
  let v1896 : BitVec 32 := Scalar.subi v1895 c4_i32_1210
  let v1897 : BitVec 32 := Scalar.maxsi c0_i32_1211 v1896
  let v1898 : BitVec 32 := Scalar.minsi c120_i32_1212 v1897
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1899 : BitVec 32 := Scalar.subi v1898 v17
  let c64_i32_1213 : BitVec 32 := 64#32
  let v1900 : BitVec 32 := Scalar.muli v1899 c64_i32_1213
  v1900
def k0_mult54 (i : grid0.Coords) : BitVec 32 :=
  let c120_i32_1243 : BitVec 32 := 120#32
  let c0_i32_1242 : BitVec 32 := 0#32
  let arg1 : BitVec 32 := BitVec.ofNat 32 (i 1).val
  let c16_i32_1239 : BitVec 32 := 16#32
  let v1934 : BitVec 32 := Scalar.muli arg1 c16_i32_1239
  let c6_i32_1240 : BitVec 32 := 6#32
  let v1935 : BitVec 32 := Scalar.addi v1934 c6_i32_1240
  let c4_i32_1241 : BitVec 32 := 4#32
  let v1936 : BitVec 32 := Scalar.subi v1935 c4_i32_1241
  let v1937 : BitVec 32 := Scalar.maxsi c0_i32_1242 v1936
  let v1938 : BitVec 32 := Scalar.minsi c120_i32_1243 v1937
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1939 : BitVec 32 := Scalar.subi v1938 v17
  let c64_i32_1244 : BitVec 32 := 64#32
  let v1940 : BitVec 32 := Scalar.muli v1939 c64_i32_1244
  v1940
def k0_mult55 (i : grid0.Coords) : BitVec 32 :=
  let c120_i32_1255 : BitVec 32 := 120#32
  let c0_i32_1254 : BitVec 32 := 0#32
  let arg1 : BitVec 32 := BitVec.ofNat 32 (i 1).val
  let c16_i32_1251 : BitVec 32 := 16#32
  let v1963 : BitVec 32 := Scalar.muli arg1 c16_i32_1251
  let c7_i32_1252 : BitVec 32 := 7#32
  let v1964 : BitVec 32 := Scalar.addi v1963 c7_i32_1252
  let c4_i32_1253 : BitVec 32 := 4#32
  let v1965 : BitVec 32 := Scalar.subi v1964 c4_i32_1253
  let v1966 : BitVec 32 := Scalar.maxsi c0_i32_1254 v1965
  let v1967 : BitVec 32 := Scalar.minsi c120_i32_1255 v1966
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v1968 : BitVec 32 := Scalar.subi v1967 v17
  let c64_i32_1256 : BitVec 32 := 64#32
  let v1969 : BitVec 32 := Scalar.muli v1968 c64_i32_1256
  v1969
def k0_mult56 (i : grid0.Coords) : BitVec 32 :=
  let c120_i32_1287 : BitVec 32 := 120#32
  let c0_i32_1286 : BitVec 32 := 0#32
  let arg1 : BitVec 32 := BitVec.ofNat 32 (i 1).val
  let c16_i32_1283 : BitVec 32 := 16#32
  let v2003 : BitVec 32 := Scalar.muli arg1 c16_i32_1283
  let c6_i32_1284 : BitVec 32 := 6#32
  let v2004 : BitVec 32 := Scalar.addi v2003 c6_i32_1284
  let c4_i32_1285 : BitVec 32 := 4#32
  let v2005 : BitVec 32 := Scalar.subi v2004 c4_i32_1285
  let v2006 : BitVec 32 := Scalar.maxsi c0_i32_1286 v2005
  let v2007 : BitVec 32 := Scalar.minsi c120_i32_1287 v2006
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2008 : BitVec 32 := Scalar.subi v2007 v17
  let c64_i32_1288 : BitVec 32 := 64#32
  let v2009 : BitVec 32 := Scalar.muli v2008 c64_i32_1288
  v2009
def k0_mult57 (i : grid0.Coords) : BitVec 32 :=
  let c120_i32_1299 : BitVec 32 := 120#32
  let c0_i32_1298 : BitVec 32 := 0#32
  let arg1 : BitVec 32 := BitVec.ofNat 32 (i 1).val
  let c16_i32_1295 : BitVec 32 := 16#32
  let v2032 : BitVec 32 := Scalar.muli arg1 c16_i32_1295
  let c7_i32_1296 : BitVec 32 := 7#32
  let v2033 : BitVec 32 := Scalar.addi v2032 c7_i32_1296
  let c4_i32_1297 : BitVec 32 := 4#32
  let v2034 : BitVec 32 := Scalar.subi v2033 c4_i32_1297
  let v2035 : BitVec 32 := Scalar.maxsi c0_i32_1298 v2034
  let v2036 : BitVec 32 := Scalar.minsi c120_i32_1299 v2035
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2037 : BitVec 32 := Scalar.subi v2036 v17
  let c64_i32_1300 : BitVec 32 := 64#32
  let v2038 : BitVec 32 := Scalar.muli v2037 c64_i32_1300
  v2038
def k0_mult58 (i : grid0.Coords) : BitVec 32 :=
  let c120_i32_1331 : BitVec 32 := 120#32
  let c0_i32_1330 : BitVec 32 := 0#32
  let arg1 : BitVec 32 := BitVec.ofNat 32 (i 1).val
  let c16_i32_1327 : BitVec 32 := 16#32
  let v2072 : BitVec 32 := Scalar.muli arg1 c16_i32_1327
  let c6_i32_1328 : BitVec 32 := 6#32
  let v2073 : BitVec 32 := Scalar.addi v2072 c6_i32_1328
  let c4_i32_1329 : BitVec 32 := 4#32
  let v2074 : BitVec 32 := Scalar.subi v2073 c4_i32_1329
  let v2075 : BitVec 32 := Scalar.maxsi c0_i32_1330 v2074
  let v2076 : BitVec 32 := Scalar.minsi c120_i32_1331 v2075
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2077 : BitVec 32 := Scalar.subi v2076 v17
  let c64_i32_1332 : BitVec 32 := 64#32
  let v2078 : BitVec 32 := Scalar.muli v2077 c64_i32_1332
  v2078
def k0_mult59 (i : grid0.Coords) : BitVec 32 :=
  let c120_i32_1343 : BitVec 32 := 120#32
  let c0_i32_1342 : BitVec 32 := 0#32
  let arg1 : BitVec 32 := BitVec.ofNat 32 (i 1).val
  let c16_i32_1339 : BitVec 32 := 16#32
  let v2101 : BitVec 32 := Scalar.muli arg1 c16_i32_1339
  let c7_i32_1340 : BitVec 32 := 7#32
  let v2102 : BitVec 32 := Scalar.addi v2101 c7_i32_1340
  let c4_i32_1341 : BitVec 32 := 4#32
  let v2103 : BitVec 32 := Scalar.subi v2102 c4_i32_1341
  let v2104 : BitVec 32 := Scalar.maxsi c0_i32_1342 v2103
  let v2105 : BitVec 32 := Scalar.minsi c120_i32_1343 v2104
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2106 : BitVec 32 := Scalar.subi v2105 v17
  let c64_i32_1344 : BitVec 32 := 64#32
  let v2107 : BitVec 32 := Scalar.muli v2106 c64_i32_1344
  v2107
def k0_mult60 (i : grid0.Coords) : BitVec 32 :=
  let c120_i32_1375 : BitVec 32 := 120#32
  let c0_i32_1374 : BitVec 32 := 0#32
  let arg1 : BitVec 32 := BitVec.ofNat 32 (i 1).val
  let c16_i32_1371 : BitVec 32 := 16#32
  let v2141 : BitVec 32 := Scalar.muli arg1 c16_i32_1371
  let c6_i32_1372 : BitVec 32 := 6#32
  let v2142 : BitVec 32 := Scalar.addi v2141 c6_i32_1372
  let c4_i32_1373 : BitVec 32 := 4#32
  let v2143 : BitVec 32 := Scalar.subi v2142 c4_i32_1373
  let v2144 : BitVec 32 := Scalar.maxsi c0_i32_1374 v2143
  let v2145 : BitVec 32 := Scalar.minsi c120_i32_1375 v2144
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2146 : BitVec 32 := Scalar.subi v2145 v17
  let c64_i32_1376 : BitVec 32 := 64#32
  let v2147 : BitVec 32 := Scalar.muli v2146 c64_i32_1376
  v2147
def k0_mult61 (i : grid0.Coords) : BitVec 32 :=
  let c120_i32_1386 : BitVec 32 := 120#32
  let c0_i32_1385 : BitVec 32 := 0#32
  let arg1 : BitVec 32 := BitVec.ofNat 32 (i 1).val
  let c16_i32_1383 : BitVec 32 := 16#32
  let v2170 : BitVec 32 := Scalar.muli arg1 c16_i32_1383
  let c8_i32 : BitVec 32 := 8#32
  let v2171 : BitVec 32 := Scalar.addi v2170 c8_i32
  let c4_i32_1384 : BitVec 32 := 4#32
  let v2172 : BitVec 32 := Scalar.subi v2171 c4_i32_1384
  let v2173 : BitVec 32 := Scalar.maxsi c0_i32_1385 v2172
  let v2174 : BitVec 32 := Scalar.minsi c120_i32_1386 v2173
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2175 : BitVec 32 := Scalar.subi v2174 v17
  let c64_i32_1387 : BitVec 32 := 64#32
  let v2176 : BitVec 32 := Scalar.muli v2175 c64_i32_1387
  v2176
def k0_mult62 (i : grid0.Coords) : BitVec 32 :=
  let c120_i32_1417 : BitVec 32 := 120#32
  let c0_i32_1416 : BitVec 32 := 0#32
  let arg1 : BitVec 32 := BitVec.ofNat 32 (i 1).val
  let c16_i32_1413 : BitVec 32 := 16#32
  let v2210 : BitVec 32 := Scalar.muli arg1 c16_i32_1413
  let c7_i32_1414 : BitVec 32 := 7#32
  let v2211 : BitVec 32 := Scalar.addi v2210 c7_i32_1414
  let c4_i32_1415 : BitVec 32 := 4#32
  let v2212 : BitVec 32 := Scalar.subi v2211 c4_i32_1415
  let v2213 : BitVec 32 := Scalar.maxsi c0_i32_1416 v2212
  let v2214 : BitVec 32 := Scalar.minsi c120_i32_1417 v2213
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2215 : BitVec 32 := Scalar.subi v2214 v17
  let c64_i32_1418 : BitVec 32 := 64#32
  let v2216 : BitVec 32 := Scalar.muli v2215 c64_i32_1418
  v2216
def k0_mult63 (i : grid0.Coords) : BitVec 32 :=
  let c120_i32_1429 : BitVec 32 := 120#32
  let c0_i32_1428 : BitVec 32 := 0#32
  let arg1 : BitVec 32 := BitVec.ofNat 32 (i 1).val
  let c16_i32_1425 : BitVec 32 := 16#32
  let v2239 : BitVec 32 := Scalar.muli arg1 c16_i32_1425
  let c8_i32_1426 : BitVec 32 := 8#32
  let v2240 : BitVec 32 := Scalar.addi v2239 c8_i32_1426
  let c4_i32_1427 : BitVec 32 := 4#32
  let v2241 : BitVec 32 := Scalar.subi v2240 c4_i32_1427
  let v2242 : BitVec 32 := Scalar.maxsi c0_i32_1428 v2241
  let v2243 : BitVec 32 := Scalar.minsi c120_i32_1429 v2242
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2244 : BitVec 32 := Scalar.subi v2243 v17
  let c64_i32_1430 : BitVec 32 := 64#32
  let v2245 : BitVec 32 := Scalar.muli v2244 c64_i32_1430
  v2245
def k0_mult64 (i : grid0.Coords) : BitVec 32 :=
  let c120_i32_1461 : BitVec 32 := 120#32
  let c0_i32_1460 : BitVec 32 := 0#32
  let arg1 : BitVec 32 := BitVec.ofNat 32 (i 1).val
  let c16_i32_1457 : BitVec 32 := 16#32
  let v2279 : BitVec 32 := Scalar.muli arg1 c16_i32_1457
  let c7_i32_1458 : BitVec 32 := 7#32
  let v2280 : BitVec 32 := Scalar.addi v2279 c7_i32_1458
  let c4_i32_1459 : BitVec 32 := 4#32
  let v2281 : BitVec 32 := Scalar.subi v2280 c4_i32_1459
  let v2282 : BitVec 32 := Scalar.maxsi c0_i32_1460 v2281
  let v2283 : BitVec 32 := Scalar.minsi c120_i32_1461 v2282
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2284 : BitVec 32 := Scalar.subi v2283 v17
  let c64_i32_1462 : BitVec 32 := 64#32
  let v2285 : BitVec 32 := Scalar.muli v2284 c64_i32_1462
  v2285
def k0_mult65 (i : grid0.Coords) : BitVec 32 :=
  let c120_i32_1473 : BitVec 32 := 120#32
  let c0_i32_1472 : BitVec 32 := 0#32
  let arg1 : BitVec 32 := BitVec.ofNat 32 (i 1).val
  let c16_i32_1469 : BitVec 32 := 16#32
  let v2308 : BitVec 32 := Scalar.muli arg1 c16_i32_1469
  let c8_i32_1470 : BitVec 32 := 8#32
  let v2309 : BitVec 32 := Scalar.addi v2308 c8_i32_1470
  let c4_i32_1471 : BitVec 32 := 4#32
  let v2310 : BitVec 32 := Scalar.subi v2309 c4_i32_1471
  let v2311 : BitVec 32 := Scalar.maxsi c0_i32_1472 v2310
  let v2312 : BitVec 32 := Scalar.minsi c120_i32_1473 v2311
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2313 : BitVec 32 := Scalar.subi v2312 v17
  let c64_i32_1474 : BitVec 32 := 64#32
  let v2314 : BitVec 32 := Scalar.muli v2313 c64_i32_1474
  v2314
def k0_mult66 (i : grid0.Coords) : BitVec 32 :=
  let c120_i32_1505 : BitVec 32 := 120#32
  let c0_i32_1504 : BitVec 32 := 0#32
  let arg1 : BitVec 32 := BitVec.ofNat 32 (i 1).val
  let c16_i32_1501 : BitVec 32 := 16#32
  let v2348 : BitVec 32 := Scalar.muli arg1 c16_i32_1501
  let c7_i32_1502 : BitVec 32 := 7#32
  let v2349 : BitVec 32 := Scalar.addi v2348 c7_i32_1502
  let c4_i32_1503 : BitVec 32 := 4#32
  let v2350 : BitVec 32 := Scalar.subi v2349 c4_i32_1503
  let v2351 : BitVec 32 := Scalar.maxsi c0_i32_1504 v2350
  let v2352 : BitVec 32 := Scalar.minsi c120_i32_1505 v2351
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2353 : BitVec 32 := Scalar.subi v2352 v17
  let c64_i32_1506 : BitVec 32 := 64#32
  let v2354 : BitVec 32 := Scalar.muli v2353 c64_i32_1506
  v2354
def k0_mult67 (i : grid0.Coords) : BitVec 32 :=
  let c120_i32_1517 : BitVec 32 := 120#32
  let c0_i32_1516 : BitVec 32 := 0#32
  let arg1 : BitVec 32 := BitVec.ofNat 32 (i 1).val
  let c16_i32_1513 : BitVec 32 := 16#32
  let v2377 : BitVec 32 := Scalar.muli arg1 c16_i32_1513
  let c8_i32_1514 : BitVec 32 := 8#32
  let v2378 : BitVec 32 := Scalar.addi v2377 c8_i32_1514
  let c4_i32_1515 : BitVec 32 := 4#32
  let v2379 : BitVec 32 := Scalar.subi v2378 c4_i32_1515
  let v2380 : BitVec 32 := Scalar.maxsi c0_i32_1516 v2379
  let v2381 : BitVec 32 := Scalar.minsi c120_i32_1517 v2380
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2382 : BitVec 32 := Scalar.subi v2381 v17
  let c64_i32_1518 : BitVec 32 := 64#32
  let v2383 : BitVec 32 := Scalar.muli v2382 c64_i32_1518
  v2383
def k0_mult68 (i : grid0.Coords) : BitVec 32 :=
  let c120_i32_1549 : BitVec 32 := 120#32
  let c0_i32_1548 : BitVec 32 := 0#32
  let arg1 : BitVec 32 := BitVec.ofNat 32 (i 1).val
  let c16_i32_1545 : BitVec 32 := 16#32
  let v2417 : BitVec 32 := Scalar.muli arg1 c16_i32_1545
  let c7_i32_1546 : BitVec 32 := 7#32
  let v2418 : BitVec 32 := Scalar.addi v2417 c7_i32_1546
  let c4_i32_1547 : BitVec 32 := 4#32
  let v2419 : BitVec 32 := Scalar.subi v2418 c4_i32_1547
  let v2420 : BitVec 32 := Scalar.maxsi c0_i32_1548 v2419
  let v2421 : BitVec 32 := Scalar.minsi c120_i32_1549 v2420
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2422 : BitVec 32 := Scalar.subi v2421 v17
  let c64_i32_1550 : BitVec 32 := 64#32
  let v2423 : BitVec 32 := Scalar.muli v2422 c64_i32_1550
  v2423
def k0_mult69 (i : grid0.Coords) : BitVec 32 :=
  let c120_i32_1560 : BitVec 32 := 120#32
  let c0_i32_1559 : BitVec 32 := 0#32
  let arg1 : BitVec 32 := BitVec.ofNat 32 (i 1).val
  let c16_i32_1557 : BitVec 32 := 16#32
  let v2446 : BitVec 32 := Scalar.muli arg1 c16_i32_1557
  let c9_i32 : BitVec 32 := 9#32
  let v2447 : BitVec 32 := Scalar.addi v2446 c9_i32
  let c4_i32_1558 : BitVec 32 := 4#32
  let v2448 : BitVec 32 := Scalar.subi v2447 c4_i32_1558
  let v2449 : BitVec 32 := Scalar.maxsi c0_i32_1559 v2448
  let v2450 : BitVec 32 := Scalar.minsi c120_i32_1560 v2449
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2451 : BitVec 32 := Scalar.subi v2450 v17
  let c64_i32_1561 : BitVec 32 := 64#32
  let v2452 : BitVec 32 := Scalar.muli v2451 c64_i32_1561
  v2452
def k0_mult70 (i : grid0.Coords) : BitVec 32 :=
  let c120_i32_1591 : BitVec 32 := 120#32
  let c0_i32_1590 : BitVec 32 := 0#32
  let arg1 : BitVec 32 := BitVec.ofNat 32 (i 1).val
  let c16_i32_1587 : BitVec 32 := 16#32
  let v2486 : BitVec 32 := Scalar.muli arg1 c16_i32_1587
  let c8_i32_1588 : BitVec 32 := 8#32
  let v2487 : BitVec 32 := Scalar.addi v2486 c8_i32_1588
  let c4_i32_1589 : BitVec 32 := 4#32
  let v2488 : BitVec 32 := Scalar.subi v2487 c4_i32_1589
  let v2489 : BitVec 32 := Scalar.maxsi c0_i32_1590 v2488
  let v2490 : BitVec 32 := Scalar.minsi c120_i32_1591 v2489
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2491 : BitVec 32 := Scalar.subi v2490 v17
  let c64_i32_1592 : BitVec 32 := 64#32
  let v2492 : BitVec 32 := Scalar.muli v2491 c64_i32_1592
  v2492
def k0_mult71 (i : grid0.Coords) : BitVec 32 :=
  let c120_i32_1603 : BitVec 32 := 120#32
  let c0_i32_1602 : BitVec 32 := 0#32
  let arg1 : BitVec 32 := BitVec.ofNat 32 (i 1).val
  let c16_i32_1599 : BitVec 32 := 16#32
  let v2515 : BitVec 32 := Scalar.muli arg1 c16_i32_1599
  let c9_i32_1600 : BitVec 32 := 9#32
  let v2516 : BitVec 32 := Scalar.addi v2515 c9_i32_1600
  let c4_i32_1601 : BitVec 32 := 4#32
  let v2517 : BitVec 32 := Scalar.subi v2516 c4_i32_1601
  let v2518 : BitVec 32 := Scalar.maxsi c0_i32_1602 v2517
  let v2519 : BitVec 32 := Scalar.minsi c120_i32_1603 v2518
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2520 : BitVec 32 := Scalar.subi v2519 v17
  let c64_i32_1604 : BitVec 32 := 64#32
  let v2521 : BitVec 32 := Scalar.muli v2520 c64_i32_1604
  v2521
def k0_mult72 (i : grid0.Coords) : BitVec 32 :=
  let c120_i32_1635 : BitVec 32 := 120#32
  let c0_i32_1634 : BitVec 32 := 0#32
  let arg1 : BitVec 32 := BitVec.ofNat 32 (i 1).val
  let c16_i32_1631 : BitVec 32 := 16#32
  let v2555 : BitVec 32 := Scalar.muli arg1 c16_i32_1631
  let c8_i32_1632 : BitVec 32 := 8#32
  let v2556 : BitVec 32 := Scalar.addi v2555 c8_i32_1632
  let c4_i32_1633 : BitVec 32 := 4#32
  let v2557 : BitVec 32 := Scalar.subi v2556 c4_i32_1633
  let v2558 : BitVec 32 := Scalar.maxsi c0_i32_1634 v2557
  let v2559 : BitVec 32 := Scalar.minsi c120_i32_1635 v2558
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2560 : BitVec 32 := Scalar.subi v2559 v17
  let c64_i32_1636 : BitVec 32 := 64#32
  let v2561 : BitVec 32 := Scalar.muli v2560 c64_i32_1636
  v2561
def k0_mult73 (i : grid0.Coords) : BitVec 32 :=
  let c120_i32_1647 : BitVec 32 := 120#32
  let c0_i32_1646 : BitVec 32 := 0#32
  let arg1 : BitVec 32 := BitVec.ofNat 32 (i 1).val
  let c16_i32_1643 : BitVec 32 := 16#32
  let v2584 : BitVec 32 := Scalar.muli arg1 c16_i32_1643
  let c9_i32_1644 : BitVec 32 := 9#32
  let v2585 : BitVec 32 := Scalar.addi v2584 c9_i32_1644
  let c4_i32_1645 : BitVec 32 := 4#32
  let v2586 : BitVec 32 := Scalar.subi v2585 c4_i32_1645
  let v2587 : BitVec 32 := Scalar.maxsi c0_i32_1646 v2586
  let v2588 : BitVec 32 := Scalar.minsi c120_i32_1647 v2587
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2589 : BitVec 32 := Scalar.subi v2588 v17
  let c64_i32_1648 : BitVec 32 := 64#32
  let v2590 : BitVec 32 := Scalar.muli v2589 c64_i32_1648
  v2590
def k0_mult74 (i : grid0.Coords) : BitVec 32 :=
  let c120_i32_1679 : BitVec 32 := 120#32
  let c0_i32_1678 : BitVec 32 := 0#32
  let arg1 : BitVec 32 := BitVec.ofNat 32 (i 1).val
  let c16_i32_1675 : BitVec 32 := 16#32
  let v2624 : BitVec 32 := Scalar.muli arg1 c16_i32_1675
  let c8_i32_1676 : BitVec 32 := 8#32
  let v2625 : BitVec 32 := Scalar.addi v2624 c8_i32_1676
  let c4_i32_1677 : BitVec 32 := 4#32
  let v2626 : BitVec 32 := Scalar.subi v2625 c4_i32_1677
  let v2627 : BitVec 32 := Scalar.maxsi c0_i32_1678 v2626
  let v2628 : BitVec 32 := Scalar.minsi c120_i32_1679 v2627
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2629 : BitVec 32 := Scalar.subi v2628 v17
  let c64_i32_1680 : BitVec 32 := 64#32
  let v2630 : BitVec 32 := Scalar.muli v2629 c64_i32_1680
  v2630
def k0_mult75 (i : grid0.Coords) : BitVec 32 :=
  let c120_i32_1691 : BitVec 32 := 120#32
  let c0_i32_1690 : BitVec 32 := 0#32
  let arg1 : BitVec 32 := BitVec.ofNat 32 (i 1).val
  let c16_i32_1687 : BitVec 32 := 16#32
  let v2653 : BitVec 32 := Scalar.muli arg1 c16_i32_1687
  let c9_i32_1688 : BitVec 32 := 9#32
  let v2654 : BitVec 32 := Scalar.addi v2653 c9_i32_1688
  let c4_i32_1689 : BitVec 32 := 4#32
  let v2655 : BitVec 32 := Scalar.subi v2654 c4_i32_1689
  let v2656 : BitVec 32 := Scalar.maxsi c0_i32_1690 v2655
  let v2657 : BitVec 32 := Scalar.minsi c120_i32_1691 v2656
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2658 : BitVec 32 := Scalar.subi v2657 v17
  let c64_i32_1692 : BitVec 32 := 64#32
  let v2659 : BitVec 32 := Scalar.muli v2658 c64_i32_1692
  v2659
def k0_mult76 (i : grid0.Coords) : BitVec 32 :=
  let c120_i32_1723 : BitVec 32 := 120#32
  let c0_i32_1722 : BitVec 32 := 0#32
  let arg1 : BitVec 32 := BitVec.ofNat 32 (i 1).val
  let c16_i32_1719 : BitVec 32 := 16#32
  let v2693 : BitVec 32 := Scalar.muli arg1 c16_i32_1719
  let c8_i32_1720 : BitVec 32 := 8#32
  let v2694 : BitVec 32 := Scalar.addi v2693 c8_i32_1720
  let c4_i32_1721 : BitVec 32 := 4#32
  let v2695 : BitVec 32 := Scalar.subi v2694 c4_i32_1721
  let v2696 : BitVec 32 := Scalar.maxsi c0_i32_1722 v2695
  let v2697 : BitVec 32 := Scalar.minsi c120_i32_1723 v2696
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2698 : BitVec 32 := Scalar.subi v2697 v17
  let c64_i32_1724 : BitVec 32 := 64#32
  let v2699 : BitVec 32 := Scalar.muli v2698 c64_i32_1724
  v2699
def k0_mult77 (i : grid0.Coords) : BitVec 32 :=
  let c120_i32_1734 : BitVec 32 := 120#32
  let c0_i32_1733 : BitVec 32 := 0#32
  let arg1 : BitVec 32 := BitVec.ofNat 32 (i 1).val
  let c16_i32_1731 : BitVec 32 := 16#32
  let v2722 : BitVec 32 := Scalar.muli arg1 c16_i32_1731
  let c10_i32 : BitVec 32 := 10#32
  let v2723 : BitVec 32 := Scalar.addi v2722 c10_i32
  let c4_i32_1732 : BitVec 32 := 4#32
  let v2724 : BitVec 32 := Scalar.subi v2723 c4_i32_1732
  let v2725 : BitVec 32 := Scalar.maxsi c0_i32_1733 v2724
  let v2726 : BitVec 32 := Scalar.minsi c120_i32_1734 v2725
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2727 : BitVec 32 := Scalar.subi v2726 v17
  let c64_i32_1735 : BitVec 32 := 64#32
  let v2728 : BitVec 32 := Scalar.muli v2727 c64_i32_1735
  v2728
def k0_mult78 (i : grid0.Coords) : BitVec 32 :=
  let c120_i32_1765 : BitVec 32 := 120#32
  let c0_i32_1764 : BitVec 32 := 0#32
  let arg1 : BitVec 32 := BitVec.ofNat 32 (i 1).val
  let c16_i32_1761 : BitVec 32 := 16#32
  let v2762 : BitVec 32 := Scalar.muli arg1 c16_i32_1761
  let c9_i32_1762 : BitVec 32 := 9#32
  let v2763 : BitVec 32 := Scalar.addi v2762 c9_i32_1762
  let c4_i32_1763 : BitVec 32 := 4#32
  let v2764 : BitVec 32 := Scalar.subi v2763 c4_i32_1763
  let v2765 : BitVec 32 := Scalar.maxsi c0_i32_1764 v2764
  let v2766 : BitVec 32 := Scalar.minsi c120_i32_1765 v2765
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2767 : BitVec 32 := Scalar.subi v2766 v17
  let c64_i32_1766 : BitVec 32 := 64#32
  let v2768 : BitVec 32 := Scalar.muli v2767 c64_i32_1766
  v2768
def k0_mult79 (i : grid0.Coords) : BitVec 32 :=
  let c120_i32_1777 : BitVec 32 := 120#32
  let c0_i32_1776 : BitVec 32 := 0#32
  let arg1 : BitVec 32 := BitVec.ofNat 32 (i 1).val
  let c16_i32_1773 : BitVec 32 := 16#32
  let v2791 : BitVec 32 := Scalar.muli arg1 c16_i32_1773
  let c10_i32_1774 : BitVec 32 := 10#32
  let v2792 : BitVec 32 := Scalar.addi v2791 c10_i32_1774
  let c4_i32_1775 : BitVec 32 := 4#32
  let v2793 : BitVec 32 := Scalar.subi v2792 c4_i32_1775
  let v2794 : BitVec 32 := Scalar.maxsi c0_i32_1776 v2793
  let v2795 : BitVec 32 := Scalar.minsi c120_i32_1777 v2794
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2796 : BitVec 32 := Scalar.subi v2795 v17
  let c64_i32_1778 : BitVec 32 := 64#32
  let v2797 : BitVec 32 := Scalar.muli v2796 c64_i32_1778
  v2797
def k0_mult80 (i : grid0.Coords) : BitVec 32 :=
  let c120_i32_1809 : BitVec 32 := 120#32
  let c0_i32_1808 : BitVec 32 := 0#32
  let arg1 : BitVec 32 := BitVec.ofNat 32 (i 1).val
  let c16_i32_1805 : BitVec 32 := 16#32
  let v2831 : BitVec 32 := Scalar.muli arg1 c16_i32_1805
  let c9_i32_1806 : BitVec 32 := 9#32
  let v2832 : BitVec 32 := Scalar.addi v2831 c9_i32_1806
  let c4_i32_1807 : BitVec 32 := 4#32
  let v2833 : BitVec 32 := Scalar.subi v2832 c4_i32_1807
  let v2834 : BitVec 32 := Scalar.maxsi c0_i32_1808 v2833
  let v2835 : BitVec 32 := Scalar.minsi c120_i32_1809 v2834
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2836 : BitVec 32 := Scalar.subi v2835 v17
  let c64_i32_1810 : BitVec 32 := 64#32
  let v2837 : BitVec 32 := Scalar.muli v2836 c64_i32_1810
  v2837
def k0_mult81 (i : grid0.Coords) : BitVec 32 :=
  let c120_i32_1821 : BitVec 32 := 120#32
  let c0_i32_1820 : BitVec 32 := 0#32
  let arg1 : BitVec 32 := BitVec.ofNat 32 (i 1).val
  let c16_i32_1817 : BitVec 32 := 16#32
  let v2860 : BitVec 32 := Scalar.muli arg1 c16_i32_1817
  let c10_i32_1818 : BitVec 32 := 10#32
  let v2861 : BitVec 32 := Scalar.addi v2860 c10_i32_1818
  let c4_i32_1819 : BitVec 32 := 4#32
  let v2862 : BitVec 32 := Scalar.subi v2861 c4_i32_1819
  let v2863 : BitVec 32 := Scalar.maxsi c0_i32_1820 v2862
  let v2864 : BitVec 32 := Scalar.minsi c120_i32_1821 v2863
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2865 : BitVec 32 := Scalar.subi v2864 v17
  let c64_i32_1822 : BitVec 32 := 64#32
  let v2866 : BitVec 32 := Scalar.muli v2865 c64_i32_1822
  v2866
def k0_mult82 (i : grid0.Coords) : BitVec 32 :=
  let c120_i32_1853 : BitVec 32 := 120#32
  let c0_i32_1852 : BitVec 32 := 0#32
  let arg1 : BitVec 32 := BitVec.ofNat 32 (i 1).val
  let c16_i32_1849 : BitVec 32 := 16#32
  let v2900 : BitVec 32 := Scalar.muli arg1 c16_i32_1849
  let c9_i32_1850 : BitVec 32 := 9#32
  let v2901 : BitVec 32 := Scalar.addi v2900 c9_i32_1850
  let c4_i32_1851 : BitVec 32 := 4#32
  let v2902 : BitVec 32 := Scalar.subi v2901 c4_i32_1851
  let v2903 : BitVec 32 := Scalar.maxsi c0_i32_1852 v2902
  let v2904 : BitVec 32 := Scalar.minsi c120_i32_1853 v2903
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2905 : BitVec 32 := Scalar.subi v2904 v17
  let c64_i32_1854 : BitVec 32 := 64#32
  let v2906 : BitVec 32 := Scalar.muli v2905 c64_i32_1854
  v2906
def k0_mult83 (i : grid0.Coords) : BitVec 32 :=
  let c120_i32_1865 : BitVec 32 := 120#32
  let c0_i32_1864 : BitVec 32 := 0#32
  let arg1 : BitVec 32 := BitVec.ofNat 32 (i 1).val
  let c16_i32_1861 : BitVec 32 := 16#32
  let v2929 : BitVec 32 := Scalar.muli arg1 c16_i32_1861
  let c10_i32_1862 : BitVec 32 := 10#32
  let v2930 : BitVec 32 := Scalar.addi v2929 c10_i32_1862
  let c4_i32_1863 : BitVec 32 := 4#32
  let v2931 : BitVec 32 := Scalar.subi v2930 c4_i32_1863
  let v2932 : BitVec 32 := Scalar.maxsi c0_i32_1864 v2931
  let v2933 : BitVec 32 := Scalar.minsi c120_i32_1865 v2932
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2934 : BitVec 32 := Scalar.subi v2933 v17
  let c64_i32_1866 : BitVec 32 := 64#32
  let v2935 : BitVec 32 := Scalar.muli v2934 c64_i32_1866
  v2935
def k0_mult84 (i : grid0.Coords) : BitVec 32 :=
  let c120_i32_1897 : BitVec 32 := 120#32
  let c0_i32_1896 : BitVec 32 := 0#32
  let arg1 : BitVec 32 := BitVec.ofNat 32 (i 1).val
  let c16_i32_1893 : BitVec 32 := 16#32
  let v2969 : BitVec 32 := Scalar.muli arg1 c16_i32_1893
  let c9_i32_1894 : BitVec 32 := 9#32
  let v2970 : BitVec 32 := Scalar.addi v2969 c9_i32_1894
  let c4_i32_1895 : BitVec 32 := 4#32
  let v2971 : BitVec 32 := Scalar.subi v2970 c4_i32_1895
  let v2972 : BitVec 32 := Scalar.maxsi c0_i32_1896 v2971
  let v2973 : BitVec 32 := Scalar.minsi c120_i32_1897 v2972
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v2974 : BitVec 32 := Scalar.subi v2973 v17
  let c64_i32_1898 : BitVec 32 := 64#32
  let v2975 : BitVec 32 := Scalar.muli v2974 c64_i32_1898
  v2975
def k0_mult85 (i : grid0.Coords) : BitVec 32 :=
  let c120_i32_1908 : BitVec 32 := 120#32
  let c0_i32_1907 : BitVec 32 := 0#32
  let arg1 : BitVec 32 := BitVec.ofNat 32 (i 1).val
  let c16_i32_1905 : BitVec 32 := 16#32
  let v2998 : BitVec 32 := Scalar.muli arg1 c16_i32_1905
  let c11_i32 : BitVec 32 := 11#32
  let v2999 : BitVec 32 := Scalar.addi v2998 c11_i32
  let c4_i32_1906 : BitVec 32 := 4#32
  let v3000 : BitVec 32 := Scalar.subi v2999 c4_i32_1906
  let v3001 : BitVec 32 := Scalar.maxsi c0_i32_1907 v3000
  let v3002 : BitVec 32 := Scalar.minsi c120_i32_1908 v3001
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3003 : BitVec 32 := Scalar.subi v3002 v17
  let c64_i32_1909 : BitVec 32 := 64#32
  let v3004 : BitVec 32 := Scalar.muli v3003 c64_i32_1909
  v3004
def k0_mult86 (i : grid0.Coords) : BitVec 32 :=
  let c120_i32_1939 : BitVec 32 := 120#32
  let c0_i32_1938 : BitVec 32 := 0#32
  let arg1 : BitVec 32 := BitVec.ofNat 32 (i 1).val
  let c16_i32_1935 : BitVec 32 := 16#32
  let v3038 : BitVec 32 := Scalar.muli arg1 c16_i32_1935
  let c10_i32_1936 : BitVec 32 := 10#32
  let v3039 : BitVec 32 := Scalar.addi v3038 c10_i32_1936
  let c4_i32_1937 : BitVec 32 := 4#32
  let v3040 : BitVec 32 := Scalar.subi v3039 c4_i32_1937
  let v3041 : BitVec 32 := Scalar.maxsi c0_i32_1938 v3040
  let v3042 : BitVec 32 := Scalar.minsi c120_i32_1939 v3041
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3043 : BitVec 32 := Scalar.subi v3042 v17
  let c64_i32_1940 : BitVec 32 := 64#32
  let v3044 : BitVec 32 := Scalar.muli v3043 c64_i32_1940
  v3044
def k0_mult87 (i : grid0.Coords) : BitVec 32 :=
  let c120_i32_1951 : BitVec 32 := 120#32
  let c0_i32_1950 : BitVec 32 := 0#32
  let arg1 : BitVec 32 := BitVec.ofNat 32 (i 1).val
  let c16_i32_1947 : BitVec 32 := 16#32
  let v3067 : BitVec 32 := Scalar.muli arg1 c16_i32_1947
  let c11_i32_1948 : BitVec 32 := 11#32
  let v3068 : BitVec 32 := Scalar.addi v3067 c11_i32_1948
  let c4_i32_1949 : BitVec 32 := 4#32
  let v3069 : BitVec 32 := Scalar.subi v3068 c4_i32_1949
  let v3070 : BitVec 32 := Scalar.maxsi c0_i32_1950 v3069
  let v3071 : BitVec 32 := Scalar.minsi c120_i32_1951 v3070
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3072 : BitVec 32 := Scalar.subi v3071 v17
  let c64_i32_1952 : BitVec 32 := 64#32
  let v3073 : BitVec 32 := Scalar.muli v3072 c64_i32_1952
  v3073
def k0_mult88 (i : grid0.Coords) : BitVec 32 :=
  let c120_i32_1983 : BitVec 32 := 120#32
  let c0_i32_1982 : BitVec 32 := 0#32
  let arg1 : BitVec 32 := BitVec.ofNat 32 (i 1).val
  let c16_i32_1979 : BitVec 32 := 16#32
  let v3107 : BitVec 32 := Scalar.muli arg1 c16_i32_1979
  let c10_i32_1980 : BitVec 32 := 10#32
  let v3108 : BitVec 32 := Scalar.addi v3107 c10_i32_1980
  let c4_i32_1981 : BitVec 32 := 4#32
  let v3109 : BitVec 32 := Scalar.subi v3108 c4_i32_1981
  let v3110 : BitVec 32 := Scalar.maxsi c0_i32_1982 v3109
  let v3111 : BitVec 32 := Scalar.minsi c120_i32_1983 v3110
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3112 : BitVec 32 := Scalar.subi v3111 v17
  let c64_i32_1984 : BitVec 32 := 64#32
  let v3113 : BitVec 32 := Scalar.muli v3112 c64_i32_1984
  v3113
def k0_mult89 (i : grid0.Coords) : BitVec 32 :=
  let c120_i32_1995 : BitVec 32 := 120#32
  let c0_i32_1994 : BitVec 32 := 0#32
  let arg1 : BitVec 32 := BitVec.ofNat 32 (i 1).val
  let c16_i32_1991 : BitVec 32 := 16#32
  let v3136 : BitVec 32 := Scalar.muli arg1 c16_i32_1991
  let c11_i32_1992 : BitVec 32 := 11#32
  let v3137 : BitVec 32 := Scalar.addi v3136 c11_i32_1992
  let c4_i32_1993 : BitVec 32 := 4#32
  let v3138 : BitVec 32 := Scalar.subi v3137 c4_i32_1993
  let v3139 : BitVec 32 := Scalar.maxsi c0_i32_1994 v3138
  let v3140 : BitVec 32 := Scalar.minsi c120_i32_1995 v3139
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3141 : BitVec 32 := Scalar.subi v3140 v17
  let c64_i32_1996 : BitVec 32 := 64#32
  let v3142 : BitVec 32 := Scalar.muli v3141 c64_i32_1996
  v3142
def k0_mult90 (i : grid0.Coords) : BitVec 32 :=
  let c120_i32_2027 : BitVec 32 := 120#32
  let c0_i32_2026 : BitVec 32 := 0#32
  let arg1 : BitVec 32 := BitVec.ofNat 32 (i 1).val
  let c16_i32_2023 : BitVec 32 := 16#32
  let v3176 : BitVec 32 := Scalar.muli arg1 c16_i32_2023
  let c10_i32_2024 : BitVec 32 := 10#32
  let v3177 : BitVec 32 := Scalar.addi v3176 c10_i32_2024
  let c4_i32_2025 : BitVec 32 := 4#32
  let v3178 : BitVec 32 := Scalar.subi v3177 c4_i32_2025
  let v3179 : BitVec 32 := Scalar.maxsi c0_i32_2026 v3178
  let v3180 : BitVec 32 := Scalar.minsi c120_i32_2027 v3179
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3181 : BitVec 32 := Scalar.subi v3180 v17
  let c64_i32_2028 : BitVec 32 := 64#32
  let v3182 : BitVec 32 := Scalar.muli v3181 c64_i32_2028
  v3182
def k0_mult91 (i : grid0.Coords) : BitVec 32 :=
  let c120_i32_2039 : BitVec 32 := 120#32
  let c0_i32_2038 : BitVec 32 := 0#32
  let arg1 : BitVec 32 := BitVec.ofNat 32 (i 1).val
  let c16_i32_2035 : BitVec 32 := 16#32
  let v3205 : BitVec 32 := Scalar.muli arg1 c16_i32_2035
  let c11_i32_2036 : BitVec 32 := 11#32
  let v3206 : BitVec 32 := Scalar.addi v3205 c11_i32_2036
  let c4_i32_2037 : BitVec 32 := 4#32
  let v3207 : BitVec 32 := Scalar.subi v3206 c4_i32_2037
  let v3208 : BitVec 32 := Scalar.maxsi c0_i32_2038 v3207
  let v3209 : BitVec 32 := Scalar.minsi c120_i32_2039 v3208
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3210 : BitVec 32 := Scalar.subi v3209 v17
  let c64_i32_2040 : BitVec 32 := 64#32
  let v3211 : BitVec 32 := Scalar.muli v3210 c64_i32_2040
  v3211
def k0_mult92 (i : grid0.Coords) : BitVec 32 :=
  let c120_i32_2071 : BitVec 32 := 120#32
  let c0_i32_2070 : BitVec 32 := 0#32
  let arg1 : BitVec 32 := BitVec.ofNat 32 (i 1).val
  let c16_i32_2067 : BitVec 32 := 16#32
  let v3245 : BitVec 32 := Scalar.muli arg1 c16_i32_2067
  let c10_i32_2068 : BitVec 32 := 10#32
  let v3246 : BitVec 32 := Scalar.addi v3245 c10_i32_2068
  let c4_i32_2069 : BitVec 32 := 4#32
  let v3247 : BitVec 32 := Scalar.subi v3246 c4_i32_2069
  let v3248 : BitVec 32 := Scalar.maxsi c0_i32_2070 v3247
  let v3249 : BitVec 32 := Scalar.minsi c120_i32_2071 v3248
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3250 : BitVec 32 := Scalar.subi v3249 v17
  let c64_i32_2072 : BitVec 32 := 64#32
  let v3251 : BitVec 32 := Scalar.muli v3250 c64_i32_2072
  v3251
def k0_mult93 (i : grid0.Coords) : BitVec 32 :=
  let c120_i32_2082 : BitVec 32 := 120#32
  let c0_i32_2081 : BitVec 32 := 0#32
  let arg1 : BitVec 32 := BitVec.ofNat 32 (i 1).val
  let c16_i32_2079 : BitVec 32 := 16#32
  let v3274 : BitVec 32 := Scalar.muli arg1 c16_i32_2079
  let c12_i32 : BitVec 32 := 12#32
  let v3275 : BitVec 32 := Scalar.addi v3274 c12_i32
  let c4_i32_2080 : BitVec 32 := 4#32
  let v3276 : BitVec 32 := Scalar.subi v3275 c4_i32_2080
  let v3277 : BitVec 32 := Scalar.maxsi c0_i32_2081 v3276
  let v3278 : BitVec 32 := Scalar.minsi c120_i32_2082 v3277
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3279 : BitVec 32 := Scalar.subi v3278 v17
  let c64_i32_2083 : BitVec 32 := 64#32
  let v3280 : BitVec 32 := Scalar.muli v3279 c64_i32_2083
  v3280
def k0_mult94 (i : grid0.Coords) : BitVec 32 :=
  let c120_i32_2113 : BitVec 32 := 120#32
  let c0_i32_2112 : BitVec 32 := 0#32
  let arg1 : BitVec 32 := BitVec.ofNat 32 (i 1).val
  let c16_i32_2109 : BitVec 32 := 16#32
  let v3314 : BitVec 32 := Scalar.muli arg1 c16_i32_2109
  let c11_i32_2110 : BitVec 32 := 11#32
  let v3315 : BitVec 32 := Scalar.addi v3314 c11_i32_2110
  let c4_i32_2111 : BitVec 32 := 4#32
  let v3316 : BitVec 32 := Scalar.subi v3315 c4_i32_2111
  let v3317 : BitVec 32 := Scalar.maxsi c0_i32_2112 v3316
  let v3318 : BitVec 32 := Scalar.minsi c120_i32_2113 v3317
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3319 : BitVec 32 := Scalar.subi v3318 v17
  let c64_i32_2114 : BitVec 32 := 64#32
  let v3320 : BitVec 32 := Scalar.muli v3319 c64_i32_2114
  v3320
def k0_mult95 (i : grid0.Coords) : BitVec 32 :=
  let c120_i32_2125 : BitVec 32 := 120#32
  let c0_i32_2124 : BitVec 32 := 0#32
  let arg1 : BitVec 32 := BitVec.ofNat 32 (i 1).val
  let c16_i32_2121 : BitVec 32 := 16#32
  let v3343 : BitVec 32 := Scalar.muli arg1 c16_i32_2121
  let c12_i32_2122 : BitVec 32 := 12#32
  let v3344 : BitVec 32 := Scalar.addi v3343 c12_i32_2122
  let c4_i32_2123 : BitVec 32 := 4#32
  let v3345 : BitVec 32 := Scalar.subi v3344 c4_i32_2123
  let v3346 : BitVec 32 := Scalar.maxsi c0_i32_2124 v3345
  let v3347 : BitVec 32 := Scalar.minsi c120_i32_2125 v3346
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3348 : BitVec 32 := Scalar.subi v3347 v17
  let c64_i32_2126 : BitVec 32 := 64#32
  let v3349 : BitVec 32 := Scalar.muli v3348 c64_i32_2126
  v3349
def k0_mult96 (i : grid0.Coords) : BitVec 32 :=
  let c120_i32_2157 : BitVec 32 := 120#32
  let c0_i32_2156 : BitVec 32 := 0#32
  let arg1 : BitVec 32 := BitVec.ofNat 32 (i 1).val
  let c16_i32_2153 : BitVec 32 := 16#32
  let v3383 : BitVec 32 := Scalar.muli arg1 c16_i32_2153
  let c11_i32_2154 : BitVec 32 := 11#32
  let v3384 : BitVec 32 := Scalar.addi v3383 c11_i32_2154
  let c4_i32_2155 : BitVec 32 := 4#32
  let v3385 : BitVec 32 := Scalar.subi v3384 c4_i32_2155
  let v3386 : BitVec 32 := Scalar.maxsi c0_i32_2156 v3385
  let v3387 : BitVec 32 := Scalar.minsi c120_i32_2157 v3386
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3388 : BitVec 32 := Scalar.subi v3387 v17
  let c64_i32_2158 : BitVec 32 := 64#32
  let v3389 : BitVec 32 := Scalar.muli v3388 c64_i32_2158
  v3389
def k0_mult97 (i : grid0.Coords) : BitVec 32 :=
  let c120_i32_2169 : BitVec 32 := 120#32
  let c0_i32_2168 : BitVec 32 := 0#32
  let arg1 : BitVec 32 := BitVec.ofNat 32 (i 1).val
  let c16_i32_2165 : BitVec 32 := 16#32
  let v3412 : BitVec 32 := Scalar.muli arg1 c16_i32_2165
  let c12_i32_2166 : BitVec 32 := 12#32
  let v3413 : BitVec 32 := Scalar.addi v3412 c12_i32_2166
  let c4_i32_2167 : BitVec 32 := 4#32
  let v3414 : BitVec 32 := Scalar.subi v3413 c4_i32_2167
  let v3415 : BitVec 32 := Scalar.maxsi c0_i32_2168 v3414
  let v3416 : BitVec 32 := Scalar.minsi c120_i32_2169 v3415
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3417 : BitVec 32 := Scalar.subi v3416 v17
  let c64_i32_2170 : BitVec 32 := 64#32
  let v3418 : BitVec 32 := Scalar.muli v3417 c64_i32_2170
  v3418
def k0_mult98 (i : grid0.Coords) : BitVec 32 :=
  let c120_i32_2201 : BitVec 32 := 120#32
  let c0_i32_2200 : BitVec 32 := 0#32
  let arg1 : BitVec 32 := BitVec.ofNat 32 (i 1).val
  let c16_i32_2197 : BitVec 32 := 16#32
  let v3452 : BitVec 32 := Scalar.muli arg1 c16_i32_2197
  let c11_i32_2198 : BitVec 32 := 11#32
  let v3453 : BitVec 32 := Scalar.addi v3452 c11_i32_2198
  let c4_i32_2199 : BitVec 32 := 4#32
  let v3454 : BitVec 32 := Scalar.subi v3453 c4_i32_2199
  let v3455 : BitVec 32 := Scalar.maxsi c0_i32_2200 v3454
  let v3456 : BitVec 32 := Scalar.minsi c120_i32_2201 v3455
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3457 : BitVec 32 := Scalar.subi v3456 v17
  let c64_i32_2202 : BitVec 32 := 64#32
  let v3458 : BitVec 32 := Scalar.muli v3457 c64_i32_2202
  v3458
def k0_mult99 (i : grid0.Coords) : BitVec 32 :=
  let c120_i32_2213 : BitVec 32 := 120#32
  let c0_i32_2212 : BitVec 32 := 0#32
  let arg1 : BitVec 32 := BitVec.ofNat 32 (i 1).val
  let c16_i32_2209 : BitVec 32 := 16#32
  let v3481 : BitVec 32 := Scalar.muli arg1 c16_i32_2209
  let c12_i32_2210 : BitVec 32 := 12#32
  let v3482 : BitVec 32 := Scalar.addi v3481 c12_i32_2210
  let c4_i32_2211 : BitVec 32 := 4#32
  let v3483 : BitVec 32 := Scalar.subi v3482 c4_i32_2211
  let v3484 : BitVec 32 := Scalar.maxsi c0_i32_2212 v3483
  let v3485 : BitVec 32 := Scalar.minsi c120_i32_2213 v3484
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3486 : BitVec 32 := Scalar.subi v3485 v17
  let c64_i32_2214 : BitVec 32 := 64#32
  let v3487 : BitVec 32 := Scalar.muli v3486 c64_i32_2214
  v3487
def k0_mult100 (i : grid0.Coords) : BitVec 32 :=
  let c120_i32_2245 : BitVec 32 := 120#32
  let c0_i32_2244 : BitVec 32 := 0#32
  let arg1 : BitVec 32 := BitVec.ofNat 32 (i 1).val
  let c16_i32_2241 : BitVec 32 := 16#32
  let v3521 : BitVec 32 := Scalar.muli arg1 c16_i32_2241
  let c11_i32_2242 : BitVec 32 := 11#32
  let v3522 : BitVec 32 := Scalar.addi v3521 c11_i32_2242
  let c4_i32_2243 : BitVec 32 := 4#32
  let v3523 : BitVec 32 := Scalar.subi v3522 c4_i32_2243
  let v3524 : BitVec 32 := Scalar.maxsi c0_i32_2244 v3523
  let v3525 : BitVec 32 := Scalar.minsi c120_i32_2245 v3524
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3526 : BitVec 32 := Scalar.subi v3525 v17
  let c64_i32_2246 : BitVec 32 := 64#32
  let v3527 : BitVec 32 := Scalar.muli v3526 c64_i32_2246
  v3527
def k0_mult101 (i : grid0.Coords) : BitVec 32 :=
  let c120_i32_2256 : BitVec 32 := 120#32
  let c0_i32_2255 : BitVec 32 := 0#32
  let arg1 : BitVec 32 := BitVec.ofNat 32 (i 1).val
  let c16_i32_2253 : BitVec 32 := 16#32
  let v3550 : BitVec 32 := Scalar.muli arg1 c16_i32_2253
  let c13_i32 : BitVec 32 := 13#32
  let v3551 : BitVec 32 := Scalar.addi v3550 c13_i32
  let c4_i32_2254 : BitVec 32 := 4#32
  let v3552 : BitVec 32 := Scalar.subi v3551 c4_i32_2254
  let v3553 : BitVec 32 := Scalar.maxsi c0_i32_2255 v3552
  let v3554 : BitVec 32 := Scalar.minsi c120_i32_2256 v3553
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3555 : BitVec 32 := Scalar.subi v3554 v17
  let c64_i32_2257 : BitVec 32 := 64#32
  let v3556 : BitVec 32 := Scalar.muli v3555 c64_i32_2257
  v3556
def k0_mult102 (i : grid0.Coords) : BitVec 32 :=
  let c120_i32_2287 : BitVec 32 := 120#32
  let c0_i32_2286 : BitVec 32 := 0#32
  let arg1 : BitVec 32 := BitVec.ofNat 32 (i 1).val
  let c16_i32_2283 : BitVec 32 := 16#32
  let v3590 : BitVec 32 := Scalar.muli arg1 c16_i32_2283
  let c12_i32_2284 : BitVec 32 := 12#32
  let v3591 : BitVec 32 := Scalar.addi v3590 c12_i32_2284
  let c4_i32_2285 : BitVec 32 := 4#32
  let v3592 : BitVec 32 := Scalar.subi v3591 c4_i32_2285
  let v3593 : BitVec 32 := Scalar.maxsi c0_i32_2286 v3592
  let v3594 : BitVec 32 := Scalar.minsi c120_i32_2287 v3593
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3595 : BitVec 32 := Scalar.subi v3594 v17
  let c64_i32_2288 : BitVec 32 := 64#32
  let v3596 : BitVec 32 := Scalar.muli v3595 c64_i32_2288
  v3596
def k0_mult103 (i : grid0.Coords) : BitVec 32 :=
  let c120_i32_2299 : BitVec 32 := 120#32
  let c0_i32_2298 : BitVec 32 := 0#32
  let arg1 : BitVec 32 := BitVec.ofNat 32 (i 1).val
  let c16_i32_2295 : BitVec 32 := 16#32
  let v3619 : BitVec 32 := Scalar.muli arg1 c16_i32_2295
  let c13_i32_2296 : BitVec 32 := 13#32
  let v3620 : BitVec 32 := Scalar.addi v3619 c13_i32_2296
  let c4_i32_2297 : BitVec 32 := 4#32
  let v3621 : BitVec 32 := Scalar.subi v3620 c4_i32_2297
  let v3622 : BitVec 32 := Scalar.maxsi c0_i32_2298 v3621
  let v3623 : BitVec 32 := Scalar.minsi c120_i32_2299 v3622
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3624 : BitVec 32 := Scalar.subi v3623 v17
  let c64_i32_2300 : BitVec 32 := 64#32
  let v3625 : BitVec 32 := Scalar.muli v3624 c64_i32_2300
  v3625
def k0_mult104 (i : grid0.Coords) : BitVec 32 :=
  let c120_i32_2331 : BitVec 32 := 120#32
  let c0_i32_2330 : BitVec 32 := 0#32
  let arg1 : BitVec 32 := BitVec.ofNat 32 (i 1).val
  let c16_i32_2327 : BitVec 32 := 16#32
  let v3659 : BitVec 32 := Scalar.muli arg1 c16_i32_2327
  let c12_i32_2328 : BitVec 32 := 12#32
  let v3660 : BitVec 32 := Scalar.addi v3659 c12_i32_2328
  let c4_i32_2329 : BitVec 32 := 4#32
  let v3661 : BitVec 32 := Scalar.subi v3660 c4_i32_2329
  let v3662 : BitVec 32 := Scalar.maxsi c0_i32_2330 v3661
  let v3663 : BitVec 32 := Scalar.minsi c120_i32_2331 v3662
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3664 : BitVec 32 := Scalar.subi v3663 v17
  let c64_i32_2332 : BitVec 32 := 64#32
  let v3665 : BitVec 32 := Scalar.muli v3664 c64_i32_2332
  v3665
def k0_mult105 (i : grid0.Coords) : BitVec 32 :=
  let c120_i32_2343 : BitVec 32 := 120#32
  let c0_i32_2342 : BitVec 32 := 0#32
  let arg1 : BitVec 32 := BitVec.ofNat 32 (i 1).val
  let c16_i32_2339 : BitVec 32 := 16#32
  let v3688 : BitVec 32 := Scalar.muli arg1 c16_i32_2339
  let c13_i32_2340 : BitVec 32 := 13#32
  let v3689 : BitVec 32 := Scalar.addi v3688 c13_i32_2340
  let c4_i32_2341 : BitVec 32 := 4#32
  let v3690 : BitVec 32 := Scalar.subi v3689 c4_i32_2341
  let v3691 : BitVec 32 := Scalar.maxsi c0_i32_2342 v3690
  let v3692 : BitVec 32 := Scalar.minsi c120_i32_2343 v3691
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3693 : BitVec 32 := Scalar.subi v3692 v17
  let c64_i32_2344 : BitVec 32 := 64#32
  let v3694 : BitVec 32 := Scalar.muli v3693 c64_i32_2344
  v3694
def k0_mult106 (i : grid0.Coords) : BitVec 32 :=
  let c120_i32_2375 : BitVec 32 := 120#32
  let c0_i32_2374 : BitVec 32 := 0#32
  let arg1 : BitVec 32 := BitVec.ofNat 32 (i 1).val
  let c16_i32_2371 : BitVec 32 := 16#32
  let v3728 : BitVec 32 := Scalar.muli arg1 c16_i32_2371
  let c12_i32_2372 : BitVec 32 := 12#32
  let v3729 : BitVec 32 := Scalar.addi v3728 c12_i32_2372
  let c4_i32_2373 : BitVec 32 := 4#32
  let v3730 : BitVec 32 := Scalar.subi v3729 c4_i32_2373
  let v3731 : BitVec 32 := Scalar.maxsi c0_i32_2374 v3730
  let v3732 : BitVec 32 := Scalar.minsi c120_i32_2375 v3731
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3733 : BitVec 32 := Scalar.subi v3732 v17
  let c64_i32_2376 : BitVec 32 := 64#32
  let v3734 : BitVec 32 := Scalar.muli v3733 c64_i32_2376
  v3734
def k0_mult107 (i : grid0.Coords) : BitVec 32 :=
  let c120_i32_2387 : BitVec 32 := 120#32
  let c0_i32_2386 : BitVec 32 := 0#32
  let arg1 : BitVec 32 := BitVec.ofNat 32 (i 1).val
  let c16_i32_2383 : BitVec 32 := 16#32
  let v3757 : BitVec 32 := Scalar.muli arg1 c16_i32_2383
  let c13_i32_2384 : BitVec 32 := 13#32
  let v3758 : BitVec 32 := Scalar.addi v3757 c13_i32_2384
  let c4_i32_2385 : BitVec 32 := 4#32
  let v3759 : BitVec 32 := Scalar.subi v3758 c4_i32_2385
  let v3760 : BitVec 32 := Scalar.maxsi c0_i32_2386 v3759
  let v3761 : BitVec 32 := Scalar.minsi c120_i32_2387 v3760
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3762 : BitVec 32 := Scalar.subi v3761 v17
  let c64_i32_2388 : BitVec 32 := 64#32
  let v3763 : BitVec 32 := Scalar.muli v3762 c64_i32_2388
  v3763
def k0_mult108 (i : grid0.Coords) : BitVec 32 :=
  let c120_i32_2419 : BitVec 32 := 120#32
  let c0_i32_2418 : BitVec 32 := 0#32
  let arg1 : BitVec 32 := BitVec.ofNat 32 (i 1).val
  let c16_i32_2415 : BitVec 32 := 16#32
  let v3797 : BitVec 32 := Scalar.muli arg1 c16_i32_2415
  let c12_i32_2416 : BitVec 32 := 12#32
  let v3798 : BitVec 32 := Scalar.addi v3797 c12_i32_2416
  let c4_i32_2417 : BitVec 32 := 4#32
  let v3799 : BitVec 32 := Scalar.subi v3798 c4_i32_2417
  let v3800 : BitVec 32 := Scalar.maxsi c0_i32_2418 v3799
  let v3801 : BitVec 32 := Scalar.minsi c120_i32_2419 v3800
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3802 : BitVec 32 := Scalar.subi v3801 v17
  let c64_i32_2420 : BitVec 32 := 64#32
  let v3803 : BitVec 32 := Scalar.muli v3802 c64_i32_2420
  v3803
def k0_mult109 (i : grid0.Coords) : BitVec 32 :=
  let c120_i32_2430 : BitVec 32 := 120#32
  let c0_i32_2429 : BitVec 32 := 0#32
  let arg1 : BitVec 32 := BitVec.ofNat 32 (i 1).val
  let c16_i32_2427 : BitVec 32 := 16#32
  let v3826 : BitVec 32 := Scalar.muli arg1 c16_i32_2427
  let c14_i32 : BitVec 32 := 14#32
  let v3827 : BitVec 32 := Scalar.addi v3826 c14_i32
  let c4_i32_2428 : BitVec 32 := 4#32
  let v3828 : BitVec 32 := Scalar.subi v3827 c4_i32_2428
  let v3829 : BitVec 32 := Scalar.maxsi c0_i32_2429 v3828
  let v3830 : BitVec 32 := Scalar.minsi c120_i32_2430 v3829
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3831 : BitVec 32 := Scalar.subi v3830 v17
  let c64_i32_2431 : BitVec 32 := 64#32
  let v3832 : BitVec 32 := Scalar.muli v3831 c64_i32_2431
  v3832
def k0_mult110 (i : grid0.Coords) : BitVec 32 :=
  let c120_i32_2461 : BitVec 32 := 120#32
  let c0_i32_2460 : BitVec 32 := 0#32
  let arg1 : BitVec 32 := BitVec.ofNat 32 (i 1).val
  let c16_i32_2457 : BitVec 32 := 16#32
  let v3866 : BitVec 32 := Scalar.muli arg1 c16_i32_2457
  let c13_i32_2458 : BitVec 32 := 13#32
  let v3867 : BitVec 32 := Scalar.addi v3866 c13_i32_2458
  let c4_i32_2459 : BitVec 32 := 4#32
  let v3868 : BitVec 32 := Scalar.subi v3867 c4_i32_2459
  let v3869 : BitVec 32 := Scalar.maxsi c0_i32_2460 v3868
  let v3870 : BitVec 32 := Scalar.minsi c120_i32_2461 v3869
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3871 : BitVec 32 := Scalar.subi v3870 v17
  let c64_i32_2462 : BitVec 32 := 64#32
  let v3872 : BitVec 32 := Scalar.muli v3871 c64_i32_2462
  v3872
def k0_mult111 (i : grid0.Coords) : BitVec 32 :=
  let c120_i32_2473 : BitVec 32 := 120#32
  let c0_i32_2472 : BitVec 32 := 0#32
  let arg1 : BitVec 32 := BitVec.ofNat 32 (i 1).val
  let c16_i32_2469 : BitVec 32 := 16#32
  let v3895 : BitVec 32 := Scalar.muli arg1 c16_i32_2469
  let c14_i32_2470 : BitVec 32 := 14#32
  let v3896 : BitVec 32 := Scalar.addi v3895 c14_i32_2470
  let c4_i32_2471 : BitVec 32 := 4#32
  let v3897 : BitVec 32 := Scalar.subi v3896 c4_i32_2471
  let v3898 : BitVec 32 := Scalar.maxsi c0_i32_2472 v3897
  let v3899 : BitVec 32 := Scalar.minsi c120_i32_2473 v3898
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3900 : BitVec 32 := Scalar.subi v3899 v17
  let c64_i32_2474 : BitVec 32 := 64#32
  let v3901 : BitVec 32 := Scalar.muli v3900 c64_i32_2474
  v3901
def k0_mult112 (i : grid0.Coords) : BitVec 32 :=
  let c120_i32_2505 : BitVec 32 := 120#32
  let c0_i32_2504 : BitVec 32 := 0#32
  let arg1 : BitVec 32 := BitVec.ofNat 32 (i 1).val
  let c16_i32_2501 : BitVec 32 := 16#32
  let v3935 : BitVec 32 := Scalar.muli arg1 c16_i32_2501
  let c13_i32_2502 : BitVec 32 := 13#32
  let v3936 : BitVec 32 := Scalar.addi v3935 c13_i32_2502
  let c4_i32_2503 : BitVec 32 := 4#32
  let v3937 : BitVec 32 := Scalar.subi v3936 c4_i32_2503
  let v3938 : BitVec 32 := Scalar.maxsi c0_i32_2504 v3937
  let v3939 : BitVec 32 := Scalar.minsi c120_i32_2505 v3938
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3940 : BitVec 32 := Scalar.subi v3939 v17
  let c64_i32_2506 : BitVec 32 := 64#32
  let v3941 : BitVec 32 := Scalar.muli v3940 c64_i32_2506
  v3941
def k0_mult113 (i : grid0.Coords) : BitVec 32 :=
  let c120_i32_2517 : BitVec 32 := 120#32
  let c0_i32_2516 : BitVec 32 := 0#32
  let arg1 : BitVec 32 := BitVec.ofNat 32 (i 1).val
  let c16_i32_2513 : BitVec 32 := 16#32
  let v3964 : BitVec 32 := Scalar.muli arg1 c16_i32_2513
  let c14_i32_2514 : BitVec 32 := 14#32
  let v3965 : BitVec 32 := Scalar.addi v3964 c14_i32_2514
  let c4_i32_2515 : BitVec 32 := 4#32
  let v3966 : BitVec 32 := Scalar.subi v3965 c4_i32_2515
  let v3967 : BitVec 32 := Scalar.maxsi c0_i32_2516 v3966
  let v3968 : BitVec 32 := Scalar.minsi c120_i32_2517 v3967
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v3969 : BitVec 32 := Scalar.subi v3968 v17
  let c64_i32_2518 : BitVec 32 := 64#32
  let v3970 : BitVec 32 := Scalar.muli v3969 c64_i32_2518
  v3970
def k0_mult114 (i : grid0.Coords) : BitVec 32 :=
  let c120_i32_2549 : BitVec 32 := 120#32
  let c0_i32_2548 : BitVec 32 := 0#32
  let arg1 : BitVec 32 := BitVec.ofNat 32 (i 1).val
  let c16_i32_2545 : BitVec 32 := 16#32
  let v4004 : BitVec 32 := Scalar.muli arg1 c16_i32_2545
  let c13_i32_2546 : BitVec 32 := 13#32
  let v4005 : BitVec 32 := Scalar.addi v4004 c13_i32_2546
  let c4_i32_2547 : BitVec 32 := 4#32
  let v4006 : BitVec 32 := Scalar.subi v4005 c4_i32_2547
  let v4007 : BitVec 32 := Scalar.maxsi c0_i32_2548 v4006
  let v4008 : BitVec 32 := Scalar.minsi c120_i32_2549 v4007
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4009 : BitVec 32 := Scalar.subi v4008 v17
  let c64_i32_2550 : BitVec 32 := 64#32
  let v4010 : BitVec 32 := Scalar.muli v4009 c64_i32_2550
  v4010
def k0_mult115 (i : grid0.Coords) : BitVec 32 :=
  let c120_i32_2561 : BitVec 32 := 120#32
  let c0_i32_2560 : BitVec 32 := 0#32
  let arg1 : BitVec 32 := BitVec.ofNat 32 (i 1).val
  let c16_i32_2557 : BitVec 32 := 16#32
  let v4033 : BitVec 32 := Scalar.muli arg1 c16_i32_2557
  let c14_i32_2558 : BitVec 32 := 14#32
  let v4034 : BitVec 32 := Scalar.addi v4033 c14_i32_2558
  let c4_i32_2559 : BitVec 32 := 4#32
  let v4035 : BitVec 32 := Scalar.subi v4034 c4_i32_2559
  let v4036 : BitVec 32 := Scalar.maxsi c0_i32_2560 v4035
  let v4037 : BitVec 32 := Scalar.minsi c120_i32_2561 v4036
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4038 : BitVec 32 := Scalar.subi v4037 v17
  let c64_i32_2562 : BitVec 32 := 64#32
  let v4039 : BitVec 32 := Scalar.muli v4038 c64_i32_2562
  v4039
def k0_mult116 (i : grid0.Coords) : BitVec 32 :=
  let c120_i32_2593 : BitVec 32 := 120#32
  let c0_i32_2592 : BitVec 32 := 0#32
  let arg1 : BitVec 32 := BitVec.ofNat 32 (i 1).val
  let c16_i32_2589 : BitVec 32 := 16#32
  let v4073 : BitVec 32 := Scalar.muli arg1 c16_i32_2589
  let c13_i32_2590 : BitVec 32 := 13#32
  let v4074 : BitVec 32 := Scalar.addi v4073 c13_i32_2590
  let c4_i32_2591 : BitVec 32 := 4#32
  let v4075 : BitVec 32 := Scalar.subi v4074 c4_i32_2591
  let v4076 : BitVec 32 := Scalar.maxsi c0_i32_2592 v4075
  let v4077 : BitVec 32 := Scalar.minsi c120_i32_2593 v4076
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4078 : BitVec 32 := Scalar.subi v4077 v17
  let c64_i32_2594 : BitVec 32 := 64#32
  let v4079 : BitVec 32 := Scalar.muli v4078 c64_i32_2594
  v4079
def k0_mult117 (i : grid0.Coords) : BitVec 32 :=
  let c120_i32_2605 : BitVec 32 := 120#32
  let c0_i32_2604 : BitVec 32 := 0#32
  let arg1 : BitVec 32 := BitVec.ofNat 32 (i 1).val
  let c16_i32_2601 : BitVec 32 := 16#32
  let v4102 : BitVec 32 := Scalar.muli arg1 c16_i32_2601
  let c15_i32_2602 : BitVec 32 := 15#32
  let v4103 : BitVec 32 := Scalar.addi v4102 c15_i32_2602
  let c4_i32_2603 : BitVec 32 := 4#32
  let v4104 : BitVec 32 := Scalar.subi v4103 c4_i32_2603
  let v4105 : BitVec 32 := Scalar.maxsi c0_i32_2604 v4104
  let v4106 : BitVec 32 := Scalar.minsi c120_i32_2605 v4105
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4107 : BitVec 32 := Scalar.subi v4106 v17
  let c64_i32_2606 : BitVec 32 := 64#32
  let v4108 : BitVec 32 := Scalar.muli v4107 c64_i32_2606
  v4108
def k0_mult118 (i : grid0.Coords) : BitVec 32 :=
  let c120_i32_2636 : BitVec 32 := 120#32
  let c0_i32_2635 : BitVec 32 := 0#32
  let arg1 : BitVec 32 := BitVec.ofNat 32 (i 1).val
  let c16_i32_2632 : BitVec 32 := 16#32
  let v4142 : BitVec 32 := Scalar.muli arg1 c16_i32_2632
  let c14_i32_2633 : BitVec 32 := 14#32
  let v4143 : BitVec 32 := Scalar.addi v4142 c14_i32_2633
  let c4_i32_2634 : BitVec 32 := 4#32
  let v4144 : BitVec 32 := Scalar.subi v4143 c4_i32_2634
  let v4145 : BitVec 32 := Scalar.maxsi c0_i32_2635 v4144
  let v4146 : BitVec 32 := Scalar.minsi c120_i32_2636 v4145
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4147 : BitVec 32 := Scalar.subi v4146 v17
  let c64_i32_2637 : BitVec 32 := 64#32
  let v4148 : BitVec 32 := Scalar.muli v4147 c64_i32_2637
  v4148
def k0_mult119 (i : grid0.Coords) : BitVec 32 :=
  let c120_i32_2648 : BitVec 32 := 120#32
  let c0_i32_2647 : BitVec 32 := 0#32
  let arg1 : BitVec 32 := BitVec.ofNat 32 (i 1).val
  let c16_i32_2644 : BitVec 32 := 16#32
  let v4171 : BitVec 32 := Scalar.muli arg1 c16_i32_2644
  let c15_i32_2645 : BitVec 32 := 15#32
  let v4172 : BitVec 32 := Scalar.addi v4171 c15_i32_2645
  let c4_i32_2646 : BitVec 32 := 4#32
  let v4173 : BitVec 32 := Scalar.subi v4172 c4_i32_2646
  let v4174 : BitVec 32 := Scalar.maxsi c0_i32_2647 v4173
  let v4175 : BitVec 32 := Scalar.minsi c120_i32_2648 v4174
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4176 : BitVec 32 := Scalar.subi v4175 v17
  let c64_i32_2649 : BitVec 32 := 64#32
  let v4177 : BitVec 32 := Scalar.muli v4176 c64_i32_2649
  v4177
def k0_mult120 (i : grid0.Coords) : BitVec 32 :=
  let c120_i32_2680 : BitVec 32 := 120#32
  let c0_i32_2679 : BitVec 32 := 0#32
  let arg1 : BitVec 32 := BitVec.ofNat 32 (i 1).val
  let c16_i32_2676 : BitVec 32 := 16#32
  let v4211 : BitVec 32 := Scalar.muli arg1 c16_i32_2676
  let c14_i32_2677 : BitVec 32 := 14#32
  let v4212 : BitVec 32 := Scalar.addi v4211 c14_i32_2677
  let c4_i32_2678 : BitVec 32 := 4#32
  let v4213 : BitVec 32 := Scalar.subi v4212 c4_i32_2678
  let v4214 : BitVec 32 := Scalar.maxsi c0_i32_2679 v4213
  let v4215 : BitVec 32 := Scalar.minsi c120_i32_2680 v4214
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4216 : BitVec 32 := Scalar.subi v4215 v17
  let c64_i32_2681 : BitVec 32 := 64#32
  let v4217 : BitVec 32 := Scalar.muli v4216 c64_i32_2681
  v4217
def k0_mult121 (i : grid0.Coords) : BitVec 32 :=
  let c120_i32_2692 : BitVec 32 := 120#32
  let c0_i32_2691 : BitVec 32 := 0#32
  let arg1 : BitVec 32 := BitVec.ofNat 32 (i 1).val
  let c16_i32_2688 : BitVec 32 := 16#32
  let v4240 : BitVec 32 := Scalar.muli arg1 c16_i32_2688
  let c15_i32_2689 : BitVec 32 := 15#32
  let v4241 : BitVec 32 := Scalar.addi v4240 c15_i32_2689
  let c4_i32_2690 : BitVec 32 := 4#32
  let v4242 : BitVec 32 := Scalar.subi v4241 c4_i32_2690
  let v4243 : BitVec 32 := Scalar.maxsi c0_i32_2691 v4242
  let v4244 : BitVec 32 := Scalar.minsi c120_i32_2692 v4243
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4245 : BitVec 32 := Scalar.subi v4244 v17
  let c64_i32_2693 : BitVec 32 := 64#32
  let v4246 : BitVec 32 := Scalar.muli v4245 c64_i32_2693
  v4246
def k0_mult122 (i : grid0.Coords) : BitVec 32 :=
  let c120_i32_2724 : BitVec 32 := 120#32
  let c0_i32_2723 : BitVec 32 := 0#32
  let arg1 : BitVec 32 := BitVec.ofNat 32 (i 1).val
  let c16_i32_2720 : BitVec 32 := 16#32
  let v4280 : BitVec 32 := Scalar.muli arg1 c16_i32_2720
  let c14_i32_2721 : BitVec 32 := 14#32
  let v4281 : BitVec 32 := Scalar.addi v4280 c14_i32_2721
  let c4_i32_2722 : BitVec 32 := 4#32
  let v4282 : BitVec 32 := Scalar.subi v4281 c4_i32_2722
  let v4283 : BitVec 32 := Scalar.maxsi c0_i32_2723 v4282
  let v4284 : BitVec 32 := Scalar.minsi c120_i32_2724 v4283
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4285 : BitVec 32 := Scalar.subi v4284 v17
  let c64_i32_2725 : BitVec 32 := 64#32
  let v4286 : BitVec 32 := Scalar.muli v4285 c64_i32_2725
  v4286
def k0_mult123 (i : grid0.Coords) : BitVec 32 :=
  let c120_i32_2736 : BitVec 32 := 120#32
  let c0_i32_2735 : BitVec 32 := 0#32
  let arg1 : BitVec 32 := BitVec.ofNat 32 (i 1).val
  let c16_i32_2732 : BitVec 32 := 16#32
  let v4309 : BitVec 32 := Scalar.muli arg1 c16_i32_2732
  let c15_i32_2733 : BitVec 32 := 15#32
  let v4310 : BitVec 32 := Scalar.addi v4309 c15_i32_2733
  let c4_i32_2734 : BitVec 32 := 4#32
  let v4311 : BitVec 32 := Scalar.subi v4310 c4_i32_2734
  let v4312 : BitVec 32 := Scalar.maxsi c0_i32_2735 v4311
  let v4313 : BitVec 32 := Scalar.minsi c120_i32_2736 v4312
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4314 : BitVec 32 := Scalar.subi v4313 v17
  let c64_i32_2737 : BitVec 32 := 64#32
  let v4315 : BitVec 32 := Scalar.muli v4314 c64_i32_2737
  v4315
def k0_mult124 (i : grid0.Coords) : BitVec 32 :=
  let c120_i32_2768 : BitVec 32 := 120#32
  let c0_i32_2767 : BitVec 32 := 0#32
  let arg1 : BitVec 32 := BitVec.ofNat 32 (i 1).val
  let c16_i32_2764 : BitVec 32 := 16#32
  let v4349 : BitVec 32 := Scalar.muli arg1 c16_i32_2764
  let c14_i32_2765 : BitVec 32 := 14#32
  let v4350 : BitVec 32 := Scalar.addi v4349 c14_i32_2765
  let c4_i32_2766 : BitVec 32 := 4#32
  let v4351 : BitVec 32 := Scalar.subi v4350 c4_i32_2766
  let v4352 : BitVec 32 := Scalar.maxsi c0_i32_2767 v4351
  let v4353 : BitVec 32 := Scalar.minsi c120_i32_2768 v4352
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4354 : BitVec 32 := Scalar.subi v4353 v17
  let c64_i32_2769 : BitVec 32 := 64#32
  let v4355 : BitVec 32 := Scalar.muli v4354 c64_i32_2769
  v4355
def k0_mult125 (i : grid0.Coords) : BitVec 32 :=
  let c120_i32_2780 : BitVec 32 := 120#32
  let c0_i32_2779 : BitVec 32 := 0#32
  let arg1 : BitVec 32 := BitVec.ofNat 32 (i 1).val
  let c16_i32_2776 : BitVec 32 := 16#32
  let v4378 : BitVec 32 := Scalar.muli arg1 c16_i32_2776
  let c15_i32_2777 : BitVec 32 := 15#32
  let v4379 : BitVec 32 := Scalar.addi v4378 c15_i32_2777
  let c4_i32_2778 : BitVec 32 := 4#32
  let v4380 : BitVec 32 := Scalar.subi v4379 c4_i32_2778
  let v4381 : BitVec 32 := Scalar.maxsi c0_i32_2779 v4380
  let v4382 : BitVec 32 := Scalar.minsi c120_i32_2780 v4381
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4383 : BitVec 32 := Scalar.subi v4382 v17
  let c64_i32_2781 : BitVec 32 := 64#32
  let v4384 : BitVec 32 := Scalar.muli v4383 c64_i32_2781
  v4384
def k0_mult126 (i : grid0.Coords) : BitVec 32 :=
  let c120_i32_2792 : BitVec 32 := 120#32
  let c0_i32_2791 : BitVec 32 := 0#32
  let arg1 : BitVec 32 := BitVec.ofNat 32 (i 1).val
  let c16_i32_2788 : BitVec 32 := 16#32
  let v4407 : BitVec 32 := Scalar.muli arg1 c16_i32_2788
  let c15_i32_2789 : BitVec 32 := 15#32
  let v4408 : BitVec 32 := Scalar.addi v4407 c15_i32_2789
  let c4_i32_2790 : BitVec 32 := 4#32
  let v4409 : BitVec 32 := Scalar.subi v4408 c4_i32_2790
  let v4410 : BitVec 32 := Scalar.maxsi c0_i32_2791 v4409
  let v4411 : BitVec 32 := Scalar.minsi c120_i32_2792 v4410
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4412 : BitVec 32 := Scalar.subi v4411 v17
  let c64_i32_2793 : BitVec 32 := 64#32
  let v4413 : BitVec 32 := Scalar.muli v4412 c64_i32_2793
  v4413
def k0_mult127 (i : grid0.Coords) : BitVec 32 :=
  let c120_i32_2804 : BitVec 32 := 120#32
  let c0_i32_2803 : BitVec 32 := 0#32
  let arg1 : BitVec 32 := BitVec.ofNat 32 (i 1).val
  let c16_i32_2800 : BitVec 32 := 16#32
  let v4436 : BitVec 32 := Scalar.muli arg1 c16_i32_2800
  let c15_i32_2801 : BitVec 32 := 15#32
  let v4437 : BitVec 32 := Scalar.addi v4436 c15_i32_2801
  let c4_i32_2802 : BitVec 32 := 4#32
  let v4438 : BitVec 32 := Scalar.subi v4437 c4_i32_2802
  let v4439 : BitVec 32 := Scalar.maxsi c0_i32_2803 v4438
  let v4440 : BitVec 32 := Scalar.minsi c120_i32_2804 v4439
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4441 : BitVec 32 := Scalar.subi v4440 v17
  let c64_i32_2805 : BitVec 32 := 64#32
  let v4442 : BitVec 32 := Scalar.muli v4441 c64_i32_2805
  v4442
def k0_mult128 (i : grid0.Coords) : BitVec 32 :=
  let c120_i32_2816 : BitVec 32 := 120#32
  let c0_i32_2815 : BitVec 32 := 0#32
  let arg1 : BitVec 32 := BitVec.ofNat 32 (i 1).val
  let c16_i32_2812 : BitVec 32 := 16#32
  let v4465 : BitVec 32 := Scalar.muli arg1 c16_i32_2812
  let c15_i32_2813 : BitVec 32 := 15#32
  let v4466 : BitVec 32 := Scalar.addi v4465 c15_i32_2813
  let c4_i32_2814 : BitVec 32 := 4#32
  let v4467 : BitVec 32 := Scalar.subi v4466 c4_i32_2814
  let v4468 : BitVec 32 := Scalar.maxsi c0_i32_2815 v4467
  let v4469 : BitVec 32 := Scalar.minsi c120_i32_2816 v4468
  let c104_i32 : BitVec 32 := 104#32
  let c0_i32_3 : BitVec 32 := 0#32
  let c16_i32 : BitVec 32 := 16#32
  let v14 : BitVec 32 := Scalar.muli arg1 c16_i32
  let c4_i32 : BitVec 32 := 4#32
  let v15 : BitVec 32 := Scalar.subi v14 c4_i32
  let v16 : BitVec 32 := Scalar.maxsi c0_i32_3 v15
  let v17 : BitVec 32 := Scalar.minsi c104_i32 v16
  let v4470 : BitVec 32 := Scalar.subi v4469 v17
  let c64_i32_2817 : BitVec 32 := 64#32
  let v4471 : BitVec 32 := Scalar.muli v4470 c64_i32_2817
  v4471
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let c0_i32_0 : BitVec 32 := 0#32
  let c0_i32_1 : BitVec 32 := 0#32
  ![arg0.toNat, v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.subi v0 c4_i32
  let c0_i32 : BitVec 32 := 0#32
  let c104_i32 : BitVec 32 := 104#32
  let v2 : BitVec 32 := Scalar.maxsi c0_i32 v1
  let v3 : BitVec 32 := Scalar.minsi c104_i32 v2
  let c64_i32 : BitVec 32 := 64#32
  let v4 : BitVec 32 := Scalar.muli v3 c64_i32
  let c0_i32_0 : BitVec 32 := 0#32
  let c0_i32_1 : BitVec 32 := 0#32
  ![arg0.toNat, v4.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c_m1_i32 : BitVec 32 := 4294967295#32
  let v19 : BitVec 32 := Scalar.addi v18 c_m1_i32
  let c0_i32_5 : BitVec 32 := 0#32
  let c15_i32 : BitVec 32 := 15#32
  let v20 : BitVec 32 := Scalar.maxsi c0_i32_5 v19
  let v21 : BitVec 32 := Scalar.minsi c15_i32 v20
  let c0_i32_6 : BitVec 32 := 0#32
  let c0_i32_7 : BitVec 32 := 0#32
  ![v21.toNat, c0_i32_6.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c0_i32_5 : BitVec 32 := 0#32
  let v19 : BitVec 32 := Scalar.addi v18 c0_i32_5
  let c0_i32_6 : BitVec 32 := 0#32
  let c15_i32 : BitVec 32 := 15#32
  let v20 : BitVec 32 := Scalar.maxsi c0_i32_6 v19
  let v21 : BitVec 32 := Scalar.minsi c15_i32 v20
  let c0_i32_7 : BitVec 32 := 0#32
  let c0_i32_8 : BitVec 32 := 0#32
  ![v21.toNat, c0_i32_7.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let v19 : BitVec 32 := Scalar.addi v18 c1_i32_5
  let c0_i32_6 : BitVec 32 := 0#32
  let c15_i32 : BitVec 32 := 15#32
  let v20 : BitVec 32 := Scalar.maxsi c0_i32_6 v19
  let v21 : BitVec 32 := Scalar.minsi c15_i32 v20
  let c0_i32_7 : BitVec 32 := 0#32
  let c0_i32_8 : BitVec 32 := 0#32
  ![v21.toNat, c0_i32_7.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x8x15x31 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16384x512 : Shape := ⟨2, ![16384, 512]⟩
abbrev S128x512 : Shape := ⟨2, ![128, 512]⟩
abbrev S16384x1024 : Shape := ⟨2, ![16384, 1024]⟩
abbrev S2x8192x1024 : Shape := ⟨3, ![2, 8192, 1024]⟩
abbrev S1x8x15x31 : Shape := ⟨4, ![1, 8, 15, 31]⟩
abbrev S512x1024 : Shape := ⟨2, ![512, 1024]⟩
abbrev S1024x1024 : Shape := ⟨2, ![1024, 1024]⟩
abbrev S2x8192x8x64 : Shape := ⟨4, ![2, 8192, 8, 64]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S16 : Shape := ⟨1, ![16]⟩
abbrev S1x16 : Shape := ⟨2, ![1, 16]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S128x1x8x1 : Shape := ⟨4, ![128, 1, 8, 1]⟩
abbrev S1x4x1x32 : Shape := ⟨4, ![1, 4, 1, 32]⟩
abbrev S128x4x8x32 : Shape := ⟨4, ![128, 4, 8, 32]⟩
abbrev S128x4x256 : Shape := ⟨3, ![128, 4, 256]⟩
abbrev S4x16x1x32 : Shape := ⟨4, ![4, 16, 1, 32]⟩
abbrev S4x16x8x32 : Shape := ⟨4, ![4, 16, 8, 32]⟩
abbrev S4x16x256 : Shape := ⟨3, ![4, 16, 256]⟩
abbrev S2x128x4x16x8x64 : Shape := ⟨6, ![2, 128, 4, 16, 8, 64]⟩
abbrev S128x4x256x1 : Shape := ⟨4, ![128, 4, 256, 1]⟩
abbrev S2x128x4x256x8x64 : Shape := ⟨6, ![2, 128, 4, 256, 8, 64]⟩
abbrev S2x8x128x4x16x256 : Shape := ⟨6, ![2, 8, 128, 4, 16, 256]⟩
abbrev S8x15x31 : Shape := ⟨3, ![8, 15, 31]⟩
abbrev S128x1x1x8x1 : Shape := ⟨5, ![128, 1, 1, 8, 1]⟩
abbrev S1x4x16x1x32 : Shape := ⟨5, ![1, 4, 16, 1, 32]⟩
abbrev S128x4x16x8x32 : Shape := ⟨5, ![128, 4, 16, 8, 32]⟩
abbrev S128x4x16x8x32x1 : Shape := ⟨6, ![128, 4, 16, 8, 32, 1]⟩
abbrev S128x4x16x8x32x2 : Shape := ⟨6, ![128, 4, 16, 8, 32, 2]⟩
abbrev S8x128x4x16x8x32 : Shape := ⟨6, ![8, 128, 4, 16, 8, 32]⟩
abbrev S8x128x4x16x256 : Shape := ⟨5, ![8, 128, 4, 16, 256]⟩
abbrev S1x8x128x4x16x256 : Shape := ⟨6, ![1, 8, 128, 4, 16, 256]⟩
abbrev S2x8x128x4x16 : Shape := ⟨5, ![2, 8, 128, 4, 16]⟩
abbrev S2x8x128x4x16x1 : Shape := ⟨6, ![2, 8, 128, 4, 16, 1]⟩
abbrev S2x128x4x8x64x16 : Shape := ⟨6, ![2, 128, 4, 8, 64, 16]⟩
abbrev S2x8192x512 : Shape := ⟨3, ![2, 8192, 512]⟩
abbrev S2x8x8x512 : Shape := ⟨4, ![2, 8, 8, 512]⟩
abbrev S2x7x1x512 : Shape := ⟨4, ![2, 7, 1, 512]⟩
abbrev S2x7x512 : Shape := ⟨3, ![2, 7, 512]⟩
abbrev S2x8x512 : Shape := ⟨3, ![2, 8, 512]⟩
abbrev S1024 : Shape := ⟨1, ![1024]⟩
abbrev S1x1x1024x1 : Shape := ⟨4, ![1, 1, 1024, 1]⟩
abbrev S2x8x1024x512 : Shape := ⟨4, ![2, 8, 1024, 512]⟩
abbrev S2x8x1x512 : Shape := ⟨4, ![2, 8, 1, 512]⟩

abbrev nBuf : Space → Nat
  | .hbm => 259
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S128x512, .f32⟩
  | 5 => ⟨S16384x1024, .bf16⟩
  | 6 => ⟨S16384x1024, .bf16⟩
  | 7 => ⟨S2x8192x1024, .f32⟩
  | 8 => ⟨S1x8x15x31, .f32⟩
  | 9 => ⟨S512x1024, .bf16⟩
  | 10 => ⟨S512x1024, .bf16⟩
  | 11 => ⟨S1024x1024, .bf16⟩
  | 12 => ⟨S16384x512, .f32⟩
  | 13 => ⟨S2x8192x8x64, .f32⟩
  | 14 => ⟨S16384x512, .f32⟩
  | 15 => ⟨S2x8192x8x64, .f32⟩
  | 16 => ⟨S16384x512, .f32⟩
  | 17 => ⟨S2x8192x8x64, .f32⟩
  | 18 => ⟨S128, .i32⟩
  | 19 => ⟨S_, .i32⟩
  | 20 => ⟨S128, .i32⟩
  | 21 => ⟨S128, .i32⟩
  | 22 => ⟨S_, .i32⟩
  | 23 => ⟨S_, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128x1, .i32⟩
  | 31 => ⟨S8, .i32⟩
  | 32 => ⟨S1x8, .i32⟩
  | 33 => ⟨S128x8, .i32⟩
  | 34 => ⟨S128x8, .i32⟩
  | 35 => ⟨S128x8, .i32⟩
  | 36 => ⟨S128x1, .i32⟩
  | 37 => ⟨S128x8, .i32⟩
  | 38 => ⟨S128x8, .i32⟩
  | 39 => ⟨S_, .i32⟩
  | 40 => ⟨S128x8, .i32⟩
  | 41 => ⟨S128x8, .i32⟩
  | 42 => ⟨S_, .i32⟩
  | 43 => ⟨S128x8, .i32⟩
  | 44 => ⟨S128x8, .i32⟩
  | 45 => ⟨S4, .i32⟩
  | 46 => ⟨S_, .i32⟩
  | 47 => ⟨S4, .i32⟩
  | 48 => ⟨S4, .i32⟩
  | 49 => ⟨S_, .i32⟩
  | 50 => ⟨S4, .i32⟩
  | 51 => ⟨S4, .i32⟩
  | 52 => ⟨S_, .i32⟩
  | 53 => ⟨S_, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S4x1, .i32⟩
  | 61 => ⟨S32, .i32⟩
  | 62 => ⟨S1x32, .i32⟩
  | 63 => ⟨S4x32, .i32⟩
  | 64 => ⟨S4x32, .i32⟩
  | 65 => ⟨S4x32, .i32⟩
  | 66 => ⟨S4x1, .i32⟩
  | 67 => ⟨S_, .i32⟩
  | 68 => ⟨S4x1, .i32⟩
  | 69 => ⟨S4x1, .i32⟩
  | 70 => ⟨S16, .i32⟩
  | 71 => ⟨S1x16, .i32⟩
  | 72 => ⟨S4x16, .i32⟩
  | 73 => ⟨S4x16, .i32⟩
  | 74 => ⟨S4x16, .i32⟩
  | 75 => ⟨S_, .i32⟩
  | 76 => ⟨S4x16, .i32⟩
  | 77 => ⟨S4x16, .i32⟩
  | 78 => ⟨S_, .i32⟩
  | 79 => ⟨S_, .i32⟩
  | 80 => ⟨S_, .i32⟩
  | 81 => ⟨S4x16, .i32⟩
  | 82 => ⟨S4x16, .i32⟩
  | 83 => ⟨S_, .i32⟩
  | 84 => ⟨S4x16, .i32⟩
  | 85 => ⟨S4x16, .i32⟩
  | 86 => ⟨S4x1x32, .i32⟩
  | 87 => ⟨S4x16x1, .i32⟩
  | 88 => ⟨S4x16x32, .i32⟩
  | 89 => ⟨S4x16x32, .i32⟩
  | 90 => ⟨S4x16x32, .i1⟩
  | 91 => ⟨S4x16x1, .i32⟩
  | 92 => ⟨S_, .i32⟩
  | 93 => ⟨S4x16x1, .i32⟩
  | 94 => ⟨S4x16x1, .i32⟩
  | 95 => ⟨S4x16x32, .i32⟩
  | 96 => ⟨S4x16x32, .i32⟩
  | 97 => ⟨S4x16x32, .i1⟩
  | 98 => ⟨S4x16x32, .i1⟩
  | 99 => ⟨S4x16x1, .i32⟩
  | 100 => ⟨S4x16x32, .i32⟩
  | 101 => ⟨S4x16x32, .i32⟩
  | 102 => ⟨S4x16x32, .i32⟩
  | 103 => ⟨S_, .i32⟩
  | 104 => ⟨S4x16x32, .i32⟩
  | 105 => ⟨S4x16x32, .i32⟩
  | 106 => ⟨S_, .i32⟩
  | 107 => ⟨S4x16x32, .i32⟩
  | 108 => ⟨S4x16x32, .i32⟩
  | 109 => ⟨S_, .i32⟩
  | 110 => ⟨S_, .i32⟩
  | 111 => ⟨S_, .i32⟩
  | 112 => ⟨S4x16x32, .i32⟩
  | 113 => ⟨S4x16x32, .i32⟩
  | 114 => ⟨S_, .i32⟩
  | 115 => ⟨S4x16x32, .i32⟩
  | 116 => ⟨S4x16x32, .i32⟩
  | 117 => ⟨S128x1x8x1, .i32⟩
  | 118 => ⟨S_, .i32⟩
  | 119 => ⟨S128x1x8x1, .i32⟩
  | 120 => ⟨S128x1x8x1, .i32⟩
  | 121 => ⟨S1x4x1x32, .i32⟩
  | 122 => ⟨S128x4x8x32, .i32⟩
  | 123 => ⟨S128x4x8x32, .i32⟩
  | 124 => ⟨S128x4x8x32, .i32⟩
  | 125 => ⟨S128x4x256, .i32⟩
  | 126 => ⟨S4x16x1x32, .i1⟩
  | 127 => ⟨S4x16x8x32, .i1⟩
  | _ => ⟨S16384x512, .bf16⟩

abbrev hbmTy0_1 (i : Nat) : BufTy := match i % 128 with
  | 0 => ⟨S4x16x256, .i1⟩
  | 1 => ⟨S2x128x4x16x8x64, .f32⟩
  | 2 => ⟨S_, .i32⟩
  | 3 => ⟨S128x4x256, .i32⟩
  | 4 => ⟨S128x4x256, .i1⟩
  | 5 => ⟨S_, .i32⟩
  | 6 => ⟨S128x4x256, .i32⟩
  | 7 => ⟨S128x4x256, .i32⟩
  | 8 => ⟨S128x4x256, .i32⟩
  | 9 => ⟨S128x4x256x1, .i32⟩
  | 10 => ⟨S2x128x4x256x8x64, .f32⟩
  | 11 => ⟨S_, .i32⟩
  | 12 => ⟨S128x4x256, .i32⟩
  | 13 => ⟨S128x4x256, .i1⟩
  | 14 => ⟨S_, .i32⟩
  | 15 => ⟨S128x4x256, .i32⟩
  | 16 => ⟨S128x4x256, .i32⟩
  | 17 => ⟨S128x4x256, .i32⟩
  | 18 => ⟨S128x4x256x1, .i32⟩
  | 19 => ⟨S2x128x4x256x8x64, .f32⟩
  | 20 => ⟨S2x8x128x4x16x256, .f32⟩
  | 21 => ⟨S_, .f32⟩
  | 22 => ⟨S2x8x128x4x16x256, .f32⟩
  | 23 => ⟨S2x8x128x4x16x256, .f32⟩
  | 24 => ⟨S8x15x31, .f32⟩
  | 25 => ⟨S128x1x1x8x1, .i32⟩
  | 26 => ⟨S1x4x16x1x32, .i32⟩
  | 27 => ⟨S_, .i32⟩
  | 28 => ⟨S128x1x1x8x1, .i32⟩
  | 29 => ⟨S128x1x1x8x1, .i1⟩
  | 30 => ⟨S_, .i32⟩
  | 31 => ⟨S128x1x1x8x1, .i32⟩
  | 32 => ⟨S128x1x1x8x1, .i32⟩
  | 33 => ⟨S128x1x1x8x1, .i32⟩
  | 34 => ⟨S_, .i32⟩
  | 35 => ⟨S1x4x16x1x32, .i32⟩
  | 36 => ⟨S1x4x16x1x32, .i1⟩
  | 37 => ⟨S_, .i32⟩
  | 38 => ⟨S1x4x16x1x32, .i32⟩
  | 39 => ⟨S1x4x16x1x32, .i32⟩
  | 40 => ⟨S1x4x16x1x32, .i32⟩
  | 41 => ⟨S128x4x16x8x32, .i32⟩
  | 42 => ⟨S128x4x16x8x32, .i32⟩
  | 43 => ⟨S128x4x16x8x32x1, .i32⟩
  | 44 => ⟨S128x4x16x8x32x1, .i32⟩
  | 45 => ⟨S128x4x16x8x32x2, .i32⟩
  | 46 => ⟨S8x128x4x16x8x32, .f32⟩
  | 47 => ⟨S8x128x4x16x256, .f32⟩
  | 48 => ⟨S1x8x128x4x16x256, .f32⟩
  | 49 => ⟨S2x8x128x4x16x256, .f32⟩
  | 50 => ⟨S2x8x128x4x16x256, .f32⟩
  | 51 => ⟨S_, .f32⟩
  | 52 => ⟨S_, .f32⟩
  | 53 => ⟨S2x8x128x4x16x256, .i1⟩
  | 54 => ⟨S2x8x128x4x16x256, .f32⟩
  | 55 => ⟨S2x8x128x4x16x256, .f32⟩
  | 56 => ⟨S_, .f32⟩
  | 57 => ⟨S2x8x128x4x16, .f32⟩
  | 58 => ⟨S_, .f32⟩
  | 59 => ⟨S2x8x128x4x16, .f32⟩
  | 60 => ⟨S2x8x128x4x16, .f32⟩
  | 61 => ⟨S2x8x128x4x16x1, .f32⟩
  | 62 => ⟨S2x8x128x4x16x256, .f32⟩
  | 63 => ⟨S2x8x128x4x16x256, .f32⟩
  | 64 => ⟨S2x8x128x4x16x256, .f32⟩
  | 65 => ⟨S_, .f32⟩
  | 66 => ⟨S2x8x128x4x16, .f32⟩
  | 67 => ⟨S2x8x128x4x16x1, .f32⟩
  | 68 => ⟨S2x8x128x4x16x256, .f32⟩
  | 69 => ⟨S2x8x128x4x16x256, .f32⟩
  | 70 => ⟨S2x128x4x8x64x16, .f32⟩
  | 71 => ⟨S2x128x4x16x8x64, .f32⟩
  | 72 => ⟨S2x8192x512, .f32⟩
  | 73 => ⟨S512x1024, .f32⟩
  | 74 => ⟨S2x8192x1024, .f32⟩
  | 75 => ⟨S2x8x8x512, .f32⟩
  | 76 => ⟨S2x7x1x512, .f32⟩
  | 77 => ⟨S2x7x512, .f32⟩
  | 78 => ⟨S2x7x1x512, .f32⟩
  | 79 => ⟨S2x7x512, .f32⟩
  | 80 => ⟨S2x7x512, .f32⟩
  | 81 => ⟨S_, .i32⟩
  | 82 => ⟨S_, .f32⟩
  | 83 => ⟨S2x8x512, .f32⟩
  | 84 => ⟨S2x7x1x512, .f32⟩
  | 85 => ⟨S2x7x512, .f32⟩
  | 86 => ⟨S2x7x1x512, .f32⟩
  | 87 => ⟨S2x7x512, .f32⟩
  | 88 => ⟨S2x7x512, .f32⟩
  | 89 => ⟨S_, .i32⟩
  | 90 => ⟨S_, .f32⟩
  | 91 => ⟨S2x8x512, .f32⟩
  | 92 => ⟨S1024, .i32⟩
  | 93 => ⟨S1x1x1024x1, .i32⟩
  | 94 => ⟨S16384x512, .f32⟩
  | 95 => ⟨S2x8x1024x512, .f32⟩
  | 96 => ⟨S_, .i32⟩
  | 97 => ⟨S1x1x1024x1, .i32⟩
  | 98 => ⟨S1x1x1024x1, .i1⟩
  | 99 => ⟨S2x8x1x512, .f32⟩
  | 100 => ⟨S_, .f32⟩
  | 101 => ⟨S_, .f32⟩
  | 102 => ⟨S2x8x1024x512, .i1⟩
  | 103 => ⟨S2x8x1024x512, .f32⟩
  | 104 => ⟨S2x8x1024x512, .f32⟩
  | 105 => ⟨S2x8x1024x512, .f32⟩
  | 106 => ⟨S2x8x1024x512, .f32⟩
  | 107 => ⟨S_, .i32⟩
  | 108 => ⟨S1x1x1024x1, .i32⟩
  | 109 => ⟨S1x1x1024x1, .i1⟩
  | 110 => ⟨S2x8x1x512, .f32⟩
  | 111 => ⟨S_, .f32⟩
  | 112 => ⟨S_, .f32⟩
  | 113 => ⟨S2x8x1024x512, .i1⟩
  | 114 => ⟨S2x8x1024x512, .f32⟩
  | 115 => ⟨S2x8x1024x512, .f32⟩
  | 116 => ⟨S2x8x1024x512, .f32⟩
  | 117 => ⟨S2x8x1024x512, .f32⟩
  | 118 => ⟨S2x8192x512, .f32⟩
  | 119 => ⟨S512x1024, .f32⟩
  | 120 => ⟨S2x8192x1024, .f32⟩
  | 121 => ⟨S16384x1024, .f32⟩
  | 122 => ⟨S2x8192x1024, .f32⟩
  | 123 => ⟨S16384x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S16384x512, .bf16⟩

abbrev hbmTy0_2 (i : Nat) : BufTy := match i % 128 with
  | 0 => ⟨S1024x1024, .f32⟩
  | 1 => ⟨S2x8192x1024, .f32⟩
  | 2 => ⟨S2x8192x1024, .f32⟩
  | _ => ⟨S16384x512, .bf16⟩

abbrev hbmTy (i : Nat) : BufTy := match i / 128 with
  | 0 => hbmTy0_0 i
  | 1 => hbmTy0_1 i
  | 2 => hbmTy0_2 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_c_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_9 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_c_11 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_12 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_13 : Ref sig .tc := ⟨.hbm, 103, rfl⟩
abbrev main_v62 : Ref sig .tc := ⟨.hbm, 104, rfl⟩
abbrev main_v63 : Ref sig .tc := ⟨.hbm, 105, rfl⟩
abbrev main_c_14 : Ref sig .tc := ⟨.hbm, 106, rfl⟩
abbrev main_v64 : Ref sig .tc := ⟨.hbm, 107, rfl⟩
abbrev main_v65 : Ref sig .tc := ⟨.hbm, 108, rfl⟩
abbrev main_c_15 : Ref sig .tc := ⟨.hbm, 109, rfl⟩
abbrev main_c_16 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_v66 : Ref sig .tc := ⟨.hbm, 116, rfl⟩
abbrev main_v67 : Ref sig .tc := ⟨.hbm, 117, rfl⟩
abbrev main_c_17 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_18 : Ref sig .tc := ⟨.hbm, 130, rfl⟩
abbrev main_v79 : Ref sig .tc := ⟨.hbm, 131, rfl⟩
abbrev main_v80 : Ref sig .tc := ⟨.hbm, 132, rfl⟩
abbrev main_c_19 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_20 : Ref sig .tc := ⟨.hbm, 139, rfl⟩
abbrev main_v86 : Ref sig .tc := ⟨.hbm, 140, rfl⟩
abbrev main_v87 : Ref sig .tc := ⟨.hbm, 141, rfl⟩
abbrev main_c_21 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_cst : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_22 : Ref sig .tc := ⟨.hbm, 155, rfl⟩
abbrev main_v99 : Ref sig .tc := ⟨.hbm, 156, rfl⟩
abbrev main_v100 : Ref sig .tc := ⟨.hbm, 157, rfl⟩
abbrev main_c_23 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_24 : Ref sig .tc := ⟨.hbm, 162, rfl⟩
abbrev main_v104 : Ref sig .tc := ⟨.hbm, 163, rfl⟩
abbrev main_v105 : Ref sig .tc := ⟨.hbm, 164, rfl⟩
abbrev main_c_25 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_26 : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_v119 : Ref sig .tc := ⟨.hbm, 183, rfl⟩
abbrev main_cst_27 : Ref sig .tc := ⟨.hbm, 184, rfl⟩
abbrev main_v120 : Ref sig .tc := ⟨.hbm, 185, rfl⟩
abbrev main_cst_28 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_29 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_c_30 : Ref sig .tc := ⟨.hbm, 209, rfl⟩
abbrev main_call5_v0 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_c_31 : Ref sig .tc := ⟨.hbm, 217, rfl⟩
abbrev main_call6_v0 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_c_32 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_cst_33 : Ref sig .tc := ⟨.hbm, 228, rfl⟩
abbrev main_call7_v0 : Ref sig .tc := ⟨.hbm, 229, rfl⟩
abbrev main_call7_v1 : Ref sig .tc := ⟨.hbm, 230, rfl⟩
abbrev main_call7_v2 : Ref sig .tc := ⟨.hbm, 231, rfl⟩
abbrev main_call7_v3 : Ref sig .tc := ⟨.hbm, 232, rfl⟩
abbrev main_v156 : Ref sig .tc := ⟨.hbm, 233, rfl⟩
abbrev main_v157 : Ref sig .tc := ⟨.hbm, 234, rfl⟩
abbrev main_c_34 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_35 : Ref sig .tc := ⟨.hbm, 239, rfl⟩
abbrev main_call8_v0 : Ref sig .tc := ⟨.hbm, 240, rfl⟩
abbrev main_call8_v1 : Ref sig .tc := ⟨.hbm, 241, rfl⟩
abbrev main_call8_v2 : Ref sig .tc := ⟨.hbm, 242, rfl⟩
abbrev main_call8_v3 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩

abbrev nD : Nat := 1
abbrev τ : Topo := Topo.v7x

variable {F : FTy → Type} [FloatOps F]

def κ : String → Option EReal := fun
  | "ln2" => some ((Real.log 2 : ℝ) : EReal)
  | "mask" => some ⊥
  | _ => none
-- ==== Kernel2.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1x1x1024 : Shape := ⟨3, ![1, 1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x4096, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S4096x1024, .f32⟩
  | .hbm, ⟨28, _⟩ => ⟨S16384x1024, .f32⟩
  | .hbm, ⟨29, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S1x1x64 : Shape := ⟨3, ![1, 1, 64]⟩
abbrev S1x1x1536 : Shape := ⟨3, ![1, 1, 1536]⟩
abbrev S16384x512 : Shape := ⟨2, ![16384, 512]⟩
abbrev S128x512 : Shape := ⟨2, ![128, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1x32x1024 : Shape := ⟨3, ![1, 32, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S1024x512 : Shape := ⟨2, ![1024, 512]⟩
abbrev S8x512 : Shape := ⟨2, ![8, 512]⟩
abbrev S32x1024 : Shape := ⟨2, ![32, 1024]⟩
abbrev S64x1024 : Shape := ⟨2, ![64, 1024]⟩
abbrev S64x4096 : Shape := ⟨2, ![64, 4096]⟩
abbrev S256x1024 : Shape := ⟨2, ![256, 1024]⟩
abbrev S1040x512 : Shape := ⟨2, ![1040, 512]⟩
abbrev S256 : Shape := ⟨1, ![256]⟩
abbrev S256x1 : Shape := ⟨2, ![256, 1]⟩
abbrev S1024x128 : Shape := ⟨2, ![1024, 128]⟩
abbrev S1x512 : Shape := ⟨2, ![1, 512]⟩
abbrev S1x1024x512 : Shape := ⟨3, ![1, 1024, 512]⟩
abbrev S1024 : Shape := ⟨1, ![1024]⟩
abbrev S1024x1 : Shape := ⟨2, ![1024, 1]⟩
abbrev S1x1x512 : Shape := ⟨3, ![1, 1, 512]⟩
abbrev S4x512 : Shape := ⟨2, ![4, 512]⟩

abbrev nBuf : Space → Nat
  | .hbm => 27
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5120, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024x4096, .f32⟩
  | .hbm, ⟨10, _⟩ => ⟨S1x4096x1024, .f32⟩
  | .hbm, ⟨11, _⟩ => ⟨S1x1x1024, .f32⟩
  | .hbm, ⟨12, _⟩ => ⟨S1x1x64, .f32⟩
  | .hbm, ⟨13, _⟩ => ⟨S1x1x64, .f32⟩
  | .hbm, ⟨14, _⟩ => ⟨S1x1x1536, .f32⟩
  | .hbm, ⟨15, _⟩ => ⟨S16384x512, .bf16⟩
  | .hbm, ⟨16, _⟩ => ⟨S16384x512, .bf16⟩
  | .hbm, ⟨17, _⟩ => ⟨S16384x512, .bf16⟩
  | .hbm, ⟨18, _⟩ => ⟨S16384x512, .bf16⟩
  | .hbm, ⟨19, _⟩ => ⟨S128x512, .f32⟩
  | .hbm, ⟨20, _⟩ => ⟨S16384x1024, .bf16⟩
  | .hbm, ⟨21, _⟩ => ⟨S16384x1024, .bf16⟩
  | .hbm, ⟨22, _⟩ => ⟨S512x1024, .bf16⟩
  | .hbm, ⟨23, _⟩ => ⟨S512x1024, .bf16⟩
  | .hbm, ⟨24, _⟩ => ⟨S1024x1024, .bf16⟩
  | .hbm, ⟨25, _⟩ => ⟨S1024x4096, .bf16⟩
  | .hbm, ⟨26, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5120, .f32⟩
  | .local _ .vmem, ⟨4, _⟩ => ⟨S1x1x64, .f32⟩
  | .local _ .vmem, ⟨5, _⟩ => ⟨S1x1x64, .f32⟩
  | .local _ .vmem, ⟨6, _⟩ => ⟨S1x1x1536, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x4096, .f32⟩
  | .local _ .vmem, ⟨14, _⟩ => ⟨S1x64x4096, .f32⟩
  | .local _ .vmem, ⟨15, _⟩ => ⟨S1x256x1024, .f32⟩
  | .local _ .vmem, ⟨16, _⟩ => ⟨S1x256x1024, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S8x512, .f32⟩
  | .local _ .vmem, ⟨26, _⟩ => ⟨S8x512, .f32⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S32x1024, .bf16⟩
  | .local _ .vmem, ⟨32, _⟩ => ⟨S32x1024, .bf16⟩
  | .local _ .vmem, ⟨33, _⟩ => ⟨S32x1024, .bf16⟩
  | .local _ .vmem, ⟨34, _⟩ => ⟨S32x1024, .bf16⟩
  | .local _ .vmem, ⟨35, _⟩ => ⟨S64x1024, .bf16⟩
  | .local _ .vmem, ⟨36, _⟩ => ⟨S64x1024, .bf16⟩
  | .local _ .vmem, ⟨37, _⟩ => ⟨S64x4096, .bf16⟩
  | .local _ .vmem, ⟨38, _⟩ => ⟨S64x4096, .bf16⟩
  | .local _ .vmem, ⟨39, _⟩ => ⟨S256x1024, .bf16⟩
  | .local _ .vmem, ⟨40, _⟩ => ⟨S256x1024, .bf16⟩
  | .local _ .vmem, ⟨41, _⟩ => ⟨S1040x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev main_v4_8 : Ref sig .tc := ⟨.hbm, 23, rfl⟩
abbrev main_v4_9 : Ref sig .tc := ⟨.hbm, 24, rfl⟩
abbrev main_v4_10 : Ref sig .tc := ⟨.hbm, 25, rfl⟩
abbrev main_v4_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x4096 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference3Ideal.lean ====
abbrev S16384x1024 : Shape := ⟨2, ![16384, 1024]⟩
abbrev S1x1024 : Shape := ⟨2, ![1, 1024]⟩
abbrev S1x1024x5120 : Shape := ⟨3, ![1, 1024, 5120]⟩
abbrev S1x64 : Shape := ⟨2, ![1, 64]⟩
abbrev S1x3x512 : Shape := ⟨3, ![1, 3, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5120 : Shape := ⟨2, ![1024, 5120]⟩
abbrev S16384x5120 : Shape := ⟨2, ![16384, 5120]⟩
abbrev S16384x512 : Shape := ⟨2, ![16384, 512]⟩
abbrev S16384x8x64 : Shape := ⟨3, ![16384, 8, 64]⟩
abbrev S64 : Shape := ⟨1, ![64]⟩
abbrev S16384x8 : Shape := ⟨2, ![16384, 8]⟩
abbrev S16384x8x1 : Shape := ⟨3, ![16384, 8, 1]⟩
abbrev S1x1x64 : Shape := ⟨3, ![1, 1, 64]⟩
abbrev S16x1024x512 : Shape := ⟨3, ![16, 1024, 512]⟩
abbrev S3x512 : Shape := ⟨2, ![3, 512]⟩
abbrev S16x1026x512 : Shape := ⟨3, ![16, 1026, 512]⟩
abbrev S1x512 : Shape := ⟨2, ![1, 512]⟩
abbrev S512 : Shape := ⟨1, ![512]⟩
abbrev S1x1x512 : Shape := ⟨3, ![1, 1, 512]⟩
abbrev S16x1x512 : Shape := ⟨3, ![16, 1, 512]⟩
abbrev S16x512 : Shape := ⟨2, ![16, 512]⟩
abbrev S16x4x512 : Shape := ⟨3, ![16, 4, 512]⟩
abbrev S16x8x512 : Shape := ⟨3, ![16, 8, 512]⟩
abbrev S128x512 : Shape := ⟨2, ![128, 512]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 168
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x5120, .f32⟩
  | 3 => ⟨S1x64, .f32⟩
  | 4 => ⟨S1x64, .f32⟩
  | 5 => ⟨S1x3x512, .f32⟩
  | 6 => ⟨S1x512x1024, .f32⟩
  | 7 => ⟨S1x512x1024, .f32⟩
  | 8 => ⟨S1x1024x1024, .f32⟩
  | 9 => ⟨S1x1024x4096, .f32⟩
  | 10 => ⟨S1x4096x1024, .f32⟩
  | 11 => ⟨S1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S1024x5120, .f32⟩
  | 29 => ⟨S16384x5120, .f32⟩
  | 30 => ⟨S16384x512, .f32⟩
  | 31 => ⟨S16384x512, .f32⟩
  | 32 => ⟨S16384x512, .f32⟩
  | 33 => ⟨S16384x512, .f32⟩
  | 34 => ⟨S16384x512, .f32⟩
  | 35 => ⟨S16384x512, .f32⟩
  | 36 => ⟨S16384x1024, .f32⟩
  | 37 => ⟨S16384x1024, .f32⟩
  | 38 => ⟨S16384x8x64, .f32⟩
  | 39 => ⟨S64, .f32⟩
  | 40 => ⟨S16384x8x64, .f32⟩
  | 41 => ⟨S_, .f32⟩
  | 42 => ⟨S16384x8, .f32⟩
  | 43 => ⟨S16384x8x1, .f32⟩
  | 44 => ⟨S_, .f32⟩
  | 45 => ⟨S16384x8x1, .f32⟩
  | 46 => ⟨S16384x8x1, .f32⟩
  | 47 => ⟨S_, .f32⟩
  | 48 => ⟨S16384x8x1, .f32⟩
  | 49 => ⟨S16384x8x1, .f32⟩
  | 50 => ⟨S16384x8x1, .f32⟩
  | 51 => ⟨S16384x8x64, .f32⟩
  | 52 => ⟨S16384x8x64, .f32⟩
  | 53 => ⟨S1x1x64, .f32⟩
  | 54 => ⟨S16384x8x64, .f32⟩
  | 55 => ⟨S16384x8x64, .f32⟩
  | 56 => ⟨S_, .f32⟩
  | 57 => ⟨S16384x8x64, .f32⟩
  | 58 => ⟨S16384x8x64, .f32⟩
  | 59 => ⟨S16384x8x64, .f32⟩
  | 60 => ⟨S64, .f32⟩
  | 61 => ⟨S16384x8x64, .f32⟩
  | 62 => ⟨S_, .f32⟩
  | 63 => ⟨S16384x8, .f32⟩
  | 64 => ⟨S16384x8x1, .f32⟩
  | 65 => ⟨S_, .f32⟩
  | 66 => ⟨S16384x8x1, .f32⟩
  | 67 => ⟨S16384x8x1, .f32⟩
  | 68 => ⟨S_, .f32⟩
  | 69 => ⟨S16384x8x1, .f32⟩
  | 70 => ⟨S16384x8x1, .f32⟩
  | 71 => ⟨S16384x8x1, .f32⟩
  | 72 => ⟨S16384x8x64, .f32⟩
  | 73 => ⟨S16384x8x64, .f32⟩
  | 74 => ⟨S1x1x64, .f32⟩
  | 75 => ⟨S16384x8x64, .f32⟩
  | 76 => ⟨S16384x8x64, .f32⟩
  | 77 => ⟨S16x1024x512, .f32⟩
  | 78 => ⟨S16x1024x512, .f32⟩
  | 79 => ⟨S16x1024x512, .f32⟩
  | 80 => ⟨S3x512, .f32⟩
  | 81 => ⟨S16x1024x512, .f32⟩
  | 82 => ⟨S_, .i32⟩
  | 83 => ⟨S_, .f32⟩
  | 84 => ⟨S16x1026x512, .f32⟩
  | 85 => ⟨S16x1024x512, .f32⟩
  | 86 => ⟨S1x512, .f32⟩
  | 87 => ⟨S512, .f32⟩
  | 88 => ⟨S1x1x512, .f32⟩
  | 89 => ⟨S16x1024x512, .f32⟩
  | 90 => ⟨S16x1024x512, .f32⟩
  | 91 => ⟨S16x1024x512, .f32⟩
  | 92 => ⟨S1x512, .f32⟩
  | 93 => ⟨S512, .f32⟩
  | 94 => ⟨S1x1x512, .f32⟩
  | 95 => ⟨S16x1024x512, .f32⟩
  | 96 => ⟨S16x1024x512, .f32⟩
  | 97 => ⟨S16x1024x512, .f32⟩
  | 98 => ⟨S16x1024x512, .f32⟩
  | 99 => ⟨S1x512, .f32⟩
  | 100 => ⟨S512, .f32⟩
  | 101 => ⟨S1x1x512, .f32⟩
  | 102 => ⟨S16x1024x512, .f32⟩
  | 103 => ⟨S16x1024x512, .f32⟩
  | 104 => ⟨S16x1024x512, .f32⟩
  | 105 => ⟨S16x1x512, .f32⟩
  | 106 => ⟨S16x512, .f32⟩
  | 107 => ⟨S16x1x512, .f32⟩
  | 108 => ⟨S16x512, .f32⟩
  | 109 => ⟨S16x1x512, .f32⟩
  | 110 => ⟨S16x512, .f32⟩
  | 111 => ⟨S1x512, .f32⟩
  | 112 => ⟨S512, .f32⟩
  | 113 => ⟨S1x512, .f32⟩
  | 114 => ⟨S16x512, .f32⟩
  | 115 => ⟨S16x512, .f32⟩
  | 116 => ⟨S16x1x512, .f32⟩
  | 117 => ⟨S16x512, .f32⟩
  | 118 => ⟨S1x512, .f32⟩
  | 119 => ⟨S512, .f32⟩
  | 120 => ⟨S1x512, .f32⟩
  | 121 => ⟨S16x512, .f32⟩
  | 122 => ⟨S16x512, .f32⟩
  | 123 => ⟨S16x1x512, .f32⟩
  | 124 => ⟨S16x1x512, .f32⟩
  | 125 => ⟨S16x1x512, .f32⟩
  | 126 => ⟨S16x1x512, .f32⟩
  | 127 => ⟨S16x4x512, .f32⟩
  | _ => ⟨S16384x1024, .f32⟩

abbrev hbmTy0_1 (i : Nat) : BufTy := match i % 128 with
  | 0 => ⟨S_, .i32⟩
  | 1 => ⟨S_, .f32⟩
  | 2 => ⟨S16x8x512, .f32⟩
  | 3 => ⟨S16384x512, .f32⟩
  | 4 => ⟨S16384x512, .bf16⟩
  | 5 => ⟨S16384x512, .f32⟩
  | 6 => ⟨S16384x512, .bf16⟩
  | 7 => ⟨S16384x512, .bf16⟩
  | 8 => ⟨S16x1024x512, .f32⟩
  | 9 => ⟨S16384x512, .f32⟩
  | 10 => ⟨S16384x512, .bf16⟩
  | 11 => ⟨S128x512, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .bf16⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .bf16⟩
  | 30 => ⟨S512x1024, .f32⟩
  | 31 => ⟨S512x1024, .bf16⟩
  | 32 => ⟨S512x1024, .f32⟩
  | 33 => ⟨S512x1024, .bf16⟩
  | 34 => ⟨S1024x1024, .f32⟩
  | 35 => ⟨S1024x1024, .bf16⟩
  | 36 => ⟨S1024x4096, .f32⟩
  | 37 => ⟨S1024x4096, .bf16⟩
  | 38 => ⟨S4096x1024, .f32⟩
  | 39 => ⟨S4096x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_call0_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_c_9 : Ref sig .tc := ⟨.hbm, 128, rfl⟩
abbrev main_call1_v0 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_10 : Ref sig .tc := ⟨.hbm, 142, rfl⟩
abbrev main_v117 : Ref sig .tc := ⟨.hbm, 143, rfl⟩
abbrev main_v118 : Ref sig .tc := ⟨.hbm, 144, rfl⟩
abbrev main_cst_11 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_cst_12 : Ref sig .tc := ⟨.hbm, 151, rfl⟩
abbrev main_v124 : Ref sig .tc := ⟨.hbm, 152, rfl⟩
abbrev main_v125 : Ref sig .tc := ⟨.hbm, 153, rfl⟩
abbrev main_cst_13 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩

abbrev nD : Nat := 1
abbrev τ : Topo := Topo.v7x

variable {F : FTy → Type} [FloatOps F]
-- ==== Proof.TableRun.lean ====
/- The mixer's bias table.  At its first grid point the kernel builds, once, a table of the relative-position
   biases laid out for its score tiles; every point reads it.  Here: what the part of the body that holds this
   building leaves in the table's buffer, at the first point and at the others. -/
module

public import proofs.«01_k».proof.Proof.Gen.KernelIdeal.Frame
public import proofs.«01_k».proof.Proof.Gen.KernelIdeal.Skeleton

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Whether a grid point is the first: the word the body branches on. -/
abbrev firstWord (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- A row's residue by the branch tile's height, as the body computes it. -/
abbrev residueWord (i : grid0.Coords) : BitVec 32 :=
  Scalar.select (Scalar.andi (Scalar.xori (Scalar.cmpi .slt (Scalar.remsi (BitVec.ofNat 32 (i 1).val) (Scalar.select (Scalar.cmpi .eq 1#32 0#32) 1#32 1#32)) 0#32)
      (Scalar.cmpi .slt (Scalar.select (Scalar.cmpi .eq 1#32 0#32) 1#32 1#32) 0#32))
      (Scalar.cmpi .ne (Scalar.remsi (BitVec.ofNat 32 (i 1).val) (Scalar.select (Scalar.cmpi .eq 1#32 0#32) 1#32 1#32)) 0#32))
    (Scalar.addi (Scalar.remsi (BitVec.ofNat 32 (i 1).val) (Scalar.select (Scalar.cmpi .eq 1#32 0#32) 1#32 1#32)) (Scalar.select (Scalar.cmpi .eq 1#32 0#32) 1#32 1#32))
    (Scalar.remsi (BitVec.ofNat 32 (i 1).val) (Scalar.select (Scalar.cmpi .eq 1#32 0#32) 1#32 1#32))

/-- The first row of the key window. -/
abbrev windowWord (i : grid0.Coords) : BitVec 32 :=
  Scalar.minsi 104#32 (Scalar.maxsi 0#32 (Scalar.subi (Scalar.muli (BitVec.ofNat 32 (i 1).val) 16#32) 4#32))

/-- Whether a block of rows lies above this one. -/
abbrev aboveWord (i : grid0.Coords) : BitVec 1 :=
  Scalar.andi (Scalar.cmpi .eq (residueWord i) 0#32) (Scalar.cmpi .sgt (BitVec.ofNat 32 (i 1).val) 0#32)

/-- Whether a block of rows lies below this one. -/
abbrev belowWord (i : grid0.Coords) : BitVec 1 :=
  Scalar.andi (Scalar.cmpi .eq (residueWord i) 0#32) (Scalar.cmpi .slt (BitVec.ofNat 32 (i 1).val) 7#32)

variable (c : Dev nD) (i : grid0.Coords)
  (arg2 : Memref sig .tc .vmem S1x1024x512 .bf16) (harg2 : arg2.IsWhole)
  (arg3 : Memref sig .tc .vmem S1x1536x512 .bf16) (harg3 : arg3.IsWhole)
  (arg4 : Memref sig .tc .vmem S1x1536x512 .bf16) (harg4 : arg4.IsWhole)
  (arg5 : Memref sig .tc .vmem S1x1024x512 .bf16) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S1x1024x1024 .bf16) (harg9 : arg9.IsWhole)
  (arg10 : Memref sig .tc .vmem S1x1024x1024 .bf16) (harg10 : arg10.IsWhole)
  (arg11 : Memref sig .tc .vmem S1x1024x1024 .f32) (harg11 : arg11.IsWhole)
  (arg12 : Memref sig .tc .vmem S1x8x15x31 .f32) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S1024x1024 .bf16) (harg15 : arg15.IsWhole)
  (arg16 : Memref sig .tc .vmem S1x1024x1024 .f32) (harg16 : arg16.IsWhole)
  (arg17 : Memref sig .tc .vmem S1024x512 .bf16) (harg17 : arg17.IsWhole)
  (arg18 : Memref sig .tc .vmem S1024x512 .bf16) (harg18 : arg18.IsWhole)
  (arg19 : Memref sig .tc .vmem S4x14x128x128 .f32) (harg19 : arg19.IsWhole)

set_option maxHeartbeats 4000000 in
/-- The first point: the part builds the table from the biases `x10`, whatever the buffer held. -/
def tableRun (hfirst : firstWord i = 1#1) (x5 : Vec F S8x512 .f32) (x10 : Vec F S1x8x15x31 .f32) :
    { L : List (View.Piece (Elt F) S4x14x128x128 .f32) //
      ∀ (E : Set ℕ) (K : (Σ' (arg1 : BitVec 32) (v7 : IVec S64x128 1) (v10 : FVec F S64x128 .bf16) (v12 : FVec F S64x128 .bf16) (v13 : FVec F S512x128 .bf16) (v17 : BitVec 32) (v30 : BitVec 1) (v33 : BitVec 1), Vec F S1x512 .f32) → sProp 𝕄),
        iprop(owns (c : Thread nD τ) arg7 fullShare x5 ∗ owns (c : Thread nD τ) arg12 fullShare x10 ∗ (∃ d, owns (c : Thread nD τ) arg19 fullShare d)
            ∗ (iprop(owns (c : Thread nD τ) arg7 fullShare x5 ∗ owns (c : Thread nD τ) arg12 fullShare x10
                ∗ (∃ f, arg19.view.loc (c : Thread nD τ) ↦[arg19.view.set]{fullShare} arg19.view.writes (Elt F) f L)) -∗ K ⟨BitVec.ofNat 32 (i 1).val, k0_pay175, k0_pay176, k0_pay177, k0_pay178, windowWord i, aboveWord i, belowWord i, View.readAt (Elt F) arg7.view (Rect.unit (s := S8x512) ![2, 0] S1x512.size inb_S8x512_S1x512_2_0).toLoadRect (harg7.unread x5)⟩))
          ⊢ wp frame (wpE (defs₀ (F := F)) Variants.none c none) E
              (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [k0_part37_eq_skeleton]; unfold k0_part37_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f5, %hf5, H5⟩, ⟨%f10, %hf10, H10⟩, ⟨%ds, %fs, -, HS⟩, Hk⟩
    obtain rfl := harg7.eq_unread hf5; obtain rfl := harg12.eq_unread hf10
    sl_exec (disch := exact hfirst)
    sl_step
    iapply Hk
    isplitl [H5]
    · iexists _; isplitr; · ipureintro; exact harg7.read_unread _
      iexact H5
    isplitl [H10]
    · iexists _; isplitr; · ipureintro; exact harg12.read_unread _
      iexact H10
    iexists _; iexact HS

/-- The other points: the part leaves the table as it was. -/
def tableRest (hrest : ¬ firstWord i = 1#1) (x5 : Vec F S8x512 .f32) :
    { _u : Unit // ∀ (E : Set ℕ) (K : (Σ' (arg1 : BitVec 32) (v7 : IVec S64x128 1) (v10 : FVec F S64x128 .bf16) (v12 : FVec F S64x128 .bf16) (v13 : FVec F S512x128 .bf16) (v17 : BitVec 32) (v30 : BitVec 1) (v33 : BitVec 1), Vec F S1x512 .f32) → sProp 𝕄),
    iprop(owns (c : Thread nD τ) arg7 fullShare x5
        ∗ (owns (c : Thread nD τ) arg7 fullShare x5 -∗ K ⟨BitVec.ofNat 32 (i 1).val, k0_pay175, k0_pay176, k0_pay177, k0_pay178, windowWord i, aboveWord i, belowWord i, View.readAt (Elt F) arg7.view (Rect.unit (s := S8x512) ![2, 0] S1x512.size inb_S8x512_S1x512_2_0).toLoadRect (harg7.unread x5)⟩))
      ⊢ wp frame (wpE (defs₀ (F := F)) Variants.none c none) E
          (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨(), fun E K => ?_⟩
  simp only [k0_part37_eq_skeleton]; unfold k0_part37_skel
  unfold owns
  iintro ⟨⟨%f5, %hf5, H5⟩, Hk⟩
  obtain rfl := harg7.eq_unread hf5
  sl_exec (disch := exact hrest)
  sl_step
  have e1 : tableRest.sl.v17 i = windowWord i := rfl
  have e2 : tableRest.sl.v30 i = aboveWord i := rfl
  have e3 : tableRest.sl.v33 i = belowWord i := rfl
  rw [e1, e2, e3]
  iapply Hk
  iexists _; isplitr; · ipureintro; exact harg7.read_unread _
  iexact H5

/-- The pieces stored fill the table. -/
theorem table_cover (hfirst : firstWord i = 1#1) (x5 : Vec F S8x512 .f32) (x10 : Vec F S1x8x15x31 .f32) (y : S4x14x128x128.Idx) :
    ∃ pc ∈ (tableRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hfirst x5 x10).1, y ∈ pc.1.set :=
  View.cover_of_tiledL (tableRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hfirst x5 x10).1 S1x1x64x128.size (by sl_kernel_rfl) y

end Cert.KernelIdeal.Mixer

end
-- ==== Proof.PointRun.lean ====
/- One grid point of the mixer: the body run from its blocks and the bias table to what it stores. -/
module

public import proofs.«01_k».proof.Proof.TableRun

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg2 : Memref sig .tc .vmem S1x1024x512 .bf16) (harg2 : arg2.IsWhole)
  (arg3 : Memref sig .tc .vmem S1x1536x512 .bf16) (harg3 : arg3.IsWhole)
  (arg4 : Memref sig .tc .vmem S1x1536x512 .bf16) (harg4 : arg4.IsWhole)
  (arg5 : Memref sig .tc .vmem S1x1024x512 .bf16) (harg5 : arg5.IsWhole)
  (arg6 : Memref sig .tc .vmem S8x512 .f32) (harg6 : arg6.IsWhole)
  (arg7 : Memref sig .tc .vmem S8x512 .f32) (harg7 : arg7.IsWhole)
  (arg8 : Memref sig .tc .vmem S8x512 .f32) (harg8 : arg8.IsWhole)
  (arg9 : Memref sig .tc .vmem S1x1024x1024 .bf16) (harg9 : arg9.IsWhole)
  (arg10 : Memref sig .tc .vmem S1x1024x1024 .bf16) (harg10 : arg10.IsWhole)
  (arg11 : Memref sig .tc .vmem S1x1024x1024 .f32) (harg11 : arg11.IsWhole)
  (arg12 : Memref sig .tc .vmem S1x8x15x31 .f32) (harg12 : arg12.IsWhole)
  (arg13 : Memref sig .tc .vmem S512x1024 .bf16) (harg13 : arg13.IsWhole)
  (arg14 : Memref sig .tc .vmem S512x1024 .bf16) (harg14 : arg14.IsWhole)
  (arg15 : Memref sig .tc .vmem S1024x1024 .bf16) (harg15 : arg15.IsWhole)
  (arg16 : Memref sig .tc .vmem S1x1024x1024 .f32) (harg16 : arg16.IsWhole)
  (arg17 : Memref sig .tc .vmem S1024x512 .bf16) (harg17 : arg17.IsWhole)
  (arg18 : Memref sig .tc .vmem S1024x512 .bf16) (harg18 : arg18.IsWhole)
  (arg19 : Memref sig .tc .vmem S4x14x128x128 .f32) (harg19 : arg19.IsWhole)

/-- What the part holding the table's building does, from any statement `P` of the table's buffer to the table `T`. -/
def TablePart (P : sProp 𝕄) (x5 : Vec F S8x512 .f32) (x10 : Vec F S1x8x15x31 .f32) (T : Vec F S4x14x128x128 .f32) : Prop :=
  ∀ (E : Set ℕ) (K : (Σ' (arg1 : BitVec 32) (v7 : IVec S64x128 1) (v10 : FVec F S64x128 .bf16) (v12 : FVec F S64x128 .bf16) (v13 : FVec F S512x128 .bf16) (v17 : BitVec 32) (v30 : BitVec 1) (v33 : BitVec 1), Vec F S1x512 .f32) → sProp 𝕄),
    iprop(owns (c : Thread nD τ) arg7 fullShare x5 ∗ owns (c : Thread nD τ) arg12 fullShare x10 ∗ P
        ∗ (iprop(owns (c : Thread nD τ) arg7 fullShare x5 ∗ owns (c : Thread nD τ) arg12 fullShare x10 ∗ owns (c : Thread nD τ) arg19 fullShare T) -∗ K ⟨BitVec.ofNat 32 (i 1).val, k0_pay175, k0_pay176, k0_pay177, k0_pay178, windowWord i, aboveWord i, belowWord i, View.readAt (Elt F) arg7.view (Rect.unit (s := S8x512) ![2, 0] S1x512.size inb_S8x512_S1x512_2_0).toLoadRect (harg7.unread x5)⟩))
      ⊢ wp frame (wpE (defs₀ (F := F)) Variants.none c none) E (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K

set_option maxHeartbeats 16000000 in
/-- The body of a point, with what it leaves in the output block, in the buffer of attended values and in the branch buffer. -/
def pointRun (x0 : Vec F S1x1024x512 .bf16) (x1 : Vec F S1x1536x512 .bf16) (x2 : Vec F S1x1536x512 .bf16) (x3 : Vec F S1x1024x512 .bf16) (x4 : Vec F S8x512 .f32) (x5 : Vec F S8x512 .f32) (x6 : Vec F S8x512 .f32) (x7 : Vec F S1x1024x1024 .bf16) (x8 : Vec F S1x1024x1024 .bf16) (x9 : Vec F S1x1024x1024 .f32) (x10 : Vec F S1x8x15x31 .f32) (x11 : Vec F S512x1024 .bf16) (x12 : Vec F S512x1024 .bf16) (x13 : Vec F S1024x1024 .bf16)
    (T : Vec F S4x14x128x128 .f32) :
    Σ' (L14 : List (View.Piece (Elt F) S1x1024x1024 .f32)) (L17 : List (View.Piece (Elt F) S1024x512 .bf16)), { L18 : List (View.Piece (Elt F) S1024x512 .bf16) //
      ∀ (P : sProp 𝕄) (hP : TablePart c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 P x5 x10 T) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ P
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13
                ∗ (∃ f, arg16.view.loc (c : Thread nD τ) ↦[arg16.view.set]{fullShare} arg16.view.writes (Elt F) f L14)
                ∗ (∃ f, arg17.view.loc (c : Thread nD τ) ↦[arg17.view.set]{fullShare} arg17.view.writes (Elt F) f L17)
                ∗ (∃ f, arg18.view.loc (c : Thread nD τ) ↦[arg18.view.set]{fullShare} arg18.view.writes (Elt F) f L18)
                ∗ owns (c : Thread nD τ) arg19 fullShare T) -∗ K ⟨⟩))
          ⊢ wp frame (wpE (defs₀ (F := F)) Variants.none c none) E
              (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun P hP E K => ?run⟩
  case run =>
    simp only [cc0_mixer_eq_skeleton]; unfold cc0_mixer_skel
    rw [k0_part161_eq_skeleton]; unfold k0_part161_skel
    rw [Prog.bind_assoc, wp_bind]
    iintro ⟨H0, H1, H2, H3, H4, H5, H6, H7, H8, H9, H10, H11, H12, H13, H14, HS0, HS1, HP, Hk⟩
    iapply (hP E _)
    isplitl [H5]; · iexact H5
    isplitl [H10]; · iexact H10
    isplitl [HP]; · iexact HP
    iintro ⟨H5, H10, HT⟩
    simp only [k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part162_eq_skeleton]
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%f10, %hf10, H10⟩
    icases H11 with ⟨%f11, %hf11, H11⟩
    icases H12 with ⟨%f12, %hf12, H12⟩
    icases H13 with ⟨%f13, %hf13, H13⟩
    icases H14 with ⟨%d14, %f14, -, H14⟩
    icases HS0 with ⟨%ds0, %fs0, -, HS0⟩
    icases HS1 with ⟨%ds1, %fs1, -, HS1⟩
    icases HT with ⟨%fT, %hfT, HT⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hf11
    obtain rfl := harg14.eq_unread hf12
    obtain rfl := harg15.eq_unread hf13
    obtain rfl := harg19.eq_unread hfT
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [HS0]; · iexists _; iexact HS0
    isplitl [HS1]; · iexists _; iexact HS1
    iexists _; isplitr; · ipureintro; exact harg19.read_unread _
    iexact HT

end Cert.KernelIdeal.Mixer

end
-- ==== Proof.MixerFrame.lean ====
/- The mixer's frame: every run terminates with the argument arrays unchanged and every semaphore at zero.  The
   invariant carried from one grid point to the next says that the table's buffer holds the table of biases, except
   before the first point, where it holds anything. -/
module

public import proofs.«01_k».proof.Proof.PointRun
public import Idealize.ShloMosaic.Lib.Claim

@[expose] public section

set_option maxRecDepth 16384

noncomputable section

namespace Cert.KernelIdeal.Mixer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers -/

abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x15x31 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024x1024 .f32 := win0_14.stage (cfg0.slots t 14)
abbrev hs0_14 (t : Fin cfg0.N) : (ms0_14 t).IsWhole := hstage0_14 ((cfg0.slots t 14).cast nbuf0_14)
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S4x14x128x128 .f32 := Memref.whole cc0_scratch2

/-! ## The table and the output block -/

/-- The first point is the one whose two coordinates are zero. -/
theorem firstWord_zero : firstWord (grid0.coords t0_0) = 1#1 := by decide +kernel

theorem firstWord_ne (t : Fin cfg0.N) (ht : t.val ≠ 0) : ¬ firstWord (grid0.coords t) = 1#1 := by
  revert t; decide +kernel

/-- The table of biases the first point builds. -/
def table (c : Dev nD) : Vec F S4x14x128x128 .f32 :=
  View.canon (tableRun c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) scM0_0 (Memref.isWhole_whole _) scM0_1 (Memref.isWhole_whole _) scM0_2 (Memref.isWhole_whole _) firstWord_zero (iblk m c 5 t0_0) (iblk m c 10 t0_0)).1

/-- What the body leaves in the output block at point `t`. -/
def outAt (c : Dev nD) (t : Fin cfg0.N) : Vec F S1x1024x1024 .f32 :=
  View.canon (pointRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (table m c)).1

theorem out_cover (c : Dev nD) (t : Fin cfg0.N) (y : S1x1024x1024.Idx) :
    ∃ pc ∈ (pointRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (table m c)).1, y ∈ pc.1.set :=
  View.cover_of_tiledL (pointRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (table m c)).1 S1x1024x1024.size (by sl_kernel_rfl) y

/-- The first point builds the table. -/
theorem tablePart_first (c : Dev nD) :
    TablePart c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) scM0_0 (Memref.isWhole_whole _) scM0_1 (Memref.isWhole_whole _) scM0_2 (Memref.isWhole_whole _) iprop(∃ d, owns (c : Thread nD τ) scM0_2 fullShare d)
      (iblk m c 5 t0_0) (iblk m c 10 t0_0) (table m c) := by
  intro E K
  iintro ⟨H5, H10, HS, Hk⟩
  iapply ((tableRun c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) scM0_0 (Memref.isWhole_whole _) scM0_1 (Memref.isWhole_whole _) scM0_2 (Memref.isWhole_whole _) firstWord_zero (iblk m c 5 t0_0) (iblk m c 10 t0_0)).2 E K)
  isplitl [H5]; · iexact H5
  isplitl [H10]; · iexact H10
  isplitl [HS]; · iexact HS
  iintro ⟨H5, H10, ⟨%f, HS⟩⟩
  iapply Hk
  isplitl [H5]; · iexact H5
  isplitl [H10]; · iexact H10
  unfold owns; iexists _; isplitr
  swap; · iexact HS
  ipureintro
  exact View.read_writes_eq_canon _ _ _ (table_cover c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) scM0_0 (Memref.isWhole_whole _) scM0_1 (Memref.isWhole_whole _) scM0_2 (Memref.isWhole_whole _) firstWord_zero (iblk m c 5 t0_0) (iblk m c 10 t0_0))

/-- The other points find it built. -/
theorem tablePart_rest (c : Dev nD) (t : Fin cfg0.N) (ht : t.val ≠ 0) :
    TablePart c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) iprop(owns (c : Thread nD τ) scM0_2 fullShare (table m c))
      (iblk m c 5 t) (iblk m c 10 t) (table m c) := by
  intro E K
  iintro ⟨H5, H10, HS, Hk⟩
  iapply ((tableRest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (firstWord_ne t ht) (iblk m c 5 t)).2 E K)
  isplitl [H5]; · iexact H5
  iintro H5
  iapply Hk
  isplitl [H5]; · iexact H5
  isplitl [H10]; · iexact H10
  iexact HS

/-! ## The proof data -/

/-- The table's buffer before point `t`. -/
def tableAt (c : Dev nD) (t : ℕ) : sProp 𝕄 :=
  if t = 0 then iprop(∃ d, owns (c : Thread nD τ) scM0_2 fullShare d)
  else iprop(owns (c : Thread nD τ) scM0_2 fullShare (table m c))

/-- What is carried from point to point: two scratch buffers at anything, the table, the generator's register. -/
def carried (c : Dev nD) (t : ℕ) : sProp 𝕄 :=
  iprop(((∃ d, owns (c : Thread nD τ) scM0_0 fullShare d) ∗ (∃ d, owns (c : Thread nD τ) scM0_1 fullShare d) ∗ tableAt m c t)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ t := carried m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

/-- The body at a point, from a statement `P` of the table's buffer to the table. -/
theorem body_of (c : Dev nD) (t : Fin cfg0.N) (P : sProp 𝕄)
    (hP : TablePart c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) P (iblk m c 5 t) (iblk m c 10 t) (table m c)) :
    iprop((((∃ d, owns (c : Thread nD τ) scM0_0 fullShare d) ∗ (∃ d, owns (c : Thread nD τ) scM0_1 fullShare d) ∗ P) ∗ (∃ r, prngReg c r))
        ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d))
        ∗ (∃ d, owns (c : Thread nD τ) (ms0_12 t) fullShare ((dats m 0 c).before 12 t d))
        ∗ (∃ d, owns (c : Thread nD τ) (ms0_13 t) fullShare ((dats m 0 c).before 13 t d))
        ∗ (∃ d, owns (c : Thread nD τ) (ms0_14 t) fullShare ((dats m 0 c).before 14 t d)))
      ⊢ wp frame (wpE (defs₀ (F := F)) Variants.none c none) Set.univ (bodyAt0 t) (fun _ => bodyPost m c t) := by
  unfold bodyPost bodyAt0
  simp only [before0_0, before0_1, before0_2, before0_3, before0_4, before0_5, before0_6, before0_7, before0_8, before0_9, before0_10, before0_11, before0_12, before0_13]
  rw [show (dats m 0 c).Φ t.succ = carried m c (t.val + 1) from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  unfold carried tableAt
  rw [if_neg (Nat.succ_ne_zero _)]
  iintro ⟨⟨⟨HS0, HS1, HP⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((pointRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (table m c)).2.2.2 P hP Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HP]; · iexact HP
  iintro ⟨H0, H1, H2, H3, H4, H5, H6, H7, H8, H9, H10, H11, H12, H13, ⟨%e14, H14⟩, ⟨%e0, HS0⟩, ⟨%e1, HS1⟩, HT⟩
  isplitl [HS0 HS1 HT Hg]
  · isplitl [HS0 HS1 HT]
    · isplitl [HS0]
      · iexists _; unfold owns; iexists _; isplitr
        swap; · iexact HS0
        ipureintro; rfl
      isplitl [HS1]
      · iexists _; unfold owns; iexists _; isplitr
        swap; · iexact HS1
        ipureintro; rfl
      iexact HT
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  unfold owns; iexists _; isplitr
  swap; · iexact H14
  ipureintro; exact View.read_writes_eq_canon _ _ _ (out_cover m c t)

theorem sound_body (c : Dev nD) (t : Fin cfg0.N) :
    bodyPre m c t ⊢ wp frame (wpE (defs₀ (F := F)) Variants.none c none) Set.univ (bodyAt0 t) (fun _ => bodyPost m c t) := by
  unfold bodyPre
  rw [show (dats m 0 c).Φ t.castSucc = carried m c t.val from rfl]
  unfold carried tableAt
  by_cases ht : t.val = 0
  · obtain rfl : t = t0_0 := Fin.ext ht
    rw [if_pos ht]
    exact body_of m c t0_0 _ (tablePart_first m c)
  · rw [if_neg ht]
    exact body_of m c t _ (tablePart_rest m c t ht)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem phiA_eq (c : Dev nD) :
    (Pipeline.ΦA spec0 c : sProp 𝕄)
      = iprop(((∃ d, owns (c : Thread nD τ) scM0_0 fullShare d) ∗ (∃ d, owns (c : Thread nD τ) scM0_1 fullShare d)
          ∗ (∃ d, owns (c : Thread nD τ) scM0_2 fullShare d)) ∗ (∃ r, prngReg c r)) := by
  unfold Pipeline.ΦA; rw [scopedRest0_eq]; simp only [scM0_0, scM0_1, scM0_2, owns_whole]; try rfl

theorem carried_in (c : Dev nD) : Pipeline.ΦA spec0 c ⊢ (carried m c 0 : sProp 𝕄) := by
  rw [phiA_eq]; unfold carried tableAt; rw [if_pos rfl]

theorem carried_out (c : Dev nD) : (carried m c grid0.N : sProp 𝕄) ⊢ Pipeline.ΦA spec0 c := by
  rw [phiA_eq]; unfold carried tableAt; rw [if_neg (by rw [N_0]; decide)]
  iintro ⟨⟨H0, H1, H2⟩, Hg⟩
  isplitl [H0 H1 H2]
  · isplitl [H0]; · iexact H0
    isplitl [H1]; · iexact H1
    iexists _; iexact H2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => carried_in m c) (hout := fun c => carried_out m c)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Mixer

end
-- ==== Proof.Pieces.lean ====
module

public import Idealize.ShloMosaic.Lib.Pipeline.ValueKit
public import Idealize.ShloMosaic.Lib.Pipeline.ReadBack

/-!
# A buffer filled piece by piece

A body fills a scratch buffer with several stores and reads it back. When every piece is a part of ONE array `G`,
and the pieces cover what is read, the buffer reads as `G`, in whatever order the pieces were stored.
-/

@[expose] public section

namespace Cert.Pieces

open Idealize.ShloMosaic Idealize.SL.Sem

variable {Val : EltTy → Type} [∀ e, Nonempty (Val e)] {s : Shape} {e : EltTy}

/-- Pieces of `G`, one of which holds the index `y`, leave there the entry of `G`. -/
theorem canon_eq (L : List (View.Piece Val s e)) (G : s.Idx → Val e)
    (hp : ∀ p ∈ L, ∀ x, p.2 x = G (p.1.emb x)) (y : s.Idx) (hy : ∃ p ∈ L, y ∈ p.1.set) : View.canon L y = G y :=
  View.canon_eq_of_allAt L y _ hy fun p hm x hx => hx ▸ hp p hm x

/-- The same for a load of a box whose indices are all held by pieces. -/
theorem readCov_eq {sig : RefSig} {κ : Kind} {sp : Space} (v : View sig κ sp s e) (L : List (View.Piece Val s e))
    (B : LoadRect s) (G : s.Idx → Val e) (hp : ∀ p ∈ L, ∀ x, p.2 x = G (p.1.emb x))
    (hc : ∀ j : B.shape.Idx, ∃ p ∈ L, B.idx j ∈ p.1.set) : v.readCov L B = fun j => G (B.idx j) := by
  rw [View.readCov_eq_canon']
  exact funext fun j => canon_eq L G hp _ (hc j)

/-- A box over the whole shape puts every index at itself. -/
theorem idx_unit_zero {off : Fin s.rank → ℕ} (inb : ∀ a, off a + s.size a ≤ s.size a) (h : ∀ a, off a = 0) (i : s.Idx) :
    (Rect.unit off s.size inb).toLoadRect.idx i = i := by
  funext a
  refine Fin.ext ?_
  show off a + 1 * (i a : ℕ) = i a
  rw [h a]; omega

/-- A buffer read back whole. -/
theorem readCov_whole {sig : RefSig} {κ : Kind} {sp : Space} (v : View sig κ sp s e) (L : List (View.Piece Val s e))
    {off : Fin s.rank → ℕ} (inb : ∀ a, off a + s.size a ≤ s.size a) (h : ∀ a, off a = 0) (G : s.Idx → Val e)
    (hp : ∀ p ∈ L, ∀ x, p.2 x = G (p.1.emb x)) (hc : ∀ y, ∃ p ∈ L, y ∈ p.1.set) :
    v.readCov L (Rect.unit off s.size inb).toLoadRect = G := by
  rw [readCov_eq v L _ G hp fun j => hc _]
  exact funext fun j => congrArg G (idx_unit_zero inb h j)

/-- The place in the buffer of an entry of a box. -/
theorem emb_val {off size : Fin s.rank → ℕ} (inb : ∀ a, off a + size a ≤ s.size a) (j : (Rect.unit off size inb).shape.Idx)
    (a : Fin s.rank) : ((Rect.unit off size inb).emb j a : ℕ) = off a + j a := by
  show off a + 1 * (j a : ℕ) = _
  omega

/-- A load of a box at an index is the array at that index moved by the box's offsets. -/
theorem ld_eq {off size : Fin s.rank → ℕ} (inb : ∀ a, off a + size a ≤ s.size a) (X : s.Idx → Val e)
    (j : (Rect.unit off size inb).shape.Idx) (y : s.Idx) (h : ∀ a, off a + j a = y a) :
    View.ld X (Rect.unit off size inb) j = X y := by
  refine congrArg X (funext fun a => Fin.ext ?_)
  show off a + 1 * (j a : ℕ) = y a
  rw [← h a]; omega

/-- The two coordinates of an entry of a box in a matrix. -/
theorem emb_row {M N m n o p : ℕ} (inb : ∀ a, ![o, p] a + ![m, n] a ≤ (⟨2, ![M, N]⟩ : Shape).size a)
    (j : (⟨2, ![m, n]⟩ : Shape).Idx) : o + (j 0 : ℕ) = ((Rect.unit (s := ⟨2, ![M, N]⟩) ![o, p] ![m, n] inb).emb j 0 : ℕ) :=
  (emb_val (s := ⟨2, ![M, N]⟩) (off := ![o, p]) (size := ![m, n]) inb j 0).symm

theorem emb_col {M N m n o p : ℕ} (inb : ∀ a, ![o, p] a + ![m, n] a ≤ (⟨2, ![M, N]⟩ : Shape).size a)
    (j : (⟨2, ![m, n]⟩ : Shape).Idx) : p + (j 1 : ℕ) = ((Rect.unit (s := ⟨2, ![M, N]⟩) ![o, p] ![m, n] inb).emb j 1 : ℕ) :=
  (emb_val (s := ⟨2, ![M, N]⟩) (off := ![o, p]) (size := ![m, n]) inb j 1).symm

/-- A load of a box of a matrix. -/
theorem ld_ix2 {M N m n o p : ℕ} (inb : ∀ a, ![o, p] a + ![m, n] a ≤ (⟨2, ![M, N]⟩ : Shape).size a)
    (X : (⟨2, ![M, N]⟩ : Shape).Idx → Val e) (r : Fin m) (k : Fin n) (R : Fin M) (K : Fin N) (hr : o + (r : ℕ) = R) (hk : p + (k : ℕ) = K) :
    View.ld X (Rect.unit (s := ⟨2, ![M, N]⟩) ![o, p] ![m, n] inb) (ix2 r k) = X (ix2 R K) :=
  ld_eq inb X _ _ (Fin.forall_fin_two.2 ⟨hr, hk⟩)

end Cert.Pieces

end
-- ==== Proof.MixerRows.lean ====
/- The mixer's convolution branch over the whole sequence, and the result it gives without the attention. -/
module

public import Idealize.ShloMosaic.Lib.Pipeline.ValueKit

@[expose] public section

noncomputable section

namespace Cert.MixerRows

open Idealize.ShloMosaic

/-- The convolution within each piece of 1024 tokens: rows over both sequences. -/
abbrev Rows := (⟨2, ![16384, 512]⟩ : Shape).Idx → EReal
/-- Eight rows for each piece, of which four are used: the piece's first and last row, and what its first and last token take from outside. -/
abbrev Edges := (⟨2, ![128, 512]⟩ : Shape).Idx → EReal

/-- Row `e` of the eight of piece `i` of sequence `b`. -/
def edge (E : Edges) (b : Fin 2) (i : ℕ) (e : Fin 8) (k : Fin 512) : EReal :=
  E (ix2 (⟨(b * 8 + min i 7) * 8 + e, by have := Nat.min_le_right i 7; omega⟩ : Fin 128) k)

/-- What the first token of piece `i` takes from the piece before. -/
def before (E : Edges) (b : Fin 2) (i : ℕ) (k : Fin 512) : EReal := if 0 < i then edge E b i 2 k * edge E b (i - 1) 1 k else 0

/-- What the last token of piece `i` takes from the piece after. -/
def after (E : Edges) (b : Fin 2) (i : ℕ) (k : Fin 512) : EReal := if i < 7 then edge E b i 3 k * edge E b (i + 1) 0 k else 0

/-- The convolution branch at token `r` of piece `i`. -/
def piece (B : Rows) (E : Edges) (b : Fin 2) (i : Fin 8) (r : Fin 1024) (k : Fin 512) : EReal :=
  B (ix2 (⟨(b * 8 + i) * 1024 + r, by omega⟩ : Fin 16384) k)
    + ((if (r : ℕ) = 0 then before E b i k else 0) + if (r : ℕ) = 1023 then after E b i k else 0)

/-- The residual and the gated branch through the output's weights, at token `r` of piece `i`. -/
def pieceOut (B : Rows) (E : Edges) (gb : (⟨2, ![16384, 1024]⟩ : Shape).Idx → EReal) (x : (⟨3, ![2, 8192, 1024]⟩ : Shape).Idx → EReal)
    (wb : (⟨2, ![512, 1024]⟩ : Shape).Idx → EReal) (wo : (⟨2, ![1024, 1024]⟩ : Shape).Idx → EReal)
    (b : Fin 2) (i : Fin 8) (r : Fin 1024) (n : Fin 1024) : EReal :=
  x (ix3 b (⟨i * 1024 + r, by omega⟩ : Fin 8192) n)
    + ∑ j, (gb (ix2 (⟨(b * 8 + i) * 1024 + r, by omega⟩ : Fin 16384) j) * ∑ k, piece B E b i r k * wb (ix2 k j)) * wo (ix2 j n)

/-- The same at a token of the sequence. -/
def out (B : Rows) (E : Edges) (gb : (⟨2, ![16384, 1024]⟩ : Shape).Idx → EReal) (x : (⟨3, ![2, 8192, 1024]⟩ : Shape).Idx → EReal)
    (wb : (⟨2, ![512, 1024]⟩ : Shape).Idx → EReal) (wo : (⟨2, ![1024, 1024]⟩ : Shape).Idx → EReal)
    (b : Fin 2) (s : Fin 8192) (n : Fin 1024) : EReal :=
  pieceOut B E gb x wb wo b (⟨s / 1024, by omega⟩ : Fin 8) (⟨s % 1024, by omega⟩ : Fin 1024) n

theorem out_piece (B : Rows) (E : Edges) (gb : (⟨2, ![16384, 1024]⟩ : Shape).Idx → EReal) (x : (⟨3, ![2, 8192, 1024]⟩ : Shape).Idx → EReal)
    (wb : (⟨2, ![512, 1024]⟩ : Shape).Idx → EReal) (wo : (⟨2, ![1024, 1024]⟩ : Shape).Idx → EReal)
    (b : Fin 2) (i : Fin 8) (r : Fin 1024) (n : Fin 1024) :
    out B E gb x wb wo b (⟨i * 1024 + r, by omega⟩ : Fin 8192) n = pieceOut B E gb x wb wo b i r n := by
  have h1 : (⟨(i.val * 1024 + r.val) / 1024, by omega⟩ : Fin 8) = i := Fin.ext (by simp only; omega)
  have h2 : (⟨(i.val * 1024 + r.val) % 1024, by omega⟩ : Fin 1024) = r := Fin.ext (by simp only; omega)
  exact congrArg₂ (fun i r => pieceOut B E gb x wb wo b i r n) h1 h2

/-- A choice by a compared row number is the choice by the number. -/
theorem row_select (r k : ℕ) (hr : r < 2 ^ 32) (hk : k < 2 ^ 32) (a b : EReal) :
    Scalar.select (IntOp.cmpi CmpIPredicate.eq (BitVec.ofNat 32 r) (BitVec.ofNat 32 k)) a b = if r = k then a else b := by
  have h : (BitVec.ofNat 32 r = BitVec.ofNat 32 k) ↔ r = k := by
    rw [← BitVec.toNat_inj, BitVec.toNat_ofNat, BitVec.toNat_ofNat, Nat.mod_eq_of_lt hr, Nat.mod_eq_of_lt hk]
  by_cases c : r = k
  · simp [Scalar.select, IntOp.cmpi, h, c]
  · have h' : (BitVec.ofNat 32 r == BitVec.ofNat 32 k) = false := beq_eq_false_iff_ne.2 fun e => c (h.1 e)
    simp [Scalar.select, IntOp.cmpi, h', c]

end Cert.MixerRows

end
-- ==== Proof.MixerBlock.lean ====
/- What a grid point of the mixer writes, from its blocks: the convolution branch in full, the attention's product as it is. -/
module

public import proofs.«01_k».proof.Proof.MixerFrame
public import proofs.«01_k».proof.Proof.Pieces
public import proofs.«01_k».proof.Proof.MixerRows

@[expose] public section

set_option maxRecDepth 16384

noncomputable section

namespace Cert.KernelIdeal.Mixer

open Cert.KernelIdeal Cert.KernelIdeal.Gen Idealize.ShloMosaic Idealize.ShloMosaic.TcCoe Idealize.SL.Sem

variable (m : (ℓ : Loc nD τ sig) → Buf (Elt Ideal) ℓ)

/-! ## The branch buffer -/

/-- What a product across a border adds to row `r`: `first` to the first row, `last` to the last. -/
def border (first last : EReal) (r : Fin 1024) : EReal :=
  (if (r : ℕ) = 0 then first else 0) + if (r : ℕ) = 1023 then last else 0

/-- The convolution of a block of rows: the one taken within the block, and the products across its two borders. -/
def branch (x : FVec Ideal S1x1024x512 .bf16) (first last : Fin 512 → EReal) : S1024x512.Idx → EReal :=
  fun i => x (ix3 0 (i 0) (i 1)) + border (first (i 1)) (last (i 1)) (i 0)

/-- The product across the border above, where there is one. -/
def firstOf (w : BitVec 1) (e p : FVec Ideal S8x512 .f32) (n : Fin 512) : EReal :=
  if w = 1#1 then e (ix2 2 n) * p (ix2 1 n) else 0

/-- The product across the border below, where there is one. -/
def lastOf (w : BitVec 1) (e p : FVec Ideal S8x512 .f32) (n : Fin 512) : EReal :=
  if w = 1#1 then e (ix2 3 n) * p (ix2 0 n) else 0

/-- A choice by a word of one bit. -/
theorem bit_select (w : BitVec 1) (a b : EReal) : Scalar.select w a b = if w = 1#1 then a else b := by
  rcases BitVec.eq_zero_or_eq_one w with h | h <;> subst h <;> rfl

/-- The first sixteen rows, as stored. -/
theorem top_at (w : BitVec 1) (a b : FVec Ideal S1x512 .f32) (x : FVec Ideal S1x16x512 .bf16) (r : Fin 16) (n : Fin 512) :
    k0_pay181 (F := Ideal) w a b x (ix2 r n)
      = x (ix3 0 r n) + if (r : ℕ) = 0 then (if w = 1#1 then a (ix2 0 n) * b (ix2 0 n) else 0) else 0 := by
  have h1 := Cert.MixerRows.row_select r 0 (by omega) (by omega)
  have h2 := bit_select w
  pointwise [k0_pay181]
  exact congrArg _ ((h1 _ _).trans (by rw [h2]))

/-- The last sixteen rows, as stored. -/
theorem bottom_at (w : BitVec 1) (a b : FVec Ideal S1x512 .f32) (x : FVec Ideal S1x16x512 .bf16) (r : Fin 16) (n : Fin 512) :
    k0_pay184 (F := Ideal) (k0_pay179 w a b) (k0_pay182 x) k0_pay183 (ix2 r n)
      = x (ix3 0 r n) + if (r : ℕ) = 15 then (if w = 1#1 then a (ix2 0 n) * b (ix2 0 n) else 0) else 0 := by
  have h1 := Cert.MixerRows.row_select r 15 (by omega) (by omega)
  have h2 := bit_select w
  pointwise [k0_pay184, k0_pay179, k0_pay182, k0_pay183]
  exact congrArg _ ((h1 _ _).trans (by rw [h2]))

theorem middle_at (x : FVec Ideal S1x1024x512 .bf16) (r : Fin 1024) (n : Fin 512) :
    k0_pay180 (F := Ideal) x (ix2 r n) = x (ix3 0 r n) := by
  pointwise [k0_pay180]

/-- A band of whole rows written over a matrix. -/
theorem canon_band {M N o h : ℕ} {e : EltTy} (inb : ∀ a, ![o, 0] a + ![h, N] a ≤ (⟨2, ![M, N]⟩ : Shape).size a)
    (w : (Rect.unit (s := ⟨2, ![M, N]⟩) ![o, 0] ![h, N] inb).shape.Idx → Elt Ideal e)
    (L : List (View.Piece (Elt Ideal) ⟨2, ![M, N]⟩ e)) (r : Fin M) (n : Fin N) :
    View.canon (⟨Rect.unit (s := ⟨2, ![M, N]⟩) ![o, 0] ![h, N] inb, w⟩ :: L) (ix2 r n)
      = if c : o ≤ (r : ℕ) ∧ (r : ℕ) - o < h then w (ix2 (⟨(r : ℕ) - o, c.2⟩ : Fin h) n) else View.canon L (ix2 r n) := by
  split_ifs with c
  · refine Eq.trans (congrArg _ ?_) (View.canon_cons_emb _ w L (ix2 (⟨(r : ℕ) - o, c.2⟩ : Fin h) n))
    refine funext (Fin.forall_fin_two.2 ⟨Fin.ext ?_, Fin.ext ?_⟩)
    · show (r : ℕ) = o + 1 * ((r : ℕ) - o)
      omega
    · show (n : ℕ) = 0 + 1 * (n : ℕ)
      omega
  · refine View.canon_cons_of_not_mem _ L fun hm => c ?_
    have := (Rect.mem_set_unit (s := ⟨2, ![M, N]⟩) (off := ![o, 0]) (size := ![h, N]) (inb := inb)).1 hm 0
    have h1 : o ≤ (r : ℕ) := this.1
    have h2 : (r : ℕ) < o + h := this.2
    omega

/-- The stores into the branch buffer, newest first: the last and the first sixteen rows, over the block's rows. -/
def stored (w v : BitVec 1) (x : FVec Ideal S1x1024x512 .bf16) (a b a' b' : FVec Ideal S1x512 .f32) (y y' : FVec Ideal S1x16x512 .bf16) :
    List (View.Piece (Elt Ideal) S1024x512 .bf16) :=
  [⟨Rect.unit ![1008,0] ![16,512] inb_S1024x512_S16x512_1008_0, k0_pay184 (F := Ideal) (k0_pay179 v a' b') (k0_pay182 y') k0_pay183⟩,
   ⟨Rect.unit ![0,0] ![16,512] inb_S1024x512_S16x512_0_0, k0_pay181 (F := Ideal) w a b y⟩,
   ⟨Rect.unit ![0,0] ![1024,512] inb_S1024x512_S1024x512_0_0, k0_pay180 (F := Ideal) x⟩]

/-- What the stores leave: the block's rows, and the products across its borders. -/
theorem stored_at (w v : BitVec 1) (x : FVec Ideal S1x1024x512 .bf16) (e p q : FVec Ideal S8x512 .f32)
    (a b a' b' : FVec Ideal S1x512 .f32) (y y' : FVec Ideal S1x16x512 .bf16) (k : Fin 512)
    (ha : a (ix2 0 k) = e (ix2 2 k)) (hb : b (ix2 0 k) = p (ix2 1 k)) (ha' : a' (ix2 0 k) = e (ix2 3 k)) (hb' : b' (ix2 0 k) = q (ix2 0 k))
    (hy : ∀ (r : Fin 16) (R : Fin 1024), (r : ℕ) = R → y (ix3 0 r k) = x (ix3 0 R k))
    (hy' : ∀ (r : Fin 16) (R : Fin 1024), 1008 + (r : ℕ) = R → y' (ix3 0 r k) = x (ix3 0 R k)) (r : Fin 1024) :
    View.canon (stored w v x a b a' b' y y') (ix2 r k) = branch x (firstOf w e p) (lastOf v e q) (ix2 r k) := by
  refine (canon_band (M := 1024) (N := 512) inb_S1024x512_S16x512_1008_0 _ _ r k).trans ?_
  show _ = x (ix3 0 r k) + border (firstOf w e p k) (lastOf v e q k) r
  split_ifs with c
  · refine (bottom_at v _ _ _ _ _).trans ?_
    rw [ha', hb', hy' _ r (by show 1008 + ((r : ℕ) - 1008) = r; omega)]
    unfold border lastOf
    rw [if_neg (show ¬ (r : ℕ) = 0 by omega), zero_add]
    exact congrArg _ (if_congr (by show (r : ℕ) - 1008 = 15 ↔ _; omega) rfl rfl)
  · refine (canon_band (M := 1024) (N := 512) inb_S1024x512_S16x512_0_0 _ _ r k).trans ?_
    split_ifs with d
    · refine (top_at w _ _ _ _ _).trans ?_
      rw [ha, hb, hy _ r (by show (r : ℕ) - 0 = r; omega)]
      unfold border firstOf
      rw [if_neg (show ¬ (r : ℕ) = 1023 by omega), add_zero]
      exact congrArg _ (if_congr (by show (r : ℕ) - 0 = 0 ↔ _; omega) rfl rfl)
    · refine (canon_band (M := 1024) (N := 512) inb_S1024x512_S1024x512_0_0 _ _ r k).trans ?_
      rw [dif_pos (by omega)]
      refine (middle_at x _ k).trans ?_
      unfold border
      rw [if_neg (show ¬ (r : ℕ) = 1023 by omega), if_neg (show ¬ (r : ℕ) = 0 by omega), add_zero, add_zero]
      exact congrArg x (congrArg (fun r' => ix3 0 r' k) (Fin.ext (by show (r : ℕ) - 0 = r; omega)))

theorem stored_eq (w v : BitVec 1) (x : FVec Ideal S1x1024x512 .bf16) (e p q : FVec Ideal S8x512 .f32)
    (a b a' b' : FVec Ideal S1x512 .f32) (y y' : FVec Ideal S1x16x512 .bf16)
    (ha : ∀ k, a (ix2 0 k) = e (ix2 2 k)) (hb : ∀ k, b (ix2 0 k) = p (ix2 1 k)) (ha' : ∀ k, a' (ix2 0 k) = e (ix2 3 k))
    (hb' : ∀ k, b' (ix2 0 k) = q (ix2 0 k))
    (hy : ∀ k (r : Fin 16) (R : Fin 1024), (r : ℕ) = R → y (ix3 0 r k) = x (ix3 0 R k))
    (hy' : ∀ k (r : Fin 16) (R : Fin 1024), 1008 + (r : ℕ) = R → y' (ix3 0 r k) = x (ix3 0 R k)) :
    View.canon (stored w v x a b a' b' y y') = branch x (firstOf w e p) (lastOf v e q) := by
  funext i
  idx_vars i
  exact stored_at w v x e p q a b a' b' y y' _ (ha _) (hb _) (ha' _) (hb' _) (hy _) (hy' _) _

/-- A buffer read back whole is what its stores leave. -/
theorem readCov_canon {sig : RefSig} {κ : Kind} {sp : Space} {s : Shape} {e : EltTy} (v : View sig κ sp s e)
    (L : List (View.Piece (Elt Ideal) s e)) {off : Fin s.rank → ℕ} (inb : ∀ a, off a + s.size a ≤ s.size a) (h : ∀ a, off a = 0) :
    v.readCov L (Rect.unit off s.size inb).toLoadRect = View.canon L := by
  rw [View.readCov_eq_canon']
  exact funext fun j => congrArg (View.canon L) (Cert.Pieces.idx_unit_zero inb h j)

/-- A load of rows of a block of one leading entry. -/
theorem ld_rows {o : ℕ} (inb : ∀ a, ![0, o, 0] a + ![1, 16, 512] a ≤ S1x1024x512.size a) (X : FVec Ideal S1x1024x512 .bf16)
    (r : Fin 16) (k : Fin 512) (R : Fin 1024) (h : o + (r : ℕ) = R) :
    View.ld (Val := Elt Ideal) (S := S1x1024x512) (e' := .bf16) X (Rect.unit (s := S1x1024x512) ![0, o, 0] ![1, 16, 512] inb) (ix3 0 r k) = X (ix3 0 R k) :=
  Cert.Pieces.ld_eq (Val := Elt Ideal) (s := S1x1024x512) (e := .bf16) inb X _ _
    (Fin.forall_fin_succ.2 ⟨rfl, Fin.forall_fin_two.2 ⟨h, Nat.zero_add _⟩⟩)

/-! ## The block written -/

/-- A block of the result, from the attention's product `A`, the branch's `B`, the gates, the residual and the output's weights. -/
def written (A : FVec Ideal S1024x1024 .f32) (B : S1024x512.Idx → EReal) (wb : FVec Ideal S512x1024 .bf16)
    (ga gb : FVec Ideal S1x1024x1024 .bf16) (x : FVec Ideal S1x1024x1024 .f32) (wo : FVec Ideal S1024x1024 .bf16)
    (r n : Fin 1024) : EReal :=
  x (ix3 0 r n) + ∑ j, (ga (ix3 0 r j) * A (ix2 r j) + gb (ix3 0 r j) * ∑ k, B (ix2 r k) * wb (ix2 k j)) * wo (ix2 j n)

/-- The two branches gated, added, and multiplied into the residual. -/
theorem out_at (A : FVec Ideal S1024x1024 .f32) (B : FVec Ideal S1024x512 .bf16) (wb : FVec Ideal S512x1024 .bf16)
    (ga gb : FVec Ideal S1x1024x1024 .bf16) (x : FVec Ideal S1x1024x1024 .f32) (wo : FVec Ideal S1024x1024 .bf16)
    (r n : Fin 1024) :
    k0_pay1 (F := Ideal) A B wb ga gb x wo (ix3 0 r n)
      = written A B wb ga gb x wo r n := by
  unfold written
  pointwise [k0_pay1]

/-- What a grid point writes: there is a product of the attention with which the block is this. -/
theorem outAt_eq (c : Dev nD) (t : Fin cfg0.N) : ∃ A : FVec Ideal S1024x1024 .f32, ∀ r n : Fin 1024,
    outAt m c t (ix3 0 r n) = written A
      (branch (iblk m c 3 t) (firstOf (aboveWord (grid0.coords t)) (iblk m c 5 t) (iblk m c 4 t))
        (lastOf (belowWord (grid0.coords t)) (iblk m c 5 t) (iblk m c 6 t)))
      (iblk m c 12 t) (iblk m c 7 t) (iblk m c 8 t) (iblk m c 9 t) (iblk m c 13 t) r n := by
  unfold outAt pointRun
  dsimp only
  unfold pointRun.sl.r_118
  generalize k0_pay465 (F := Ideal) _ _ = A
  unfold pointRun.sl.v4497 pointRun.sl.HS1_3
  frame_out
  refine ⟨A, fun r n => (out_at A _ _ _ _ _ _ r n).trans ?_⟩
  refine congrArg (fun B => written A B (iblk m c 12 t) (iblk m c 7 t) (iblk m c 8 t) (iblk m c 9 t) (iblk m c 13 t) r n) ?_
  refine (readCov_canon (View.whole cc0_scratch1) _ inb_S1024x512_S1024x512_0_0 (by decide)).trans ?_
  refine stored_eq (aboveWord (grid0.coords t)) (belowWord (grid0.coords t)) (iblk m c 3 t) (iblk m c 5 t) (iblk m c 4 t) (iblk m c 6 t) _ _ _ _ _ _ ?_ ?_ ?_ ?_ ?_ ?_
  · exact fun k => Cert.Pieces.ld_ix2 inb_S8x512_S1x512_2_0 _ 0 k 2 k rfl (Nat.zero_add _)
  · exact fun k => Cert.Pieces.ld_ix2 inb_S8x512_S1x512_1_0 _ 0 k 1 k rfl (Nat.zero_add _)
  · exact fun k => Cert.Pieces.ld_ix2 inb_S8x512_S1x512_3_0 _ 0 k 3 k rfl (Nat.zero_add _)
  · exact fun k => Cert.Pieces.ld_ix2 inb_S8x512_S1x512_0_0 _ 0 k 0 k rfl (Nat.zero_add _)
  · exact fun k r R h => ld_rows inb_S1x1024x512_S1x16x512_0_0_0 _ r k R ((Nat.zero_add _).trans h)
  · exact fun k r R h => ld_rows inb_S1x1024x512_S1x16x512_0_1008_0 _ r k R h

end Cert.KernelIdeal.Mixer

end
-- ==== Proof.MixerValue.lean ====
/- The mixer's whole result, at the tokens whose attention gate is closed. -/
module

public import proofs.«01_k».proof.Proof.MixerBlock
public import proofs.«01_k».proof.Proof.MixerRows

@[expose] public section

set_option maxRecDepth 16384

noncomputable section

namespace Cert.KernelIdeal.Mixer

open Cert.KernelIdeal Cert.KernelIdeal.Gen Idealize.ShloMosaic Idealize.ShloMosaic.TcCoe Idealize.SL.Sem

variable (m : (ℓ : Loc nD τ sig) → Buf (Elt Ideal) ℓ)

/-- The block each window takes at point `t`: piece `t % 8` of sequence `t / 8`; the edges also of the pieces beside it, whichever sequence these are of. -/
theorem idx (t : Fin cfg0.N) : win0_3.index t = ![t.val / 8, t.val % 8, 0]
    ∧ win0_4.index t = ![t.val - 1, 0] ∧ win0_5.index t = ![t.val, 0]
    ∧ win0_6.index t = ![min (t.val + 1) 15, 0] ∧ win0_7.index t = ![t.val / 8, t.val % 8, 0]
    ∧ win0_8.index t = ![t.val / 8, t.val % 8, 0] ∧ win0_9.index t = ![t.val / 8, t.val % 8, 0]
    ∧ win0_12.index t = ![0, 0] ∧ win0_13.index t = ![0, 0] ∧ win0_14.index t = ![t.val / 8, t.val % 8, 0] :=
  (by decide +kernel : ∀ t : Fin grid0.N, win0_3.index t = ![t.val / 8, t.val % 8, 0]
    ∧ win0_4.index t = ![t.val - 1, 0] ∧ win0_5.index t = ![t.val, 0]
    ∧ win0_6.index t = ![min (t.val + 1) 15, 0] ∧ win0_7.index t = ![t.val / 8, t.val % 8, 0]
    ∧ win0_8.index t = ![t.val / 8, t.val % 8, 0] ∧ win0_9.index t = ![t.val / 8, t.val % 8, 0]
    ∧ win0_12.index t = ![0, 0] ∧ win0_13.index t = ![0, 0] ∧ win0_14.index t = ![t.val / 8, t.val % 8, 0]) t

/-- There is a piece before, unless this is a sequence's first; one after, unless it is its last. -/
theorem above_iff (t : Fin cfg0.N) : aboveWord (grid0.coords t) = 1#1 ↔ 0 < t.val % 8 :=
  (by decide +kernel : ∀ t : Fin grid0.N, aboveWord (grid0.coords t) = 1#1 ↔ 0 < t.val % 8) t

theorem below_iff (t : Fin cfg0.N) : belowWord (grid0.coords t) = 1#1 ↔ t.val % 8 < 7 :=
  (by decide +kernel : ∀ t : Fin grid0.N, belowWord (grid0.coords t) = 1#1 ↔ t.val % 8 < 7) t

theorem lt16 (t : Fin cfg0.N) : (t : ℕ) < 16 := t.isLt

/-- The point's sequence and piece. -/
abbrev seq (t : Fin cfg0.N) : Fin 2 := ⟨t.val / 8, by have := lt16 t; omega⟩
abbrev pc (t : Fin cfg0.N) : Fin 8 := ⟨t.val % 8, by omega⟩

section
variable (c : Dev nD) (t : Fin cfg0.N)

/-! ## The blocks read -/

theorem rows_at (r : Fin 1024) (k : Fin 512) : iblk m c 3 t (ix3 0 r k)
    = m ((c : Thread nD τ).loc main_arg3) (ix2 (⟨(t.val / 8 * 8 + t.val % 8) * 1024 + r, by have := lt16 t; omega⟩ : Fin 16384) k) := by
  blk_point [iblk, V, idx t]

theorem prev_at (e : Fin 8) (k : Fin 512) : iblk m c 4 t (ix2 e k)
    = m ((c : Thread nD τ).loc main_arg4) (ix2 (⟨(t.val - 1) * 8 + e, by have := lt16 t; omega⟩ : Fin 128) k) := by
  blk_point [iblk, V, idx t]

theorem own_at (e : Fin 8) (k : Fin 512) : iblk m c 5 t (ix2 e k)
    = m ((c : Thread nD τ).loc main_arg4) (ix2 (⟨t.val * 8 + e, by have := lt16 t; omega⟩ : Fin 128) k) := by
  blk_point [iblk, V, idx t]

theorem next_at (e : Fin 8) (k : Fin 512) : iblk m c 6 t (ix2 e k)
    = m ((c : Thread nD τ).loc main_arg4) (ix2 (⟨min (t.val + 1) 15 * 8 + e, by have := lt16 t; omega⟩ : Fin 128) k) := by
  blk_point [iblk, V, idx t]

theorem sga_at (r j : Fin 1024) : iblk m c 7 t (ix3 0 r j)
    = m ((c : Thread nD τ).loc main_arg5) (ix2 (⟨(t.val / 8 * 8 + t.val % 8) * 1024 + r, by have := lt16 t; omega⟩ : Fin 16384) j) := by
  blk_point [iblk, V, idx t]

theorem sgb_at (r j : Fin 1024) : iblk m c 8 t (ix3 0 r j)
    = m ((c : Thread nD τ).loc main_arg6) (ix2 (⟨(t.val / 8 * 8 + t.val % 8) * 1024 + r, by have := lt16 t; omega⟩ : Fin 16384) j) := by
  blk_point [iblk, V, idx t]

theorem x_at (r n : Fin 1024) : iblk m c 9 t (ix3 0 r n)
    = m ((c : Thread nD τ).loc main_arg7) (ix3 (seq t) (⟨t.val % 8 * 1024 + r, by omega⟩ : Fin 8192) n) := by
  blk_point [iblk, V, idx t]

theorem wb_at (k : Fin 512) (j : Fin 1024) : iblk m c 12 t (ix2 k j) = m ((c : Thread nD τ).loc main_arg10) (ix2 k j) := by
  blk_point [iblk, V, idx t]

theorem wo_at (j n : Fin 1024) : iblk m c 13 t (ix2 j n) = m ((c : Thread nD τ).loc main_arg11) (ix2 j n) := by
  blk_point [iblk, V, idx t]

/-! ## The block written -/

abbrev rowsOf : Cert.MixerRows.Rows := m ((c : Thread nD τ).loc main_arg3)
/-- The gate of the attention. -/
abbrev attentionGate : FVec Ideal S16384x1024 .bf16 := m ((c : Thread nD τ).loc main_arg5)

abbrev edgesOf : Cert.MixerRows.Edges := m ((c : Thread nD τ).loc main_arg4)

theorem edge_eq (E : Cert.MixerRows.Edges) (b : Fin 2) (i : ℕ) (e : Fin 8) (k : Fin 512) (r : Fin 128)
    (h : (r : ℕ) = (b * 8 + min i 7) * 8 + e) : E (ix2 r k) = Cert.MixerRows.edge E b i e k :=
  congrArg (fun r => E (ix2 r k)) (Fin.ext h)

theorem first_eq (k : Fin 512) : firstOf (aboveWord (grid0.coords t)) (iblk m c 5 t) (iblk m c 4 t) k
    = Cert.MixerRows.before (edgesOf m c) (seq t) (pc t) k := by
  have ht := lt16 t
  unfold firstOf Cert.MixerRows.before
  by_cases h : 0 < t.val % 8
  · rw [if_pos ((above_iff t).2 h), if_pos (show 0 < ((pc t : Fin 8) : ℕ) from h), own_at, prev_at]
    refine congrArg₂ (fun a b : EReal => a * b) (edge_eq (edgesOf m c) _ _ _ _ _ ?_) (edge_eq (edgesOf m c) _ _ _ _ _ ?_)
    · show t.val * 8 + 2 = (t.val / 8 * 8 + min (t.val % 8) 7) * 8 + 2
      omega
    · show (t.val - 1) * 8 + 1 = (t.val / 8 * 8 + min (t.val % 8 - 1) 7) * 8 + 1
      omega
  · rw [if_neg (fun e => h ((above_iff t).1 e)), if_neg (show ¬ 0 < ((pc t : Fin 8) : ℕ) from h)]

theorem last_eq (k : Fin 512) : lastOf (belowWord (grid0.coords t)) (iblk m c 5 t) (iblk m c 6 t) k
    = Cert.MixerRows.after (edgesOf m c) (seq t) (pc t) k := by
  have ht := lt16 t
  unfold lastOf Cert.MixerRows.after
  by_cases h : t.val % 8 < 7
  · rw [if_pos ((below_iff t).2 h), if_pos (show ((pc t : Fin 8) : ℕ) < 7 from h), own_at, next_at]
    refine congrArg₂ (fun a b : EReal => a * b) (edge_eq (edgesOf m c) _ _ _ _ _ ?_) (edge_eq (edgesOf m c) _ _ _ _ _ ?_)
    · show t.val * 8 + 3 = (t.val / 8 * 8 + min (t.val % 8) 7) * 8 + 3
      omega
    · show min (t.val + 1) 15 * 8 + 0 = (t.val / 8 * 8 + min (t.val % 8 + 1) 7) * 8 + 0
      omega
  · rw [if_neg (fun e => h ((below_iff t).1 e)), if_neg (show ¬ ((pc t : Fin 8) : ℕ) < 7 from h)]

theorem branch_at (r : Fin 1024) (k : Fin 512) :
    branch (iblk m c 3 t) (firstOf (aboveWord (grid0.coords t)) (iblk m c 5 t) (iblk m c 4 t))
      (lastOf (belowWord (grid0.coords t)) (iblk m c 5 t) (iblk m c 6 t)) (ix2 r k)
      = Cert.MixerRows.piece (rowsOf m c) (edgesOf m c) (seq t) (pc t) r k := by
  refine congrArg₂ (fun a b : EReal => a + b) (rows_at m c t r k) ?_
  show border _ _ r = border _ _ r
  exact congrArg₂ (fun a b => border a b r) (first_eq m c t k) (last_eq m c t k)

/-- At a token whose attention gate is closed, the attention's product does not matter. -/
theorem written_eq (A : FVec Ideal S1024x1024 .f32) (r n : Fin 1024)
    (h : ∀ j, attentionGate m c (ix2 (⟨(t.val / 8 * 8 + t.val % 8) * 1024 + r, by have := lt16 t; omega⟩ : Fin 16384) j) = 0) :
    written A (branch (iblk m c 3 t) (firstOf (aboveWord (grid0.coords t)) (iblk m c 5 t) (iblk m c 4 t))
        (lastOf (belowWord (grid0.coords t)) (iblk m c 5 t) (iblk m c 6 t)))
      (iblk m c 12 t) (iblk m c 7 t) (iblk m c 8 t) (iblk m c 9 t) (iblk m c 13 t) r n
      = Cert.MixerRows.pieceOut (rowsOf m c) (edgesOf m c) (m ((c : Thread nD τ).loc main_arg6)) (m ((c : Thread nD τ).loc main_arg7))
          (m ((c : Thread nD τ).loc main_arg10)) (m ((c : Thread nD τ).loc main_arg11)) (seq t) (pc t) r n := by
  unfold written Cert.MixerRows.pieceOut
  refine congrArg₂ (fun a b : EReal => a + b) (x_at m c t r n) (Finset.sum_congr rfl fun j _ => ?_)
  refine congrArg₂ (fun a b : EReal => a * b) ?_ (wo_at m c t j n)
  have h0 : @Eq EReal (iblk m c 7 t (ix3 0 r j)) 0 := (sga_at m c t r j).trans (h _)
  refine (congrArg (fun z : EReal => z * A (ix2 r j) + _) h0).trans ?_
  refine (congrArg (fun z : EReal => z + _) (zero_mul _)).trans ((zero_add _).trans ?_)
  refine congrArg₂ (fun a b : EReal => a * b) (sgb_at m c t r j) (Finset.sum_congr rfl fun k _ => ?_)
  exact congrArg₂ (fun a b : EReal => a * b) (branch_at m c t r k) (wb_at m c t k j)

end

/-- The grid point of a token. -/
def point (b : Fin 2) (s : Fin 8192) : Fin cfg0.N := ⟨b * 8 + s / 1024, show _ < 16 by omega⟩

theorem point_eq (t : Fin cfg0.N) (r : Fin 1024) : point (seq t) (⟨t.val % 8 * 1024 + r, by omega⟩ : Fin 8192) = t := by
  have ht := lt16 t
  refine Fin.ext ?_
  show t.val / 8 * 8 + (t.val % 8 * 1024 + r.val) / 1024 = t.val
  omega

/-- The whole result: at each token, what its grid point writes. -/
def result (c : Dev nD) : FVec Ideal S2x8192x1024 .f32 := fun i => outAt m c (point (i 0) (i 1)) (ix3 0 (⟨(i 1).val % 1024, Nat.mod_lt _ (by decide)⟩ : Fin 1024) (i 2))

theorem final_out (c : Dev nD) : (dats m 0 c).arrAt 14 cfg0.N = result m c := by
  refine (dats m 0 c).arrAt_eq_of_covers 14 _ (by decide +kernel) fun t hf y => ?_
  blk_simp
  rw [after0_14]
  idx_vars y
  obtain rfl : y0 = 0 := Fin.ext (by omega)
  have hE : ∀ f : S2x8192x1024.Idx → EReal, f (((View.whole main_v6).slice (win0_14.rect t)).emb (ix3 0 y1 y2))
      = f (ix3 (seq t) (⟨t.val % 8 * 1024 + y1, by omega⟩ : Fin 8192) y2) := by
    intro f
    blk_point [idx t]
  refine Eq.trans ?_ (hE (result m c)).symm
  have hr : (⟨(t.val % 8 * 1024 + y1.val) % 1024, Nat.mod_lt _ (by decide)⟩ : Fin 1024) = y1 := Fin.ext (by simp only; omega)
  exact (congrArg₂ (fun t r => outAt m c t (ix3 0 r y2)) (point_eq t y1) hr).symm

/-- A token whose attention gate is zero in every channel. -/
theorem result_closed (c : Dev nD) (b : Fin 2) (s : Fin 8192) (n : Fin 1024)
    (h : ∀ j, attentionGate m c (ix2 (⟨b * 8192 + s, by omega⟩ : Fin 16384) j) = 0) :
    result m c (ix3 b s n) = Cert.MixerRows.out (rowsOf m c) (edgesOf m c) (m ((c : Thread nD τ).loc main_arg6)) (m ((c : Thread nD τ).loc main_arg7))
      (m ((c : Thread nD τ).loc main_arg10)) (m ((c : Thread nD τ).loc main_arg11)) b s n := by
  obtain ⟨A, hA⟩ := outAt_eq m c (point b s)
  refine (hA _ _).trans ((written_eq m c (point b s) A _ _ fun j => ?_).trans ?_)
  · refine Eq.trans (congrArg (fun r => attentionGate m c (ix2 r j)) (Fin.ext ?_)) (h j)
    show ((b.val * 8 + s.val / 1024) / 8 * 8 + (b.val * 8 + s.val / 1024) % 8) * 1024 + s.val % 1024 = b.val * 8192 + s.val
    omega
  · have h1 : seq (point b s) = b := Fin.ext (by show (b.val * 8 + s.val / 1024) / 8 = b.val; omega)
    have h2 : pc (point b s) = (⟨s / 1024, by omega⟩ : Fin 8) := Fin.ext (by show (b.val * 8 + s.val / 1024) % 8 = s.val / 1024; omega)
    exact congrArg₂ (fun b i => Cert.MixerRows.pieceOut (rowsOf m c) (edgesOf m c) (m ((c : Thread nD τ).loc main_arg6)) (m ((c : Thread nD τ).loc main_arg7))
      (m ((c : Thread nD τ).loc main_arg10)) (m ((c : Thread nD τ).loc main_arg11)) b i (⟨s % 1024, Nat.mod_lt _ (by decide)⟩ : Fin 1024) n) h1 h2

end Cert.KernelIdeal.Mixer

end
-- ==== Proof.MixerPredicate.lean ====
/- The mixer's postcondition, read at an index. -/
module

public import proofs.«01_k».proof.Proof.MixerRows
public import Idealize.ShloMosaic.Lib.ReduceAll
public import proofs.«01_k».proof.Proof.Gen.Pre_attention_gate_closed
public import proofs.«01_k».proof.Proof.Gen.Post_is_conv_branch
public import proofs.«01_k».proof.Proof.Gen.Post_is_conv_branch_where_closed

@[expose] public section

set_option maxRecDepth 16384

noncomputable section

namespace Cert.Post_is_conv_branch_where_closed.Mixer

open Cert.Post_is_conv_branch_where_closed Idealize.ShloMosaic
open Cert.Post_is_conv_branch_where_closed.Facts

variable [Facts]

theorem zero_eq : (FloatOps.sitofp FTy.f32 0#32 : Ideal .f32) = 0 := by
  show (((0#32 : BitVec 32).toInt : ℝ) : EReal) = 0
  simp

/-- The edge rows by sequence and piece. -/
def EDGES (e : FVec Ideal S128x512 .f32) : FVec Ideal S2x8x8x512 .f32 := shapeCast S2x8x8x512 e shapeCasts_S128x512_S2x8x8x512

theorem EDGES_at (e : FVec Ideal S128x512 .f32) (b : Fin 2) (i : Fin 8) (j : Fin 8) (k : Fin 512) :
    EDGES e (ix4 b i j k) = e (ix2 (⟨(b * 8 + i) * 8 + j, by omega⟩ : Fin 128) k) := by
  pointwise [EDGES]
  exact congrArg (fun r => e (ix2 r k)) (Fin.ext (show b.val * 64 + i.val * 8 + j.val = (b.val * 8 + i.val) * 8 + j.val by omega))

def ABOVE (e : FVec Ideal S128x512 .f32) : FVec Ideal S2x7x512 .f32 :=
  mulf (shapeCast S2x7x512 (extractStridedSlice S2x7x1x512 ![0, 1, 2, 0] (EDGES e) slices_S2x8x8x512_S2x7x1x512_0_1_2_0) shapeCasts_S2x7x1x512_S2x7x512)
    (shapeCast S2x7x512 (extractStridedSlice S2x7x1x512 ![0, 0, 1, 0] (EDGES e) slices_S2x8x8x512_S2x7x1x512_0_0_1_0) shapeCasts_S2x7x1x512_S2x7x512)

theorem ABOVE_at (e : FVec Ideal S128x512 .f32) (b : Fin 2) (i : Fin 7) (k : Fin 512) :
    ABOVE e (ix3 b i k) = EDGES e (ix4 b (⟨1 + i, by omega⟩ : Fin 8) 2 k) * EDGES e (ix4 b (⟨i, by omega⟩ : Fin 8) 1 k) := by
  pointwise [ABOVE]

def BELOW (e : FVec Ideal S128x512 .f32) : FVec Ideal S2x7x512 .f32 :=
  mulf (shapeCast S2x7x512 (extractStridedSlice S2x7x1x512 ![0, 0, 3, 0] (EDGES e) slices_S2x8x8x512_S2x7x1x512_0_0_3_0) shapeCasts_S2x7x1x512_S2x7x512)
    (shapeCast S2x7x512 (extractStridedSlice S2x7x1x512 ![0, 1, 0, 0] (EDGES e) slices_S2x8x8x512_S2x7x1x512_0_1_0_0) shapeCasts_S2x7x1x512_S2x7x512)

theorem BELOW_at (e : FVec Ideal S128x512 .f32) (b : Fin 2) (i : Fin 7) (k : Fin 512) :
    BELOW e (ix3 b i k) = EDGES e (ix4 b (⟨i, by omega⟩ : Fin 8) 3 k) * EDGES e (ix4 b (⟨1 + i, by omega⟩ : Fin 8) 0 k) := by
  pointwise [BELOW]

theorem PAD_at (a : FVec Ideal S2x7x512 .f32) (b : Fin 2) (i : Fin 8) (k : Fin 512) :
    fn_pad (F := Ideal) a (constantI S_ 32 0#32) (ix3 b i k) = if h : 0 < (i : ℕ) then a (ix3 b (⟨i - 1, by omega⟩ : Fin 7) k) else 0 := by
  pointwise [fn_pad]
  exact dite_congr (propext ⟨fun h => h.1, fun h => ⟨h, by omega⟩⟩) (fun _ => rfl) fun _ => zero_eq

theorem PAD0_at (a : FVec Ideal S2x7x512 .f32) (b : Fin 2) (i : Fin 8) (k : Fin 512) :
    fn_pad_0 (F := Ideal) a (constantI S_ 32 0#32) (ix3 b i k) = if h : (i : ℕ) < 7 then a (ix3 b (⟨i, h⟩ : Fin 7) k) else 0 := by
  pointwise [fn_pad_0]
  exact dite_congr rfl (fun _ => rfl) fun _ => zero_eq

/-- The convolution by sequence and piece. -/
def PIECES (B : FVec Ideal S16384x512 .bf16) (p q : FVec Ideal S2x8x512 .f32) : FVec Ideal S2x8x1024x512 .f32 :=
  addf (addf (shapeCast S2x8x1024x512 (extf .f32 B bitsLt_bf16_f32) shapeCasts_S16384x512_S2x8x1024x512)
      (fn_where (F := Ideal) (cmpi .eq (broadcastInDim S1x1x1024x1 ![2] bcast_S1024_S1x1x1024x1_2 (iotaInDim S1024 32 0)) (broadcastInDim S1x1x1024x1 ![] bcast_S_S1x1x1024x1 (constantI S_ 32 0#32)))
        (broadcastInDim S2x8x1x512 ![0, 1, 3] bcast_S2x8x512_S2x8x1x512_0_1_3 p) (constant S_ .f32 0x00000000#32)))
    (fn_where (F := Ideal) (cmpi .eq (broadcastInDim S1x1x1024x1 ![2] bcast_S1024_S1x1x1024x1_2 (iotaInDim S1024 32 0)) (broadcastInDim S1x1x1024x1 ![] bcast_S_S1x1x1024x1 (constantI S_ 32 1023#32)))
        (broadcastInDim S2x8x1x512 ![0, 1, 3] bcast_S2x8x512_S2x8x1x512_0_1_3 q) (constant S_ .f32 0x00000000#32))

theorem PIECES_at (B : FVec Ideal S16384x512 .bf16) (p q : FVec Ideal S2x8x512 .f32) (b : Fin 2) (i : Fin 8) (r : Fin 1024) (k : Fin 512) :
    PIECES B p q (ix4 b i r k) = B (ix2 (⟨(b * 8 + i) * 1024 + r, by omega⟩ : Fin 16384) k)
      + (if (r : ℕ) = 0 then p (ix3 b i k) else 0) + (if (r : ℕ) = 1023 then q (ix3 b i k) else 0) := by
  have hB : B (ix2 (⟨b.val * 8192 + i.val * 1024 + r.val, by omega⟩ : Fin 16384) k) = B (ix2 (⟨(b.val * 8 + i.val) * 1024 + r.val, by omega⟩ : Fin 16384) k) :=
    congrArg (fun r => B (ix2 r k)) (Fin.ext (show b.val * 8192 + i.val * 1024 + r.val = (b.val * 8 + i.val) * 1024 + r.val by omega))
  have h0 := Cert.MixerRows.row_select r 0 (by omega) (by omega) (p (ix3 b i k)) (constant (F := Ideal) S_ .f32 0x00000000#32 ix0)
  have h1 := Cert.MixerRows.row_select r 1023 (by omega) (by omega) (q (ix3 b i k)) (constant (F := Ideal) S_ .f32 0x00000000#32 ix0)
  have hz : constant (F := Ideal) S_ .f32 0x00000000#32 ix0 = (0 : EReal) := by pointwise
  pointwise [PIECES, fn_where]
  exact congrArg₂ (fun a b : EReal => a + b) (congrArg₂ (fun a b : EReal => a + b) hB (h0.trans (by rw [hz]))) (h1.trans (by rw [hz]))

/-- Everything after the convolution. -/
def OUT (P : FVec Ideal S2x8x1024x512 .f32) (gb : FVec Ideal S16384x1024 .bf16) (x : FVec Ideal S2x8192x1024 .f32) (wb : FVec Ideal S512x1024 .bf16)
    (wo : FVec Ideal S1024x1024 .bf16) : FVec Ideal S2x8192x1024 .f32 :=
  addf x (Host.dotGeneral dot_S2x8192x1024_S1024x1024_S2x8192x1024_2_0_01_1_n_n none
    (mulf (shapeCast S2x8192x1024 (extf .f32 gb bitsLt_bf16_f32) shapeCasts_S16384x1024_S2x8192x1024)
      (Host.dotGeneral dot_S2x8192x512_S512x1024_S2x8192x1024_2_0_01_1_n_n none
        (shapeCast S2x8192x512 P shapeCasts_S2x8x1024x512_S2x8192x512) (extf .f32 wb bitsLt_bf16_f32)))
    (extf .f32 wo bitsLt_bf16_f32))

theorem OUT_at (P : FVec Ideal S2x8x1024x512 .f32) (gb : FVec Ideal S16384x1024 .bf16) (x : FVec Ideal S2x8192x1024 .f32) (wb : FVec Ideal S512x1024 .bf16)
    (wo : FVec Ideal S1024x1024 .bf16) (b : Fin 2) (s : Fin 8192) (n : Fin 1024) :
    OUT P gb x wb wo (ix3 b s n) = x (ix3 b s n) + ∑ j, (gb (ix2 (⟨b * 8192 + s, by omega⟩ : Fin 16384) j)
      * ∑ k, P (ix4 b (⟨s / 1024, by omega⟩ : Fin 8) (⟨s % 1024, by omega⟩ : Fin 1024) k) * wb (ix2 k j)) * wo (ix2 j n) := by
  pointwise [OUT]

/-- At an index. -/
theorem OUT_eq (B : FVec Ideal S16384x512 .bf16) (e : FVec Ideal S128x512 .f32) (gb : FVec Ideal S16384x1024 .bf16)
    (x : FVec Ideal S2x8192x1024 .f32) (wb : FVec Ideal S512x1024 .bf16) (wo : FVec Ideal S1024x1024 .bf16) (b : Fin 2) (s : Fin 8192) (n : Fin 1024) :
    OUT (PIECES B (fn_pad (F := Ideal) (ABOVE e) (constantI S_ 32 0#32)) (fn_pad_0 (F := Ideal) (BELOW e) (constantI S_ 32 0#32))) gb x wb wo (ix3 b s n)
      = Cert.MixerRows.out B e gb x wb wo b s n := by
  have hp : ∀ (i : Fin 8) k, fn_pad (F := Ideal) (ABOVE e) (constantI S_ 32 0#32) (ix3 b i k) = Cert.MixerRows.before e b i k := by
    intro i k
    rw [PAD_at]
    unfold Cert.MixerRows.before
    split_ifs with h
    · rw [ABOVE_at, EDGES_at, EDGES_at]
      refine congrArg₂ (fun a b : EReal => a * b) (congrArg (fun r => e (ix2 r k)) (Fin.ext ?_)) (congrArg (fun r => e (ix2 r k)) (Fin.ext ?_))
      · show (b.val * 8 + (1 + (i.val - 1))) * 8 + 2 = (b.val * 8 + min i.val 7) * 8 + 2
        omega
      · show (b.val * 8 + (i.val - 1)) * 8 + 1 = (b.val * 8 + min (i.val - 1) 7) * 8 + 1
        omega
    · rfl
  have hq : ∀ (i : Fin 8) k, fn_pad_0 (F := Ideal) (BELOW e) (constantI S_ 32 0#32) (ix3 b i k) = Cert.MixerRows.after e b i k := by
    intro i k
    rw [PAD0_at]
    unfold Cert.MixerRows.after
    split_ifs with h
    · rw [BELOW_at, EDGES_at, EDGES_at]
      refine congrArg₂ (fun a b : EReal => a * b) (congrArg (fun r => e (ix2 r k)) (Fin.ext ?_)) (congrArg (fun r => e (ix2 r k)) (Fin.ext ?_))
      · show (b.val * 8 + i.val) * 8 + 3 = (b.val * 8 + min i.val 7) * 8 + 3
        omega
      · show (b.val * 8 + (1 + i.val)) * 8 + 0 = (b.val * 8 + min (i.val + 1) 7) * 8 + 0
        omega
    · rfl
  rw [OUT_at]
  unfold Cert.MixerRows.out Cert.MixerRows.pieceOut
  refine congrArg₂ (fun a b : EReal => a + b) (congrArg (fun s => x (ix3 b s n)) (Fin.ext ?_)) (Finset.sum_congr rfl fun j _ => ?_)
  · show s.val = s.val / 1024 * 1024 + s.val % 1024
    omega
  refine congrArg (fun a : EReal => a * _) (congrArg₂ (fun a b : EReal => a * b) (congrArg (fun r => gb (ix2 r j)) (Fin.ext ?_)) (Finset.sum_congr rfl fun k _ => ?_))
  · show b.val * 8192 + s.val = (b.val * 8 + s.val / 1024) * 1024 + s.val % 1024
    omega
  refine congrArg (fun a : EReal => a * _) ?_
  rw [PIECES_at, hp, hq, add_assoc]
  rfl

/-- One for each token whose gate is zero in every channel. -/
def CLOSED (ga : FVec Ideal S16384x1024 .bf16) : IVec S16384 1 :=
  Host.reduce IntOp.andi (cmpf .oeq ga (broadcastInDim S16384x1024 ![] bcast_S_S16384x1024 (constant S_ .bf16 0x0000#16))) (constantI S_ 1 1#1)
    reducesTo_S16384x1024_S16384_d1 h_S_

theorem CLOSED_zero (ga : FVec Ideal S16384x1024 .bf16) (r : Fin 16384) (h : CLOSED ga (ix1 r) = 1#1) (j : Fin 1024) : ga (ix2 r j) = 0 := by
  have h1 := Host.reduce_andi_eq_one _ _ reducesTo_S16384x1024_S16384_d1 h_S_ (ix1 r) h (ix2 r j)
    (funext fun a => by fin_cases a; rfl)
  revert h1
  pointwise
  intro h1
  by_contra hn
  rw [decide_eq_false hn] at h1
  exact absurd h1 (by decide)

/-- The predicate: the token is not closed, or the result is the convolution branch's. -/
def CHECK (cl : IVec S16384 1) (y o : FVec Ideal S2x8192x1024 .f32) : IVec S2x8192x1024 1 :=
  ori (broadcastInDim S2x8192x1024 ![0, 1, 2] bcast_S2x8192x1_S2x8192x1024_0_1_2 (noti (shapeCast S2x8192x1 cl shapeCasts_S16384_S2x8192x1))) (cmpf .oeq y o)

theorem CHECK_at (cl : IVec S16384 1) (y o : FVec Ideal S2x8192x1024 .f32) (b : Fin 2) (s : Fin 8192) (n : Fin 1024)
    (h : cl (ix1 (⟨b * 8192 + s, by omega⟩ : Fin 16384)) = 1#1 → y (ix3 b s n) = o (ix3 b s n)) : CHECK cl y o (ix3 b s n) = 1#1 := by
  pointwise [CHECK]
  rcases BitVec.eq_zero_or_eq_one (cl (ix1 (⟨b * 8192 + s, by omega⟩ : Fin 16384))) with hc | hc
  · rw [hc]
    exact (by decide : ∀ w : BitVec 1, IntOp.ori (~~~0#1) w = 1#1) _
  · rw [hc, decide_eq_true (h hc)]
    rfl

/-- The predicate's term, by its parts. -/
theorem fn_eq (a0 a1 a2 B : FVec Ideal S16384x512 .bf16) (e : FVec Ideal S128x512 .f32) (ga gb : FVec Ideal S16384x1024 .bf16)
    (x : FVec Ideal S2x8192x1024 .f32) (rpb : FVec Ideal S1x8x15x31 .f32) (wa wb : FVec Ideal S512x1024 .bf16) (wo : FVec Ideal S1024x1024 .bf16)
    (y : FVec Ideal S2x8192x1024 .f32) :
    fn (F := Ideal) a0 a1 a2 B e ga gb x rpb wa wb wo y
      = CHECK (CLOSED ga) y (OUT (PIECES B (fn_pad (F := Ideal) (ABOVE e) (constantI S_ 32 0#32)) (fn_pad_0 (F := Ideal) (BELOW e) (constantI S_ 32 0#32))) gb x wb wo) := by
  rfl

/-- A result that is the convolution branch's at every closed token satisfies the predicate. -/
theorem fn_of_eq (a0 a1 a2 B : FVec Ideal S16384x512 .bf16) (e : FVec Ideal S128x512 .f32) (ga gb : FVec Ideal S16384x1024 .bf16)
    (x : FVec Ideal S2x8192x1024 .f32) (rpb : FVec Ideal S1x8x15x31 .f32) (wa wb : FVec Ideal S512x1024 .bf16) (wo : FVec Ideal S1024x1024 .bf16)
    (y : FVec Ideal S2x8192x1024 .f32)
    (h : ∀ (b : Fin 2) (s : Fin 8192) (n : Fin 1024), (∀ j, ga (ix2 (⟨b * 8192 + s, by omega⟩ : Fin 16384) j) = 0) →
      y (ix3 b s n) = Cert.MixerRows.out B e gb x wb wo b s n) :
    fn (F := Ideal) a0 a1 a2 B e ga gb x rpb wa wb wo y = fun _ => 1#1 := by
  rw [fn_eq]
  funext i
  idx_vars i
  exact CHECK_at _ _ _ _ _ _ fun hc => (h _ _ _ (CLOSED_zero ga _ hc)).trans (OUT_eq B e gb x wb wo _ _ _).symm

end Cert.Post_is_conv_branch_where_closed.Mixer

/-! ## With the gate closed everywhere -/

namespace Cert.Post_is_conv_branch.Mixer

open Cert.Post_is_conv_branch Idealize.ShloMosaic
open Cert.Post_is_conv_branch_where_closed.Mixer (OUT PIECES ABOVE BELOW OUT_eq)

variable [Facts] [Cert.Post_is_conv_branch_where_closed.Facts]

/-- The predicate compares the result with the same array. -/
theorem fn_eq (a0 a1 a2 B : FVec Ideal S16384x512 .bf16) (e : FVec Ideal S128x512 .f32) (ga gb : FVec Ideal S16384x1024 .bf16)
    (x : FVec Ideal S2x8192x1024 .f32) (rpb : FVec Ideal S1x8x15x31 .f32) (wa wb : FVec Ideal S512x1024 .bf16) (wo : FVec Ideal S1024x1024 .bf16)
    (y : FVec Ideal S2x8192x1024 .f32) :
    fn (F := Ideal) a0 a1 a2 B e ga gb x rpb wa wb wo y
      = cmpf .oeq y (OUT (PIECES B (Cert.Post_is_conv_branch_where_closed.fn_pad (F := Ideal) (ABOVE e) (constantI S_ 32 0#32))
          (Cert.Post_is_conv_branch_where_closed.fn_pad_0 (F := Ideal) (BELOW e) (constantI S_ 32 0#32))) gb x wb wo) := by
  rfl

/-- A result that is the convolution branch's everywhere satisfies the predicate. -/
theorem fn_of_eq (a0 a1 a2 B : FVec Ideal S16384x512 .bf16) (e : FVec Ideal S128x512 .f32) (ga gb : FVec Ideal S16384x1024 .bf16)
    (x : FVec Ideal S2x8192x1024 .f32) (rpb : FVec Ideal S1x8x15x31 .f32) (wa wb : FVec Ideal S512x1024 .bf16) (wo : FVec Ideal S1024x1024 .bf16)
    (y : FVec Ideal S2x8192x1024 .f32)
    (h : ∀ (b : Fin 2) (s : Fin 8192) (n : Fin 1024), y (ix3 b s n) = Cert.MixerRows.out B e gb x wb wo b s n) :
    fn (F := Ideal) a0 a1 a2 B e ga gb x rpb wa wb wo y = fun _ => 1#1 := by
  rw [fn_eq]
  funext i
  idx_vars i
  refine (congrArg BitVec.ofBool (decide_eq_true ?_)).trans rfl
  exact (h _ _ _).trans (OUT_eq B e gb x wb wo _ _ _).symm

end Cert.Post_is_conv_branch.Mixer

namespace Cert.Pre_attention_gate_closed.Mixer

open Cert.Pre_attention_gate_closed Idealize.ShloMosaic

variable [Facts]

/-- The precondition says that the gate is zero. -/
theorem zero_of_fn (a0 a1 a2 a3 : FVec Ideal S16384x512 .bf16) (e : FVec Ideal S128x512 .f32) (ga gb : FVec Ideal S16384x1024 .bf16)
    (x : FVec Ideal S2x8192x1024 .f32) (rpb : FVec Ideal S1x8x15x31 .f32) (wa wb : FVec Ideal S512x1024 .bf16) (wo : FVec Ideal S1024x1024 .bf16)
    (h : fn (F := Ideal) a0 a1 a2 a3 e ga gb x rpb wa wb wo = fun _ => 1#1) (r : Fin 16384) (j : Fin 1024) : ga (ix2 r j) = 0 := by
  have h1 := congrFun h (ix2 r j)
  revert h1
  pointwise [fn]
  intro h1
  by_contra hn
  rw [decide_eq_false hn] at h1
  exact absurd h1 (by decide)

end Cert.Pre_attention_gate_closed.Mixer

end
-- ==== Proof.MixerClaims.lean ====
/- What is claimed of the mixer call. -/
module

public import proofs.«01_k».proof.Defs
public import proofs.«01_k».proof.Proof.MixerFrame
public import proofs.«01_k».proof.Proof.MixerValue
public import proofs.«01_k».proof.Proof.MixerPredicate
public import proofs.«01_k».proof.Proof.MixerFrameBits
public import proofs.«01_k».proof.Proof.Gen.ReferenceIdeal.Run
public import proofs.«01_k».proof.Proof.Gen.Pre_attention_gate_closed
public import proofs.«01_k».proof.Proof.Gen.Post_is_conv_branch
public import proofs.«01_k».proof.Proof.Gen.Post_is_conv_branch_where_closed
public import Idealize.ShloMosaic.Lib.Claim
public import Idealize.ShloMosaic.Lib.Quiescent

@[expose] public section

noncomputable section

namespace Cert.Proof.MixerClaims

open Idealize.ShloMosaic Idealize.ShloMosaic.TcCoe Idealize.SL.Sem

theorem frame_p : Cert.quiescent_Kernel := fun m ρ _ => Cert.Kernel.Mixer.frame m ρ
theorem frame_pi : Cert.quiescent_KernelIdeal := fun m ρ _ => Cert.KernelIdeal.Mixer.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_closed : Cert.quiescent_KernelIdeal_pre_attention_gate_closed := fun m ρ _ => Cert.KernelIdeal.Mixer.frame m ρ

/-- At each token whose attention gate is closed, the result is the convolution branch's. -/
theorem holds : Cert.holds_KernelIdeal_is_conv_branch_where_closed := by
  intro m ρ _
  refine (θ_run Cert.KernelIdeal.defs _ _).mono (fun r h c => ?_)
    (θ_run_and (Cert.KernelIdeal.Mixer.run_main (F := Ideal) m ρ) (Cert.KernelIdeal.Mixer.frame (F := Ideal) m ρ))
  obtain ⟨hr, hf, -⟩ := h
  obtain ⟨h0, h1, h2, h3, h4, h5, h6, h7, h8, h9, h10, h11⟩ := hf c
  refine ⟨h0, h1, h2, h3, h4, h5, h6, h7, h8, h9, h10, h11, ?_⟩
  rw [show r.2.mem ((c.tc : Thread Cert.KernelIdeal.nD Cert.KernelIdeal.τ).loc Cert.KernelIdeal.main_v6) = _ from
    ((hr c).1 (14 : Fin 15)).trans (Cert.KernelIdeal.Mixer.final_out m c)]
  exact Cert.Post_is_conv_branch_where_closed.Mixer.fn_of_eq _ _ _ _ _ _ _ _ _ _ _ _ _ (Cert.KernelIdeal.Mixer.result_closed m c)

/-- The precondition at an entry. -/
theorem gate_zero (m : (ℓ : Loc Cert.KernelIdeal.nD Cert.KernelIdeal.τ Cert.KernelIdeal.sig) → Buf (Elt Ideal) ℓ)
    (h : Cert.Pre_KernelIdeal_attention_gate_closed m) (c : Dev Cert.KernelIdeal.nD) (r : Fin 16384) (j : Fin 1024) :
    Cert.KernelIdeal.Mixer.attentionGate m c (ix2 r j) = 0 :=
  Cert.Pre_attention_gate_closed.Mixer.zero_of_fn _ _ _ _ _ _ _ _ _ _ _ _ (h c) r j

/-- With the gate closed everywhere, the whole result is the convolution branch's. -/
theorem holds_closed : Cert.holds_KernelIdeal_is_conv_branch_pre_attention_gate_closed := by
  intro m ρ hp
  refine (θ_run Cert.KernelIdeal.defs _ _).mono (fun r h c => ?_)
    (θ_run_and (Cert.KernelIdeal.Mixer.run_main (F := Ideal) m ρ) (Cert.KernelIdeal.Mixer.frame (F := Ideal) m ρ))
  obtain ⟨hr, hf, -⟩ := h
  obtain ⟨h0, h1, h2, h3, h4, h5, h6, h7, h8, h9, h10, h11⟩ := hf c
  refine ⟨h0, h1, h2, h3, h4, h5, h6, h7, h8, h9, h10, h11, ?_⟩
  rw [show r.2.mem ((c.tc : Thread Cert.KernelIdeal.nD Cert.KernelIdeal.τ).loc Cert.KernelIdeal.main_v6) = _ from
    ((hr c).1 (14 : Fin 15)).trans (Cert.KernelIdeal.Mixer.final_out m c)]
  exact Cert.Post_is_conv_branch.Mixer.fn_of_eq _ _ _ _ _ _ _ _ _ _ _ _ _
    fun b s n => Cert.KernelIdeal.Mixer.result_closed m c b s n fun j => gate_zero m hp c _ j

/-- The two named constants: `1 / ln 2`, and the mask of scores, minus infinity. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

end Cert.Proof.MixerClaims

end
-- ==== Proof.Mlp.lean ====
/- What one grid point of the MLP call writes: each row `x` of its block becomes `x + relu(u·W1)² · W2`, where `u` is the
   row divided by its root mean square and scaled by the norm's gain. -/
module

public import proofs.«01_k».proof.Proof.Gen.Kernel2Ideal.Value
public import proofs.«01_k».proof.Proof.Pieces
public import Idealize.ShloMosaic.Lib.Pipeline.ReadBack
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable (m : (ℓ : Loc nD τ sig) → Buf (Elt Ideal) ℓ)

/-- A row divided by its root mean square (with the epsilon `1e-6`), times the gain. -/
def unitRow (x g : Fin 1024 → EReal) (k : Fin 1024) : EReal :=
  x k * Ideal.rsqrt (Ideal.div (∑ l, x l * x l) (Ideal.ofBits FTy.f32 1149239296#32) + Ideal.ofBits FTy.f32 897988541#32) * g k

/-- One hidden unit of a row: the squared positive part of the normalised row against a column of the first weight. -/
def hiddenRow (x g w : Fin 1024 → EReal) : EReal :=
  max (∑ k, unitRow x g k * w k) 0 * max (∑ k, unitRow x g k * w k) 0

theorem hiddenRow_congr {x x' g w w' : Fin 1024 → EReal} (hx : ∀ k, x k = x' k) (hw : ∀ k, w k = w' k) :
    hiddenRow x g w = hiddenRow x' g w' := by
  rw [funext hx, funext hw]

/-! The four first tiles, 256 rows each: the normalised rows are computed as they are needed. -/

theorem pay6_eq (x : FVec Ideal S256x1024 .f32) (g : FVec Ideal S1x1x1024 .f32) (w : FVec Ideal S1024x512 .bf16) (r : Fin 256)
    (n : Fin 512) : k0_pay6 (F := Ideal) x g w (ix2 r n)
      = hiddenRow (fun k => x (ix2 r k)) (fun k => g (ix3 0 0 k)) (fun k => w (ix2 k n)) := by
  pointwise [k0_pay6, k0_pay5]; rfl

theorem pay9_eq (x : FVec Ideal S256x1024 .f32) (g : FVec Ideal S1x1x1024 .f32) (w : FVec Ideal S1024x512 .bf16) (r : Fin 256)
    (n : Fin 512) : k0_pay9 (F := Ideal) (k0_pay7 x) g w (ix2 r n)
      = hiddenRow (fun k => x (ix2 r k)) (fun k => g (ix3 0 0 k)) (fun k => w (ix2 k n)) := by
  pointwise [k0_pay9, k0_pay7, k0_pay8]; rfl

theorem pay11_eq (x : FVec Ideal S256x1024 .f32) (g : FVec Ideal S1x1x1024 .f32) (w : FVec Ideal S1024x512 .bf16) (r : Fin 256)
    (n : Fin 512) : k0_pay11 (F := Ideal) x g w (ix2 r n)
      = hiddenRow (fun k => x (ix2 r k)) (fun k => g (ix3 0 0 k)) (fun k => w (ix2 k n)) := by
  pointwise [k0_pay11, k0_pay10]; rfl

theorem pay13_eq (x : FVec Ideal S256x1024 .f32) (g : FVec Ideal S1x1x1024 .f32) (w : FVec Ideal S1024x512 .bf16) (r : Fin 256)
    (n : Fin 512) : k0_pay13 (F := Ideal) x g w (ix2 r n)
      = hiddenRow (fun k => x (ix2 r k)) (fun k => g (ix3 0 0 k)) (fun k => w (ix2 k n)) := by
  pointwise [k0_pay13, k0_pay12]; rfl

/-- The normalised rows, put together from four blocks of 256 rows. -/
theorem pay14_eq (x0 x1 x2 x3 : FVec Ideal S256x1024 .f32) (g : FVec Ideal S1x1x1024 .f32) (X : FVec Ideal S1024x1024 .f32)
    (h0 : ∀ (r : Fin 256) (k : Fin 1024), x0 (ix2 r k) = X (ix2 ⟨r, by omega⟩ k))
    (h1 : ∀ (r : Fin 256) (k : Fin 1024), x1 (ix2 r k) = X (ix2 ⟨256 + r, by omega⟩ k))
    (h2 : ∀ (r : Fin 256) (k : Fin 1024), x2 (ix2 r k) = X (ix2 ⟨512 + r, by omega⟩ k))
    (h3 : ∀ (r : Fin 256) (k : Fin 1024), x3 (ix2 r k) = X (ix2 ⟨768 + r, by omega⟩ k)) (r : Fin 1024) (k : Fin 1024) :
    k0_pay14 (F := Ideal) (k0_pay5 x0 g) (k0_pay8 (k0_pay7 x1) g) (k0_pay10 x2 g) x3 g (ix2 r k)
      = unitRow (fun l => X (ix2 r l)) (fun l => g (ix3 0 0 l)) k := by
  have key (x : FVec Ideal S256x1024 .f32) (q : Fin 256) (h : ∀ l, x (ix2 q l) = X (ix2 r l)) :
      unitRow (fun l => x (ix2 q l)) (fun l => g (ix3 0 0 l)) k = unitRow (fun l => X (ix2 r l)) (fun l => g (ix3 0 0 l)) k := by
    rw [funext h]
  have row (d : ℕ) (q : Fin 256) (hq : d + q < 1024) (h : (r : ℕ) = d + q) (l : Fin 1024) : X (ix2 (⟨d + q, hq⟩ : Fin 1024) l) = X (ix2 r l) := by
    rw [show (⟨d + q, hq⟩ : Fin 1024) = r from Fin.ext h.symm]
  pointwise [k0_pay14, k0_pay5, k0_pay7, k0_pay8, k0_pay10, k0_pay12]
  by_cases c0 : (r : ℕ) < 256
  · rw [dif_pos c0]
    exact key x0 ⟨r, c0⟩ fun l => h0 _ l
  rw [dif_neg c0]
  by_cases c1 : (r : ℕ) - 256 < 256
  · rw [dif_pos c1]
    exact key x1 ⟨r - 256, c1⟩ fun l => (h1 _ l).trans (row 256 ⟨r - 256, c1⟩ _ (by simp only; omega) l)
  rw [dif_neg c1]
  by_cases c2 : (r : ℕ) - 256 - 256 < 256
  · rw [dif_pos c2]
    exact key x2 ⟨r - 256 - 256, c2⟩ fun l => (h2 _ l).trans (row 512 ⟨r - 256 - 256, c2⟩ _ (by simp only; omega) l)
  rw [dif_neg c2]
  exact key x3 ⟨r - 256 - 256 - 256, _⟩ fun l => (h3 _ l).trans (row 768 ⟨r - 256 - 256 - 256, by omega⟩ _ (by simp only; omega) l)

/-- All hidden units of a block of rows. -/
def hidden (x : FVec Ideal S1024x1024 .f32) (g : FVec Ideal S1x1x1024 .f32) (w : FVec Ideal S1024x4096 .bf16) : S1024x4096.Idx → EReal :=
  fun i => hiddenRow (fun k => x (ix2 (i 0) k)) (fun k => g (ix3 0 0 k)) (fun k => w (ix2 k (i 1)))

/-- A tile 512 columns wide over all 1024 rows, from normalised rows `u`. -/
theorem wide_eq (X : FVec Ideal S1024x1024 .f32) (g : FVec Ideal S1x1x1024 .f32) (u : FVec Ideal S1024x1024 .bf16)
    (hu : ∀ r k, u (ix2 r k) = unitRow (fun l => X (ix2 r l)) (fun l => g (ix3 0 0 l)) k)
    (w : FVec Ideal S1024x512 .bf16) (r : Fin 1024) (n : Fin 512) :
    k0_pay16 (F := Ideal) u w (ix2 r n) = hiddenRow (fun k => X (ix2 r k)) (fun k => g (ix3 0 0 k)) (fun k => w (ix2 k n)) := by
  pointwise [k0_pay16]
  simp only [hu]
  rfl

/-- What the call leaves for a block of rows. -/
def blockOut (x : FVec Ideal S1024x1024 .f32) (g : FVec Ideal S1x1x1024 .f32) (w : FVec Ideal S1024x4096 .bf16) (w2 : FVec Ideal S4096x1024 .bf16) : S1024x1024.Idx → EReal :=
  fun i => x i + ∑ j, hidden x g w (ix2 (i 0) j) * w2 (ix2 j (i 1))

/-- One grid point writes `blockOut` of its blocks: the buffer of hidden units, filled by eleven stores, is read back whole. -/
theorem block (c : Dev nD) (t : Fin cfg0.N) : outsAt0 m c t = blockOut (iblk m c 0 t) (iblk m c 1 t) (iblk m c 2 t) (iblk m c 3 t) := by
  unfold outsAt0
  frame_open
  simp (disch := decide) only [↓ View.readCov_skip, ↓ View.readCov_cons_toLoadRect, ↓ View.readCov_fill]
  frame_out
  generalize hH : View.readCov (Val := Elt Ideal) _ _ _ = H
  have h : H = hidden (iblk m c 0 t) (iblk m c 1 t) (iblk m c 2 t) := by
    rw [← hH]
    generalize iblk m c 0 t = x
    generalize iblk m c 1 t = g
    generalize iblk m c 2 t = w
    clear hH
    refine Pieces.readCov_whole _ _ _ (by decide) _ ?_ fun I => ?_
    · have hu := pay14_eq (View.ld x (Rect.unit ![0, 0] ![256, 1024] inb_S1024x1024_S256x1024_0_0))
        (View.ld x (Rect.unit ![256, 0] ![256, 1024] inb_S1024x1024_S256x1024_256_0))
        (View.ld x (Rect.unit ![512, 0] ![256, 1024] inb_S1024x1024_S256x1024_512_0))
        (View.ld x (Rect.unit ![768, 0] ![256, 1024] inb_S1024x1024_S256x1024_768_0)) g x
        (fun r k => by pointwise!) (fun r k => by pointwise!) (fun r k => by pointwise!) (fun r k => by pointwise!)
      simp only [List.forall_mem_cons, List.not_mem_nil, false_imp_iff, implies_true, and_true]
      have wide (w' : FVec Ideal S1024x512 .bf16) (r : Fin 1024) (n : Fin 512) (i : S1024x4096.Idx)
          (hr : ∀ k, x (ix2 r k) = x (ix2 (i 0) k)) (hw : ∀ k, w' (ix2 k n) = w (ix2 k (i 1))) :=
        (wide_eq x g _ hu w' r n).trans (hiddenRow_congr (g := fun k => g (ix3 0 0 k)) hr hw)
      refine ⟨?_, ?_, ?_, ?_, ?_, ?_, ?_, ?_, ?_, ?_, ?_⟩
      all_goals intro j
      all_goals idx_vars j
      iterate 7
        exact wide _ _ _ _
          (fun k => congrArg x (funext (Fin.forall_fin_two.2 ⟨Fin.ext ((Nat.zero_add _).symm.trans (Pieces.emb_row _ (ix2 j0 j1))), rfl⟩)))
          fun k => Pieces.ld_ix2 _ _ _ _ _ _ (Nat.zero_add _) (Pieces.emb_col _ (ix2 j0 j1))
      · exact (pay13_eq _ _ _ _ _).trans (hiddenRow_congr
          (fun k => Pieces.ld_ix2 _ _ _ _ _ _ (Pieces.emb_row _ (ix2 j0 j1)) (Nat.zero_add _))
          fun k => Pieces.ld_ix2 _ _ _ _ _ _ (Nat.zero_add _) (Pieces.emb_col _ (ix2 j0 j1)))
      · exact (pay11_eq _ _ _ _ _).trans (hiddenRow_congr
          (fun k => Pieces.ld_ix2 _ _ _ _ _ _ (Pieces.emb_row _ (ix2 j0 j1)) (Nat.zero_add _))
          fun k => Pieces.ld_ix2 _ _ _ _ _ _ (Nat.zero_add _) (Pieces.emb_col _ (ix2 j0 j1)))
      · exact (pay9_eq _ _ _ _ _).trans (hiddenRow_congr
          (fun k => Pieces.ld_ix2 _ _ _ _ _ _ (Pieces.emb_row _ (ix2 j0 j1)) (Nat.zero_add _))
          fun k => Pieces.ld_ix2 _ _ _ _ _ _ (Nat.zero_add _) (Pieces.emb_col _ (ix2 j0 j1)))
      · exact (pay6_eq _ _ _ _ _).trans (hiddenRow_congr
          (fun k => Pieces.ld_ix2 _ _ _ _ _ _ (Pieces.emb_row _ (ix2 j0 j1)) (Nat.zero_add _))
          fun k => Pieces.ld_ix2 _ _ _ _ _ _ (Nat.zero_add _) (Pieces.emb_col _ (ix2 j0 j1)))
    · have h0 : (I 0 : ℕ) < 1024 := (I 0).isLt
      have h1 : (I 1 : ℕ) < 4096 := (I 1).isLt
      simp only [List.exists_mem_cons_iff, Rect.mem_set_unit, Fin.forall_fin_two, Matrix.cons_val_zero, Matrix.cons_val_one,
        List.not_mem_nil, false_and, exists_false, or_false]
      omega
  rw [h]
  funext i
  idx_vars i
  unfold blockOut
  generalize iblk m c 0 t = x
  generalize hidden _ _ _ = u
  pointwise [k0_pay4]

end Cert.Kernel2Ideal.Mlp
end
-- ==== Proof.MlpArray.lean ====
/- The MLP call's whole result, and the reference's: the same function of the arguments. -/
module

public import proofs.«01_k».proof.Proof.Mlp

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

/-- The layer's last step as a function of whole arrays. -/
def layer (x : FVec Ideal S16384x1024 .f32) (g : FVec Ideal S1x1024 .f32) (w : FVec Ideal S1024x4096 .bf16)
    (w2 : FVec Ideal S4096x1024 .bf16) : S16384x1024.Idx → EReal :=
  fun i => x i + ∑ j : Fin 4096,
    hiddenRow (fun k => x (ix2 (i 0) k)) (fun k => g (ix2 0 k)) (fun k => w (ix2 k j)) * w2 (ix2 j (i 1))

variable (m : (ℓ : Loc nD τ sig) → Buf (Elt Ideal) ℓ)

/-- Point `t` takes the `t`-th block of rows, and the gain and both weights whole. -/
theorem idx (t : Fin cfg0.N) : win0_0.index t = ![t.val, 0] ∧ win0_1.index t = ![0, 0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0, 0] ∧ win0_2.index t = ![0, 0]
    ∧ win0_3.index t = ![0, 0] ∧ win0_4.index t = ![t.val, 0]) t

/-- The kernel's result array after the run. -/
theorem final (c : Dev nD) : (dats m 0 c).arrAt 4 cfg0.N
    = layer (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4, block]
  idx_vars y
  simp only [blockOut, layer, hidden, hiddenRow, unitRow]
  pointwise
  blk_point [iblk, V, idx t]

end Cert.Kernel2Ideal.Mlp

end
-- ==== Proof.MlpReference.lean ====
/- The MLP reference's result at an index. -/
module

public import proofs.«01_k».proof.Proof.MlpArray
public import proofs.«01_k».proof.Proof.Gen.Reference2Ideal.Run

@[expose] public section

set_option maxRecDepth 16384

noncomputable section

namespace Cert.Reference2Ideal.Mlp

open Cert.Reference2Ideal Cert.Reference2Ideal.Gen Idealize.ShloMosaic Idealize.ShloMosaic.TcCoe Idealize.SL.Sem

/-- The reference's operations, composed. -/
def REF (x : FVec Ideal S16384x1024 .f32) (g : FVec Ideal S1x1024 .f32) (w : FVec Ideal S1024x4096 .bf16)
    (w2 : FVec Ideal S4096x1024 .bf16) : FVec Ideal S16384x1024 .f32 :=
  addf x (Host.dotGeneral dot_S16384x4096_S4096x1024_S16384x1024_1_0_0_1_n_n none (mulf (maximumf (Host.dotGeneral dot_S16384x1024_S1024x4096_S16384x4096_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (extf .f32 w bitsLt_bf16_f32)) (broadcastInDim S16384x4096 ![] bcast_S_S16384x4096 (constant S_ .f32 0x00000000#32))) (maximumf (Host.dotGeneral dot_S16384x1024_S1024x4096_S16384x4096_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (extf .f32 w bitsLt_bf16_f32)) (broadcastInDim S16384x4096 ![] bcast_S_S16384x4096 (constant S_ .f32 0x00000000#32)))) (extf .f32 w2 bitsLt_bf16_f32))

theorem ref_eq (x : FVec Ideal S16384x1024 .f32) (g : FVec Ideal S1x1024 .f32) (w : FVec Ideal S1024x4096 .bf16)
    (w2 : FVec Ideal S4096x1024 .bf16) : REF x g w w2 = Cert.Kernel2Ideal.Mlp.layer x g w w2 := by
  funext i
  idx_vars i
  simp only [Cert.Kernel2Ideal.Mlp.layer, Cert.Kernel2Ideal.Mlp.hiddenRow, Cert.Kernel2Ideal.Mlp.unitRow]
  pointwise! [REF]

end Cert.Reference2Ideal.Mlp

end
-- ==== Proof.MlpClaims.lean ====
/- What is claimed of the MLP call. -/
module

public import proofs.«01_k».proof.Defs
public import proofs.«01_k».proof.Proof.MlpReference
public import proofs.«01_k».proof.Proof.Gen.Kernel2.Frame
public import Idealize.ShloMosaic.Lib.Claim
public import Idealize.ShloMosaic.Lib.Quiescent

@[expose] public section

noncomputable section

namespace Cert.Proof.MlpClaims

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Nothing is named in this call: the two programs are one. -/
theorem preserves : Cert.preserves_Kernel2_Kernel2Ideal := trivial

/-- Both runs end with `Mlp.layer` of the arguments. -/
theorem algebraic : Cert.algebraic_Kernel2Ideal_Reference2Ideal := by
  intro m g m' g' _ h
  refine ⟨fun c => Cert.Kernel2Ideal.Mlp.layer (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)) (m ((c : Thread Cert.Kernel2Ideal.nD Cert.Kernel2Ideal.τ).loc Cert.Kernel2Ideal.main_arg3)), ?_, ?_⟩
  · exact (θ_run Cert.Kernel2Ideal.defs _ _).mono
      (fun r hr c => ⟨(hr c).1.trans (Cert.Kernel2Ideal.Mlp.final m c), (hr c).2⟩) (Cert.Kernel2Ideal.Value.run_blocks m g)
  · refine (θ_run Cert.Reference2Ideal.defs _ _).mono (fun r hr c => ⟨(hr c).1.trans ?_, (hr c).2⟩)
      (Cert.Reference2Ideal.Value.run (F := Ideal) m' g')
    obtain ⟨h0, h1, h2, h3⟩ := h c
    refine (Cert.Reference2Ideal.Mlp.ref_eq (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))).trans ?_
    rw [h0, h1, h2, h3]

end Cert.Proof.MlpClaims

end
-- ==== Proof.ProjRows.lean ====
/- A row of the projections: what each of its parts is, and the arithmetic of the tiles that compute it. -/
module
public import proofs.«01_k».proof.Proof.Gen.Kernel3Ideal.Value
public import proofs.«01_k».proof.Proof.Pieces
public import proofs.«01_k».proof.Proof.Mlp
public import Idealize.ShloMosaic.Lib.Pipeline.ReadBack
public import Idealize.ShloMosaic.Lib.Pointwise
@[expose] public section
set_option maxRecDepth 16384
noncomputable section
namespace Cert.Kernel3Ideal.Proj
open Cert.Kernel3Ideal Cert.Kernel3Ideal.Gen Idealize.ShloMosaic Idealize.ShloMosaic.TcCoe Idealize.SL.Sem
open Cert.Kernel2Ideal.Mlp (unitRow)

/-! ## Rows -/

/-- One entry of the combined projection of a row. -/
def projRow (x g : Fin 1024 → EReal) (w : Fin 1024 → Fin 5120 → EReal) (n : Fin 5120) : EReal := ∑ k, unitRow x g k * w k n

/-- A head's 64 entries divided by their root mean square. -/
def headNorm (s : Fin 64 → EReal) (d : Fin 64) : EReal :=
  s d * Ideal.rsqrt (Ideal.div (∑ e, s e * s e) (Ideal.ofBits FTy.f32 0x42800000#32) + Ideal.ofBits FTy.f32 0x358637BD#32)

/-- All eight heads of a row, normalised and scaled by one gain. -/
def headsRow (s : Fin 512 → EReal) (g : Fin 64 → EReal) (n : Fin 512) : EReal :=
  headNorm (fun d => s ⟨64 * (n / 64) + d, by omega⟩) ⟨n % 64, by omega⟩ * g ⟨n % 64, by omega⟩

/-- The logistic function. -/
def gate (x : EReal) : EReal := Ideal.div 1 (1 + Ideal.exp (-x))

/-! ## The arithmetic of the tiles -/

theorem half : Ideal.ofBits FTy.f32 0x3F000000#32 = (((1 / 2 : ℝ)) : EReal) := by
  simp [Ideal.ofBits, Ideal.ieee, -EReal.coe_mul]; norm_num

theorem sixtyFour : Ideal.ofBits FTy.f32 0x42800000#32 = ((64 : ℝ) : EReal) := by
  simp [Ideal.ofBits, Ideal.ieee, -EReal.coe_mul]; norm_num

theorem sixtyFourth : Ideal.ofBits FTy.f32 0x3C800000#32 = (((1 / 64 : ℝ)) : EReal) := by
  simp [Ideal.ofBits, Ideal.ieee, -EReal.coe_mul]; norm_num

/-- The mean of 64 entries, taken by a product or by a quotient. -/
theorem mean64 (x : EReal) : x * Ideal.ofBits FTy.f32 0x3C800000#32 = Ideal.div x (Ideal.ofBits FTy.f32 0x42800000#32) := by
  rw [sixtyFour, sixtyFourth, Ideal.div_coe (by norm_num : (64 : ℝ) ≠ 0)]

/-- The logistic function through the hyperbolic tangent. -/
theorem gate_tanh (x : EReal) : Ideal.ofBits FTy.f32 0x3F000000#32 * Ideal.tanh (Ideal.ofBits FTy.f32 0x3F000000#32 * x)
    + Ideal.ofBits FTy.f32 0x3F000000#32 = gate x := by
  rw [half]
  show _ = Ideal.logistic x
  induction x with
  | bot =>
    rw [EReal.coe_mul_bot_of_pos (by norm_num), Ideal.tanh_bot, Ideal.logistic_bot, show (-1 : EReal) = ((-1 : ℝ) : EReal) by rw [EReal.coe_neg, EReal.coe_one],
      ← EReal.coe_mul, ← EReal.coe_add]
    norm_num
  | top =>
    rw [EReal.coe_mul_top_of_pos (by norm_num), Ideal.tanh_top, Ideal.logistic_top, show (1 : EReal) = ((1 : ℝ) : EReal) by norm_cast,
      ← EReal.coe_mul, ← EReal.coe_add]
    norm_num
  | coe r =>
    rw [← EReal.coe_mul, Ideal.tanh_coe, Ideal.logistic_coe, ← EReal.coe_mul, ← EReal.coe_add]
    congr 1
    have h : Real.exp (-r) = Real.exp (-(1 / 2 * r)) * Real.exp (-(1 / 2 * r)) := by rw [← Real.exp_add]; congr 1; ring
    have h1 : Real.exp (1 / 2 * r) * Real.exp (-(1 / 2 * r)) = 1 := by rw [← Real.exp_add]; simp
    rw [h, Real.tanh_eq_sinh_div_cosh, Real.sinh_eq, Real.cosh_eq]
    generalize Real.exp (-(1 / 2 * r)) = b at *
    have ha : Real.exp (1 / 2 * r) > 0 := Real.exp_pos _
    generalize Real.exp (1 / 2 * r) = a at *
    have hb : b = 1 / a := by field_simp; linarith
    subst hb
    field_simp
    ring

theorem select_lane {α : Type} (l : ℕ) (hl : l < 128) (a b : α) :
    Scalar.select (IntOp.cmpi CmpIPredicate.slt (BitVec.ofNat 32 l) 64#32) a b = if l < 64 then a else b := by
  have h : (BitVec.ofNat 32 l).slt 64#32 = decide (l < 64) := by
    simp only [BitVec.slt, BitVec.toInt_eq_toNat_cond, BitVec.toNat_ofNat]
    congr 1
    simp only [eq_iff_iff]
    have e : l % 2 ^ 32 = l := Nat.mod_eq_of_lt (by omega)
    rw [e]
    omega
  by_cases c : l < 64 <;> simp [Scalar.select, IntOp.cmpi, h, c]

theorem sum_first (f : Fin 128 → EReal) : (∑ l : Fin 128, if (l : ℕ) < 64 then f l else 0) = ∑ d : Fin 64, f ⟨d, by omega⟩ := by
  rw [Fin.sum_univ_add (a := 64) (b := 64) (f := fun l : Fin 128 => if (l : ℕ) < 64 then f l else 0)]
  simp
  rfl

theorem sum_second (f : Fin 128 → EReal) : (∑ l : Fin 128, if (l : ℕ) < 64 then 0 else f l) = ∑ d : Fin 64, f ⟨64 + d, by omega⟩ := by
  rw [Fin.sum_univ_add (a := 64) (b := 64) (f := fun l : Fin 128 => if (l : ℕ) < 64 then 0 else f l)]
  simp
  rfl

/-- Two heads side by side: the lanes of each are scaled by its own root mean square. -/
theorem pair (s : Fin 128 → EReal) (l : Fin 128) :
    s l * (if (l : ℕ) < 64 then
        Ideal.rsqrt ((∑ x : Fin 128, if (x : ℕ) < 64 then s x * s x else 0) * Ideal.ofBits FTy.f32 0x3C800000#32 + Ideal.ofBits FTy.f32 0x358637BD#32)
      else Ideal.rsqrt ((∑ x : Fin 128, if (x : ℕ) < 64 then 0 else s x * s x) * Ideal.ofBits FTy.f32 0x3C800000#32 + Ideal.ofBits FTy.f32 0x358637BD#32))
      = headNorm (fun d => s ⟨64 * (l / 64) + d, by omega⟩) ⟨l % 64, by omega⟩ := by
  rw [sum_first fun x => s x * s x, sum_second fun x => s x * s x, mean64, mean64]
  unfold headNorm
  by_cases c : (l : ℕ) < 64
  · have e : ∀ d : Fin 64, (⟨64 * (l / 64) + d, by omega⟩ : Fin 128) = ⟨d, by omega⟩ := fun d => Fin.ext (by simp only; omega)
    rw [if_pos c]
    simp only [e]
    congr 2
    exact Fin.ext (by simp only; omega)
  · have e : ∀ d : Fin 64, (⟨64 * (l / 64) + d, by omega⟩ : Fin 128) = ⟨64 + d, by omega⟩ := fun d => Fin.ext (by simp only; omega)
    rw [if_neg c]
    simp only [e]
    congr 2
    exact Fin.ext (by simp only; omega)

end Cert.Kernel3Ideal.Proj
end
-- ==== Proof.ProjTiles.lean ====
/- The tiles of one grid point of the projections, each at an index. -/
module

public import proofs.«01_k».proof.Proof.ProjRows

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.Kernel2Ideal.Mlp (unitRow)

/-- The normalised rows, put together from four blocks of 256 rows. -/
theorem unit_eq (x0 x1 x2 x3 : FVec Ideal S256x1024 .f32) (g : FVec Ideal S1x1x1024 .f32) (X : FVec Ideal S1024x1024 .f32)
    (h0 : ∀ (r : Fin 256) (k : Fin 1024), x0 (ix2 r k) = X (ix2 ⟨r, by omega⟩ k))
    (h1 : ∀ (r : Fin 256) (k : Fin 1024), x1 (ix2 r k) = X (ix2 ⟨256 + r, by omega⟩ k))
    (h2 : ∀ (r : Fin 256) (k : Fin 1024), x2 (ix2 r k) = X (ix2 ⟨512 + r, by omega⟩ k))
    (h3 : ∀ (r : Fin 256) (k : Fin 1024), x3 (ix2 r k) = X (ix2 ⟨768 + r, by omega⟩ k)) (r : Fin 1024) (k : Fin 1024) :
    k0_pay18 (F := Ideal) (k0_pay8 x0 g) (k0_pay12 (k0_pay10 x1) (k0_pay11 g)) (k0_pay14 x2 g) x3 g (ix2 r k)
      = unitRow (fun l => X (ix2 r l)) (fun l => g (ix3 0 0 l)) k := by
  have key (x : FVec Ideal S256x1024 .f32) (q : Fin 256) (h : ∀ l, x (ix2 q l) = X (ix2 r l)) :
      unitRow (fun l => x (ix2 q l)) (fun l => g (ix3 0 0 l)) k = unitRow (fun l => X (ix2 r l)) (fun l => g (ix3 0 0 l)) k := by
    rw [funext h]
  have row (d : ℕ) (q : Fin 256) (hq : d + q < 1024) (h : (r : ℕ) = d + q) (l : Fin 1024) : X (ix2 (⟨d + q, hq⟩ : Fin 1024) l) = X (ix2 r l) := by
    rw [show (⟨d + q, hq⟩ : Fin 1024) = r from Fin.ext h.symm]
  pointwise [k0_pay18, k0_pay8, k0_pay10, k0_pay11, k0_pay12, k0_pay14, k0_pay16]
  by_cases c0 : (r : ℕ) < 256
  · rw [dif_pos c0]
    exact key x0 ⟨r, c0⟩ fun l => h0 _ l
  rw [dif_neg c0]
  by_cases c1 : (r : ℕ) - 256 < 256
  · rw [dif_pos c1]
    exact key x1 ⟨r - 256, c1⟩ fun l => (h1 _ l).trans (row 256 ⟨r - 256, c1⟩ _ (by simp only; omega) l)
  rw [dif_neg c1]
  by_cases c2 : (r : ℕ) - 256 - 256 < 256
  · rw [dif_pos c2]
    exact key x2 ⟨r - 256 - 256, c2⟩ fun l => (h2 _ l).trans (row 512 ⟨r - 256 - 256, c2⟩ _ (by simp only; omega) l)
  rw [dif_neg c2]
  exact key x3 ⟨r - 256 - 256 - 256, _⟩ fun l => (h3 _ l).trans (row 768 ⟨r - 256 - 256 - 256, by omega⟩ _ (by simp only; omega) l)

/-- A gain repeated for every head. -/
theorem gains_eq (g : FVec Ideal S1x1x64 .f32) (n : Fin 512) : k0_pay23 (F := Ideal) g (ix2 0 n) = g (ix3 0 0 ⟨n % 64, by omega⟩) := by
  pointwise [k0_pay23]
  split_ifs <;> exact congrArg (fun q => g (ix3 0 0 q)) (Fin.ext (by simp only; omega))

theorem gainsq_eq (g : FVec Ideal S1x1x64 .f32) (n : Fin 512) : k0_pay25 (F := Ideal) g (ix2 0 n)
    = g (ix3 0 0 ⟨n % 64, by omega⟩) * Ideal.ofBits FTy.f32 0x3E38AA3B#32 := by
  pointwise [k0_pay25]
  refine congrArg (· * Ideal.ofBits FTy.f32 0x3E38AA3B#32) ?_
  split_ifs <;> exact congrArg (fun q => g (ix3 0 0 q)) (Fin.ext (by simp only; omega))

/-! ## The eight heads: four tiles of 128 lanes, two heads in each -/

/-- Two heads of a row, from lane `o` on, before their gain. -/
def pairAt (s : Fin 512 → EReal) (o : ℕ) (ho : o + 128 ≤ 512) (l : Fin 128) : EReal :=
  headNorm (fun d => s ⟨o + (64 * (l / 64) + d), by omega⟩) ⟨l % 64, by omega⟩

theorem pairAt_eq (s : Fin 512 → EReal) (g : Fin 64 → EReal) (n : Fin 512) (o : ℕ) (l : Fin 128)
    (ho : o + 128 ≤ 512) (h64 : o % 64 = 0) (h : (n : ℕ) = o + l) : pairAt s o ho l * g ⟨n % 64, by omega⟩ = headsRow s g n := by
  unfold headsRow pairAt
  have e : ∀ d : Fin 64, (⟨o + (64 * (l / 64) + d), by omega⟩ : Fin 512) = ⟨64 * (n / 64) + d, by omega⟩ :=
    fun d => Fin.ext (by simp only; omega)
  have e' : (⟨l % 64, by omega⟩ : Fin 64) = ⟨n % 64, by omega⟩ := Fin.ext (by simp only; omega)
  simp only [e, e']

variable (u : FVec Ideal S1024x1024 .bf16) (w : FVec Ideal S1x1024x512 .f32) (T : FVec Ideal S1024x512 .f32) (r : Fin 1024)

theorem qpair0 (l : Fin 128) :
    k0_pay30 (F := Ideal) k0_pay19 (k0_pay26 u w) (k0_pay28 u k0_pay19 w) (k0_pay29 u k0_pay19 w) (ix2 r l)
      = pairAt (fun k => k0_pay24 (F := Ideal) u w (ix2 r k)) 0 (by omega) l := by
  pointwise [k0_pay30, k0_pay26, k0_pay27, k0_pay28, k0_pay29, k0_pay19]
  generalize k0_pay24 (F := Ideal) u w = T
  simp only [select_lane _ (Fin.isLt _), pairAt, Nat.zero_add]
  exact pair (fun x => T (ix2 r ⟨x, by omega⟩)) l

theorem qpair1 (l : Fin 128) : k0_pay31 (F := Ideal) k0_pay19 T (ix2 r l) = pairAt (fun k => T (ix2 r k)) 128 (by omega) l := by
  pointwise [k0_pay31, k0_pay19]
  simp only [select_lane _ (Fin.isLt _)]
  exact pair (fun x => T (ix2 r ⟨128 + x, by omega⟩)) l

theorem queries_eq (g : FVec Ideal S1x512 .f32) (h : Fin 64 → EReal) (A B : FVec Ideal S1024x128 .f32) (n : Fin 512)
    (hg : g (ix2 0 n) = h ⟨n % 64, by omega⟩)
    (hA : ∀ l, A (ix2 r l) = pairAt (fun k => T (ix2 r k)) 0 (by omega) l)
    (hB : ∀ l, B (ix2 r l) = pairAt (fun k => T (ix2 r k)) 128 (by omega) l) :
    k0_pay36 (F := Ideal) k0_pay19 T g A B (k0_pay32 T) (k0_pay34 k0_pay19 T) (k0_pay35 k0_pay19 T) (ix2 r n)
      = headsRow (fun k => T (ix2 r k)) h n := by
  pointwise [k0_pay36, k0_pay19, k0_pay32, k0_pay33, k0_pay34, k0_pay35]
  have lane : ∀ (l : Fin 128) (a b : EReal), Scalar.select (IntOp.cmpi CmpIPredicate.slt (BitVec.ofNat 32 l) 64#32) a b
    = if (l : ℕ) < 64 then a else b := fun l a b => select_lane _ l.isLt a b
  simp only [lane]
  rw [hg]
  by_cases c0 : (n : ℕ) < 128
  · rw [dif_pos c0, hA]
    exact pairAt_eq _ h n 0 _ _ rfl (by simp only; omega)
  rw [dif_neg c0]
  by_cases c1 : (n : ℕ) - 128 < 128
  · rw [dif_pos c1, hB]
    exact pairAt_eq _ h n 128 _ _ rfl (by simp only; omega)
  rw [dif_neg c1]
  by_cases c2 : (n : ℕ) - 128 - 128 < 128
  · rw [dif_pos c2, select_lane _ c2]
    exact (congrArg (· * h ⟨n % 64, by omega⟩) (pair (fun x => T (ix2 r ⟨256 + x, by omega⟩)) ⟨n - 128 - 128, c2⟩)).trans
      (pairAt_eq (fun k => T (ix2 r k)) h n 256 ⟨n - 128 - 128, c2⟩ (by omega) rfl (by simp only; omega))
  rw [dif_neg c2, select_lane _ (by omega)]
  exact (congrArg (· * h ⟨n % 64, by omega⟩) (pair (fun x => T (ix2 r ⟨384 + x, by omega⟩)) ⟨n - 128 - 128 - 128, by omega⟩)).trans
    (pairAt_eq (fun k => T (ix2 r k)) h n 384 ⟨n - 128 - 128 - 128, by omega⟩ (by omega) rfl (by simp only; omega))

theorem kpair0 (l : Fin 128) :
    k0_pay38 (F := Ideal) u k0_pay19 w (ix2 r l) = pairAt (fun k => k0_pay37 (F := Ideal) u w (ix2 r k)) 0 (by omega) l := by
  pointwise [k0_pay38, k0_pay19]
  generalize k0_pay37 (F := Ideal) u w = T
  simp only [select_lane _ (Fin.isLt _), pairAt, Nat.zero_add]
  exact pair (fun x => T (ix2 r ⟨x, by omega⟩)) l

theorem kpair1 (l : Fin 128) :
    k0_pay43 (F := Ideal) k0_pay19 (k0_pay39 u w) (k0_pay41 u k0_pay19 w) (k0_pay42 u k0_pay19 w) (FloatOps.ofBits FTy.f32 1015021568#32) (ix2 r l)
      = pairAt (fun k => k0_pay37 (F := Ideal) u w (ix2 r k)) 128 (by omega) l := by
  pointwise [k0_pay43, k0_pay39, k0_pay40, k0_pay41, k0_pay42, k0_pay19]
  generalize k0_pay37 (F := Ideal) u w = T
  simp only [select_lane _ (Fin.isLt _)]
  exact pair (fun x => T (ix2 r ⟨128 + x, by omega⟩)) l

theorem kpair2 (l : Fin 128) : k0_pay44 (F := Ideal) k0_pay19 T (ix2 r l) = pairAt (fun k => T (ix2 r k)) 256 (by omega) l := by
  pointwise [k0_pay44, k0_pay19]
  simp only [select_lane _ (Fin.isLt _)]
  exact pair (fun x => T (ix2 r ⟨256 + x, by omega⟩)) l

theorem keys_eq (g : FVec Ideal S1x512 .f32) (h : Fin 64 → EReal) (A B C : FVec Ideal S1024x128 .f32) (n : Fin 512)
    (hg : g (ix2 0 n) = h ⟨n % 64, by omega⟩)
    (hA : ∀ l, A (ix2 r l) = pairAt (fun k => T (ix2 r k)) 0 (by omega) l)
    (hB : ∀ l, B (ix2 r l) = pairAt (fun k => T (ix2 r k)) 128 (by omega) l)
    (hC : ∀ l, C (ix2 r l) = pairAt (fun k => T (ix2 r k)) 256 (by omega) l) :
    k0_pay49 (F := Ideal) k0_pay19 g A B C (k0_pay45 T) (k0_pay47 k0_pay19 T) (k0_pay48 k0_pay19 T) (ix2 r n)
      = headsRow (fun k => T (ix2 r k)) h n := by
  pointwise [k0_pay49, k0_pay19, k0_pay45, k0_pay46, k0_pay47, k0_pay48]
  have lane : ∀ (l : Fin 128) (a b : EReal), Scalar.select (IntOp.cmpi CmpIPredicate.slt (BitVec.ofNat 32 l) 64#32) a b
    = if (l : ℕ) < 64 then a else b := fun l a b => select_lane _ l.isLt a b
  simp only [lane]
  rw [hg]
  by_cases c0 : (n : ℕ) < 128
  · rw [dif_pos c0, hA]
    exact pairAt_eq _ h n 0 _ _ rfl (by simp only; omega)
  rw [dif_neg c0]
  by_cases c1 : (n : ℕ) - 128 < 128
  · rw [dif_pos c1, hB]
    exact pairAt_eq _ h n 128 _ _ rfl (by simp only; omega)
  rw [dif_neg c1]
  by_cases c2 : (n : ℕ) - 128 - 128 < 128
  · rw [dif_pos c2, hC]
    exact pairAt_eq _ h n 256 _ _ rfl (by simp only; omega)
  rw [dif_neg c2, select_lane _ (by omega)]
  exact (congrArg (· * h ⟨n % 64, by omega⟩) (pair (fun x => T (ix2 r ⟨384 + x, by omega⟩)) ⟨n - 128 - 128 - 128, by omega⟩)).trans
    (pairAt_eq (fun k => T (ix2 r k)) h n 384 ⟨n - 128 - 128 - 128, by omega⟩ (by omega) rfl (by simp only; omega))

/-! ## The products -/

/-- An entry of the product of normalised rows with a weight tile. -/
def dot {N : ℕ} (u : FVec Ideal S1024x1024 .bf16) (w : FVec Ideal ⟨3, ![1, 1024, N]⟩ .f32) (r : Fin 1024) (n : Fin N) : EReal :=
  ∑ k : Fin 1024, u (ix2 r k) * w (ix3 0 k n)

theorem pay24_eq (n : Fin 512) : k0_pay24 (F := Ideal) u w (ix2 r n) = dot u w r n := by pointwise [k0_pay24]; rfl

theorem pay37_eq (n : Fin 512) : k0_pay37 (F := Ideal) u w (ix2 r n) = dot u w r n := by pointwise [k0_pay37]; rfl

theorem pay1_eq (n : Fin 512) : k0_pay1 (F := Ideal) u w (ix2 r n) = dot u w r n := by pointwise [k0_pay1]; rfl

theorem pay51_eq (n : Fin 512) : k0_pay51 (F := Ideal) u w (ix2 r n) = dot u w r n := by pointwise [k0_pay51]; rfl

theorem pay50_eq (w' : FVec Ideal S1x1024x512 .f32) (n : Fin 512) : k0_pay50 (F := Ideal) u w w' (ix2 r n) = dot u w r n * dot u w' r n := by
  pointwise [k0_pay50]; rfl

/-! ## The gates -/

theorem pay22_eq (x0 x1 x2 : FVec Ideal S256x1024 .bf16) (x3 : FVec Ideal S256x1024 .f32) (g : FVec Ideal S1x1x1024 .f32)
    (w : FVec Ideal S1x1024x1024 .f32) (n : Fin 1024) :
    k0_pay22 (F := Ideal) (k0_pay20 x0 x1 x2 x3 g w) k0_pay21 (ix2 r n) = gate (dot (k0_pay18 x0 x1 x2 x3 g) w r n) := by
  rw [← gate_tanh]
  pointwise [k0_pay22, k0_pay20, k0_pay21]; rfl

section
variable (x : FVec Ideal S256x1024 .f32) (g : FVec Ideal S1x1x1024 .f32) (w : FVec Ideal S1x1024x1024 .f32) (r : Fin 256) (n : Fin 1024)

theorem pay9_eq : k0_pay9 (F := Ideal) (k0_pay7 w) x g (ix2 r n)
    = gate (∑ k, unitRow (fun k => x (ix2 r k)) (fun k => g (ix3 0 0 k)) k * w (ix3 0 k n)) := by
  rw [← gate_tanh]; pointwise [k0_pay9, k0_pay7, k0_pay8]; rfl

theorem pay13_eq : k0_pay13 (F := Ideal) (k0_pay7 w) (k0_pay10 x) (k0_pay11 g) (ix2 r n)
    = gate (∑ k, unitRow (fun k => x (ix2 r k)) (fun k => g (ix3 0 0 k)) k * w (ix3 0 k n)) := by
  rw [← gate_tanh]; pointwise [k0_pay13, k0_pay7, k0_pay12, k0_pay10, k0_pay11]; rfl

theorem pay15_eq : k0_pay15 (F := Ideal) (k0_pay7 w) x g (ix2 r n)
    = gate (∑ k, unitRow (fun k => x (ix2 r k)) (fun k => g (ix3 0 0 k)) k * w (ix3 0 k n)) := by
  rw [← gate_tanh]; pointwise [k0_pay15, k0_pay7, k0_pay14]; rfl

theorem pay17_eq : k0_pay17 (F := Ideal) (k0_pay7 w) x g (ix2 r n)
    = gate (∑ k, unitRow (fun k => x (ix2 r k)) (fun k => g (ix3 0 0 k)) k * w (ix3 0 k n)) := by
  rw [← gate_tanh]; pointwise [k0_pay17, k0_pay7, k0_pay16]; rfl
end

/-! ## The convolution -/

theorem pay58_eq (z cb a b : FVec Ideal S1024x512 .f32) (w0 w1 w2 : FVec Ideal S1x1x512 .f32) (n : Fin 512) :
    k0_pay58 (F := Ideal) z cb (k0_pay52 w0) w1 w2 a b (ix2 r n) = cb (ix2 r n)
      * (a (ix2 r n) * w0 (ix3 0 0 n) + z (ix2 r n) * w1 (ix3 0 0 n) + b (ix2 r n) * w2 (ix3 0 0 n)) := by
  pointwise [k0_pay58, k0_pay52, k0_pay53]

/-- The factors that the products across a tile's borders need, one row each. -/
def edgeRow (z cb : Fin 1024 → EReal) (w0 w2 : EReal) (j : Fin 8) : EReal :=
  if (j : ℕ) = 0 then z 0 else if (j : ℕ) = 1 then z 1023 else if (j : ℕ) = 2 then cb 0 * w0
  else if (j : ℕ) = 3 then cb 1023 * w2 else 0

theorem pay59_eq (z cb : FVec Ideal S1024x512 .f32) (w0 w2 : FVec Ideal S1x1x512 .f32) (j : Fin 8) (n : Fin 512) :
    k0_pay59 (F := Ideal) z cb (k0_pay52 w0) w2 (ix2 j n)
      = edgeRow (fun r => z (ix2 r n)) (fun r => cb (ix2 r n)) (w0 (ix3 0 0 n)) (w2 (ix3 0 0 n)) j := by
  pointwise [k0_pay59, k0_pay52, k0_pay53]
  unfold edgeRow
  fin_cases j <;> simp

end Cert.Kernel3Ideal.Proj
end
-- ==== Proof.ProjBlock.lean ====
/- What one grid point of the projections writes, window by window. -/
module

public import proofs.«01_k».proof.Proof.ProjTiles

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.Kernel2Ideal.Mlp (unitRow)

/-! ## The parts of a projected row -/

/-- 512 columns of a projected row. -/
def part (p : Fin 5120 → EReal) (o : ℕ) (h : o + 512 ≤ 5120) (n : Fin 512) : EReal := p ⟨o + n, by omega⟩

/-- A gain times the softmax's scale. -/
def scaled (g : Fin 64 → EReal) (d : Fin 64) : EReal := g d * Ideal.ofBits FTy.f32 0x3E38AA3B#32

/-- The queries: normalised heads, with the softmax's scale in the gain. -/
def queryRow (p : Fin 5120 → EReal) (g : Fin 64 → EReal) (n : Fin 512) : EReal :=
  headsRow (part p 0 (by omega)) (scaled g) n

def keyRow (p : Fin 5120 → EReal) (g : Fin 64 → EReal) (n : Fin 512) : EReal := headsRow (part p 512 (by omega)) g n

/-- What the convolution runs over: two parts of the row multiplied. -/
def convIn (p : Fin 5120 → EReal) (n : Fin 512) : EReal := part p 2048 (by omega) n * part p 2560 (by omega) n

/-- The three taps at row `r` of a tile of 1024 rows, taking the rows outside it to be zero, times the outer gate. -/
def convRow (P : Fin 1024 → Fin 5120 → EReal) (w0 w1 w2 : EReal) (r : Fin 1024) (n : Fin 512) : EReal :=
  part (P r) 1536 (by omega) n * ((if h : (r : ℕ) = 0 then 0 else convIn (P ⟨r - 1, by omega⟩) n) * w0 + convIn (P r) n * w1
    + (if h : (r : ℕ) < 1023 then convIn (P ⟨r + 1, by omega⟩) n else 0) * w2)

/-- The eight rows of factors across a tile's borders. -/
def edgesRow (P : Fin 1024 → Fin 5120 → EReal) (w0 w2 : EReal) (j : Fin 8) (n : Fin 512) : EReal :=
  edgeRow (fun r => convIn (P r) n) (fun r => part (P r) 1536 (by omega) n) w0 w2 j

/-- The two gates, 1024 columns each. -/
def gateRow (p : Fin 5120 → EReal) (o : ℕ) (h : o + 1024 ≤ 5120) (n : Fin 1024) : EReal := gate (p ⟨o + n, by omega⟩)

/-! ## One block -/

/-- The projected rows of a block. -/
def proj (x : FVec Ideal S1024x1024 .f32) (g : FVec Ideal S1x1x1024 .f32) (w : FVec Ideal S1x1024x5120 .f32) (r : Fin 1024) : Fin 5120 → EReal :=
  projRow (fun l => x (ix2 r l)) (fun l => g (ix3 0 0 l)) fun k n => w (ix3 0 k n)

section
variable (x : FVec Ideal S1024x1024 .f32) (g : FVec Ideal S1x1x1024 .f32) (w : FVec Ideal S1x1024x5120 .f32)

/-- The rows that all products of the block take. -/
def units : FVec Ideal S1024x1024 .bf16 :=
  k0_pay18 (F := Ideal) (k0_pay8 (View.ld (Val := Elt Ideal) (S := S1024x1024) (e' := .f32) x (Rect.unit ![0, 0] ![256, 1024] inb_S1024x1024_S256x1024_0_0)) g)
    (k0_pay12 (k0_pay10 (View.ld (Val := Elt Ideal) (S := S1024x1024) (e' := .f32) x (Rect.unit ![256, 0] ![256, 1024] inb_S1024x1024_S256x1024_256_0))) (k0_pay11 g))
    (k0_pay14 (View.ld (Val := Elt Ideal) (S := S1024x1024) (e' := .f32) x (Rect.unit ![512, 0] ![256, 1024] inb_S1024x1024_S256x1024_512_0)) g)
    (View.ld (Val := Elt Ideal) (S := S1024x1024) (e' := .f32) x (Rect.unit ![768, 0] ![256, 1024] inb_S1024x1024_S256x1024_768_0)) g

theorem units_eq (r k : Fin 1024) : units x g (ix2 r k) = unitRow (fun l => x (ix2 r l)) (fun l => g (ix3 0 0 l)) k :=
  unit_eq _ _ _ _ g x (fun r k => by pointwise!) (fun r k => by pointwise!) (fun r k => by pointwise!) (fun r k => by pointwise!) r k

/-- The product of the rows with some columns of the weight. -/
theorem dot_units {N : ℕ} (o : ℕ) (inb : ∀ a, ![0, 0, o] a + ![1, 1024, N] a ≤ S1x1024x5120.size a) (h : o + N ≤ 5120) (r : Fin 1024) (n : Fin N) :
    dot (N := N) (units x g) (View.ld (Val := Elt Ideal) (S := S1x1024x5120) (e' := .f32) w (Rect.unit ![0, 0, o] ![1, 1024, N] inb)) r n = proj x g w r ⟨o + n, by omega⟩ := by
  unfold dot proj projRow
  refine Finset.sum_congr rfl fun k _ => congrArg₂ (· * ·) (units_eq x g r k) ?_
  refine Pieces.ld_eq _ _ _ _ fun a => ?_
  fin_cases a
  · rfl
  · exact Nat.zero_add _
  · rfl

/-- A gate over 256 of the rows. -/
theorem gate_tile (x' : FVec Ideal S256x1024 .f32) (w' : FVec Ideal S1x1024x1024 .f32) (r : Fin 256) (n R N : Fin 1024)
    (hx : ∀ k, x' (ix2 r k) = x (ix2 R k)) (hw : ∀ k, w' (ix3 0 k n) = w (ix3 0 k ⟨3072 + N, by omega⟩)) :
    gate (∑ k, unitRow (fun k => x' (ix2 r k)) (fun k => g (ix3 0 0 k)) k * w' (ix3 0 k n))
      = gateRow (proj x g w R) 3072 (by omega) N := by
  simp only [hw, funext hx]
  rfl

/-- The gate's columns of the weight. -/
def gateCols : FVec Ideal S1x1024x1024 .f32 := View.ld (Val := Elt Ideal) (S := S1x1024x5120) (e' := .f32) w
  (Rect.unit ![0, 0, 3072] ![1, 1024, 1024] inb_S1x1024x5120_S1x1024x1024_0_0_3072)

theorem gateCols_eq (k n : Fin 1024) (N : Fin 1024) (h : (n : ℕ) = N) : gateCols w (ix3 0 k n) = w (ix3 0 k ⟨3072 + N, by omega⟩) := by
  have e : n = N := Fin.ext h
  subst e
  unfold gateCols
  refine Pieces.ld_eq _ _ _ _ fun a => ?_
  fin_cases a
  · rfl
  · exact Nat.zero_add _
  · rfl

/-- The first gate is stored in four blocks of 256 rows. -/
theorem gates_of_pieces : View.canon (Val := Elt Ideal) (s := S1024x1024) (e := .bf16)
    [⟨Rect.unit ![768, 0] ![256, 1024] inb_S1024x1024_S256x1024_768_0, k0_pay17 (k0_pay7 (gateCols w)) (View.ld (Val := Elt Ideal) (S := S1024x1024) (e' := .f32) x (Rect.unit ![768, 0] ![256, 1024] inb_S1024x1024_S256x1024_768_0)) g⟩,
     ⟨Rect.unit ![512, 0] ![256, 1024] inb_S1024x1024_S256x1024_512_0, k0_pay15 (k0_pay7 (gateCols w)) (View.ld (Val := Elt Ideal) (S := S1024x1024) (e' := .f32) x (Rect.unit ![512, 0] ![256, 1024] inb_S1024x1024_S256x1024_512_0)) g⟩,
     ⟨Rect.unit ![256, 0] ![256, 1024] inb_S1024x1024_S256x1024_256_0, k0_pay13 (k0_pay7 (gateCols w)) (k0_pay10 (View.ld (Val := Elt Ideal) (S := S1024x1024) (e' := .f32) x (Rect.unit ![256, 0] ![256, 1024] inb_S1024x1024_S256x1024_256_0))) (k0_pay11 g)⟩,
     ⟨Rect.unit ![0, 0] ![256, 1024] inb_S1024x1024_S256x1024_0_0, k0_pay9 (k0_pay7 (gateCols w)) (View.ld (Val := Elt Ideal) (S := S1024x1024) (e' := .f32) x (Rect.unit ![0, 0] ![256, 1024] inb_S1024x1024_S256x1024_0_0)) g⟩]
    = fun i => gateRow (proj x g w (i 0)) 3072 (by omega) (i 1) := by
  funext I
  refine Pieces.canon_eq (Val := Elt Ideal) (s := S1024x1024) (e := .bf16) _ (fun i => gateRow (proj x g w (i 0)) 3072 (by omega) (i 1)) ?_ I ?_
  · refine List.forall_mem_cons.2 ⟨fun j => ?_, List.forall_mem_cons.2 ⟨fun j => ?_, List.forall_mem_cons.2 ⟨fun j => ?_,
      List.forall_mem_cons.2 ⟨fun j => ?_, fun _ h => absurd h List.not_mem_nil⟩⟩⟩⟩ <;> idx_vars j
    · exact (pay17_eq _ _ _ _ _).trans (gate_tile x g w _ _ _ _ _ _
        (fun k => Pieces.ld_ix2 _ _ _ _ _ _ (Pieces.emb_row _ (ix2 j0 j1)) (Nat.zero_add _))
        fun k => gateCols_eq w k _ _ ((Nat.zero_add _).symm.trans (Pieces.emb_col _ (ix2 j0 j1))))
    · exact (pay15_eq _ _ _ _ _).trans (gate_tile x g w _ _ _ _ _ _
        (fun k => Pieces.ld_ix2 _ _ _ _ _ _ (Pieces.emb_row _ (ix2 j0 j1)) (Nat.zero_add _))
        fun k => gateCols_eq w k _ _ ((Nat.zero_add _).symm.trans (Pieces.emb_col _ (ix2 j0 j1))))
    · exact (pay13_eq _ _ _ _ _).trans (gate_tile x g w _ _ _ _ _ _
        (fun k => Pieces.ld_ix2 _ _ _ _ _ _ (Pieces.emb_row _ (ix2 j0 j1)) (Nat.zero_add _))
        fun k => gateCols_eq w k _ _ ((Nat.zero_add _).symm.trans (Pieces.emb_col _ (ix2 j0 j1))))
    · exact (pay9_eq _ _ _ _ _).trans (gate_tile x g w _ _ _ _ _ _
        (fun k => Pieces.ld_ix2 _ _ _ _ _ _ (Pieces.emb_row _ (ix2 j0 j1)) (Nat.zero_add _))
        fun k => gateCols_eq w k _ _ ((Nat.zero_add _).symm.trans (Pieces.emb_col _ (ix2 j0 j1))))
  · have h0 : (I 0 : ℕ) < 1024 := (I 0).isLt
    have h1 : (I 1 : ℕ) < 1024 := (I 1).isLt
    simp only [List.exists_mem_cons_iff, Rect.mem_set_unit, Fin.forall_fin_two, Matrix.cons_val_zero, Matrix.cons_val_one,
      List.not_mem_nil, false_and, exists_false, or_false]
    omega

/-! ### The buffer of the convolution: the tile's rows from row 8 on, zeros above and below -/

/-- A row of the tile, or zero outside it. -/
def padded (z : FVec Ideal S1024x512 .f32) (i : S1040x512.Idx) : EReal :=
  if h : 8 ≤ (i 0 : ℕ) ∧ (i 0 : ℕ) < 1032 then z (ix2 ⟨(i 0 : ℕ) - 8, by omega⟩ (i 1)) else 0

theorem padded_pieces {κ : Kind} {sp : Space} (v : View sig κ sp S1040x512 .f32) (z : FVec Ideal S1024x512 .f32) (o : ℕ) (ho : 1 ≤ o)
    (inb : ∀ a, ![o, 0] a + ![1024, 512] a ≤ S1040x512.size a) :
    v.readCov (Val := Elt Ideal) [⟨Rect.unit ![8, 0] ![1024, 512] inb_S1040x512_S1024x512_8_0, k0_pay57 (F := Ideal) z⟩,
      ⟨Rect.unit ![1032, 0] ![8, 512] inb_S1040x512_S8x512_1032_0, k0_pay56 (F := Ideal)⟩,
      ⟨Rect.unit ![0, 0] ![8, 512] inb_S1040x512_S8x512_0_0, k0_pay55 (F := Ideal)⟩] (Rect.unit ![o, 0] ![1024, 512] inb).toLoadRect
      = fun j => padded z ((Rect.unit (s := S1040x512) ![o, 0] ![1024, 512] inb).toLoadRect.idx j) := by
  refine Pieces.readCov_eq (Val := Elt Ideal) (s := S1040x512) (e := .f32) _ _ _ (padded z) ?_ fun j => ?_
  · rw [List.forall_mem_cons, List.forall_mem_cons, List.forall_mem_singleton]
    refine ⟨fun j => ?_, fun j => ?_, fun j => ?_⟩ <;> idx_vars j
    · have hr : 8 + (j0 : ℕ) = _ := Pieces.emb_row (M := 1040) (N := 512) inb_S1040x512_S1024x512_8_0 (ix2 j0 j1)
      have hc : 0 + (j1 : ℕ) = _ := Pieces.emb_col (M := 1040) (N := 512) inb_S1040x512_S1024x512_8_0 (ix2 j0 j1)
      unfold padded
      rw [dif_pos (by omega)]
      pointwise [k0_pay57]
      exact congrArg₂ (fun a b => z (ix2 a b)) (Fin.ext (by simp only; omega)) (Fin.ext (by omega))
    · have hr : 1032 + (j0 : ℕ) = _ := Pieces.emb_row (M := 1040) (N := 512) inb_S1040x512_S8x512_1032_0 (ix2 j0 j1)
      unfold padded
      rw [dif_neg (by omega)]
      pointwise [k0_pay56, k0_pay54]
    · have hr : 0 + (j0 : ℕ) = _ := Pieces.emb_row (M := 1040) (N := 512) inb_S1040x512_S8x512_0_0 (ix2 j0 j1)
      unfold padded
      rw [dif_neg (by omega)]
      pointwise [k0_pay55, k0_pay54]
  · generalize (Rect.unit (s := S1040x512) ![o, 0] ![1024, 512] inb).toLoadRect.idx j = I
    have h0 : (I 0 : ℕ) < 1040 := (I 0).isLt
    have h1 : (I 1 : ℕ) < 512 := (I 1).isLt
    simp only [List.exists_mem_cons_iff, Rect.mem_set_unit, Fin.forall_fin_two, Matrix.cons_val_zero, Matrix.cons_val_one,
      List.not_mem_nil, false_and, exists_false, or_false]
    omega

/-- The row above, from the load one row higher. -/
theorem padded_above (z : FVec Ideal S1024x512 .f32) (inb : ∀ a, ![7, 0] a + ![1024, 512] a ≤ S1040x512.size a) (r : Fin 1024) (n : Fin 512) :
    padded z ((Rect.unit (s := S1040x512) ![7, 0] ![1024, 512] inb).toLoadRect.idx (ix2 r n))
      = if h : (r : ℕ) = 0 then 0 else z (ix2 ⟨r - 1, by omega⟩ n) := by
  have h0 : ((Rect.unit (s := S1040x512) ![7, 0] ![1024, 512] inb).toLoadRect.idx (ix2 r n) 0 : ℕ) = 7 + 1 * r := rfl
  have h1 : ((Rect.unit (s := S1040x512) ![7, 0] ![1024, 512] inb).toLoadRect.idx (ix2 r n) 1 : ℕ) = 0 + 1 * n := rfl
  unfold padded
  by_cases c : (r : ℕ) = 0
  · rw [dif_pos c, dif_neg (by omega)]
  · rw [dif_neg c, dif_pos (by omega)]
    exact congrArg₂ (fun a b => z (ix2 a b)) (Fin.ext (by simp only; omega)) (Fin.ext (by omega))

/-- The row below, from the load one row lower. -/
theorem padded_below (z : FVec Ideal S1024x512 .f32) (inb : ∀ a, ![9, 0] a + ![1024, 512] a ≤ S1040x512.size a) (r : Fin 1024) (n : Fin 512) :
    padded z ((Rect.unit (s := S1040x512) ![9, 0] ![1024, 512] inb).toLoadRect.idx (ix2 r n))
      = if h : (r : ℕ) < 1023 then z (ix2 ⟨r + 1, by omega⟩ n) else 0 := by
  have h0 : ((Rect.unit (s := S1040x512) ![9, 0] ![1024, 512] inb).toLoadRect.idx (ix2 r n) 0 : ℕ) = 9 + 1 * r := rfl
  have h1 : ((Rect.unit (s := S1040x512) ![9, 0] ![1024, 512] inb).toLoadRect.idx (ix2 r n) 1 : ℕ) = 0 + 1 * n := rfl
  unfold padded
  by_cases c : (r : ℕ) < 1023
  · rw [dif_pos c, dif_pos (by omega)]
    exact congrArg₂ (fun a b => z (ix2 a b)) (Fin.ext (by simp only; omega)) (Fin.ext (by omega))
  · rw [dif_neg c, dif_neg (by omega)]

/-- 512 columns of the weight. -/
abbrev cols (o : ℕ) (inb : ∀ a, ![0, 0, o] a + ![1, 1024, 512] a ≤ S1x1024x5120.size a) : FVec Ideal S1x1024x512 .f32 :=
  View.ld (Val := Elt Ideal) (S := S1x1024x5120) (e' := .f32) w (Rect.unit ![0, 0, o] ![1, 1024, 512] inb)

/-- The convolution's input in a block. -/
abbrev convTile : FVec Ideal S1024x512 .f32 := k0_pay50 (F := Ideal) (units x g) (cols w 2048 inb_S1x1024x5120_S1x1024x512_0_0_2048)
  (cols w 2560 inb_S1x1024x5120_S1x1024x512_0_0_2560)

theorem convTile_eq (r : Fin 1024) (n : Fin 512) : convTile x g w (ix2 r n) = convIn (proj x g w r) n :=
  (pay50_eq _ _ _ _ _).trans (congrArg₂ (· * ·) (dot_units x g w 2048 _ (by omega) r n) (dot_units x g w 2560 _ (by omega) r n))

/-- What the buffer holds when it is read. -/
abbrev padPieces (z : FVec Ideal S1024x512 .f32) : List (View.Piece (Elt Ideal) S1040x512 .f32) :=
  [⟨Rect.unit ![8, 0] ![1024, 512] inb_S1040x512_S1024x512_8_0, k0_pay57 (F := Ideal) z⟩,
    ⟨Rect.unit ![1032, 0] ![8, 512] inb_S1040x512_S8x512_1032_0, k0_pay56 (F := Ideal)⟩,
    ⟨Rect.unit ![0, 0] ![8, 512] inb_S1040x512_S8x512_0_0, k0_pay55 (F := Ideal)⟩]

/-- The buffer read from row `o` on. -/
abbrev shifted {κ : Kind} {sp : Space} (v : View sig κ sp S1040x512 .f32) (z : FVec Ideal S1024x512 .f32) (o : ℕ)
    (inb : ∀ a, ![o, 0] a + ![1024, 512] a ≤ S1040x512.size a) : FVec Ideal S1024x512 .f32 :=
  v.readCov (Val := Elt Ideal) (padPieces z) (Rect.unit (s := S1040x512) ![o, 0] ![1024, 512] inb).toLoadRect

theorem conv_eq {κ : Kind} {sp : Space} (v : View sig κ sp S1040x512 .f32) (w0 w1 w2 : FVec Ideal S1x1x512 .f32) (r : Fin 1024) (n : Fin 512) :
    k0_pay58 (F := Ideal) (convTile x g w) (k0_pay51 (F := Ideal) (units x g) (cols w 1536 inb_S1x1024x5120_S1x1024x512_0_0_1536)) (k0_pay52 (F := Ideal) w0) w1 w2
      (shifted v (convTile x g w) 7 inb_S1040x512_S1024x512_7_0) (shifted v (convTile x g w) 9 inb_S1040x512_S1024x512_9_0) (ix2 r n)
      = convRow (proj x g w) (w0 (ix3 0 0 n)) (w1 (ix3 0 0 n)) (w2 (ix3 0 0 n)) r n := by
  refine (pay58_eq _ _ _ _ _ _ _ _ _).trans ?_
  have hz := convTile_eq x g w
  generalize convTile x g w = z at hz ⊢
  have ha : shifted v z 7 inb_S1040x512_S1024x512_7_0 (ix2 r n) = _ :=
    (congrFun (padded_pieces v z 7 (by omega) _) (ix2 r n)).trans (padded_above z _ r n)
  have hb : shifted v z 9 inb_S1040x512_S1024x512_9_0 (ix2 r n) = _ :=
    (congrFun (padded_pieces v z 9 (by omega) _) (ix2 r n)).trans (padded_below z _ r n)
  rw [ha, hb, (pay51_eq _ _ _ _).trans (dot_units x g w 1536 _ (by omega) r n)]
  unfold convRow
  simp only [hz]
  rfl

end

variable (m : (ℓ : Loc nD τ sig) → Buf (Elt Ideal) ℓ) (c : Dev nD) (t : Fin cfg0.N)

/-- The projected rows of the block at point `t`. -/
abbrev blkProj : Fin 1024 → Fin 5120 → EReal := proj (iblk m c 0 t) (iblk m c 1 t) (iblk m c 2 t)

theorem block_q : (outsAt0 m c t).1 = fun i => queryRow (blkProj m c t (i 0)) (fun d => iblk m c 3 t (ix3 0 0 d)) (i 1) := by
  unfold outsAt0
  dsimp only
  frame_open
  simp (disch := decide) only [↓ View.readCov_skip, ↓ View.readCov_cons_toLoadRect, ↓ View.readCov_fill]
  frame_out
  funext i
  idx_vars i
  refine (queries_eq _ i0 _ (scaled fun d => iblk m c 3 t (ix3 0 0 d)) _ _ i1 (gainsq_eq _ _)
    (qpair0 _ _ i0) (qpair1 _ i0)).trans ?_
  unfold queryRow
  congr 1
  funext k
  exact (pay24_eq _ _ _ _).trans (dot_units _ _ _ 0 _ (by omega) _ _)

theorem block_k : (outsAt0 m c t).2.1 = fun i => keyRow (blkProj m c t (i 0)) (fun d => iblk m c 4 t (ix3 0 0 d)) (i 1) := by
  unfold outsAt0
  dsimp only
  frame_open
  simp (disch := decide) only [↓ View.readCov_skip, ↓ View.readCov_cons_toLoadRect, ↓ View.readCov_fill]
  frame_out
  funext i
  idx_vars i
  refine (keys_eq _ i0 _ (fun d => iblk m c 4 t (ix3 0 0 d)) _ _ _ i1 (gains_eq _ _)
    (kpair0 _ _ i0) (kpair1 _ _ i0) (kpair2 _ i0)).trans ?_
  unfold keyRow
  congr 1
  funext k
  exact (pay37_eq _ _ _ _).trans (dot_units _ _ _ 512 _ (by omega) _ _)

theorem block_v : (outsAt0 m c t).2.2.1 = fun i => part (blkProj m c t (i 0)) 1024 (by omega) (i 1) := by
  unfold outsAt0
  dsimp only
  frame_open
  simp (disch := decide) only [↓ View.readCov_skip, ↓ View.readCov_cons_toLoadRect, ↓ View.readCov_fill]
  frame_out
  funext i
  idx_vars i
  exact (pay1_eq _ _ _ _).trans (dot_units _ _ _ 1024 _ (by omega) _ _)

theorem block_edges : (outsAt0 m c t).2.2.2.2.1 = fun i => edgesRow (blkProj m c t)
    (iblk m c 5 t (ix3 0 0 ⟨(i 1 : Fin 512), by omega⟩)) (iblk m c 5 t (ix3 0 0 ⟨1024 + (i 1 : Fin 512), by omega⟩)) (i 0) (i 1) := by
  unfold outsAt0
  dsimp only
  frame_open
  simp (disch := decide) only [↓ View.readCov_skip, ↓ View.readCov_cons_toLoadRect, ↓ View.readCov_fill]
  frame_out
  funext i
  idx_vars i
  refine (pay59_eq _ _ _ _ _ _).trans ?_
  unfold edgesRow convIn part
  congr 1
  · funext r
    exact (pay50_eq _ _ _ _ _).trans (congrArg₂ (· * ·) (dot_units _ _ _ 2048 _ (by omega) _ _) (dot_units _ _ _ 2560 _ (by omega) _ _))
  · funext r
    exact (pay51_eq _ _ _ _).trans (dot_units _ _ _ 1536 _ (by omega) _ _)
  · pointwise!
  · pointwise!

theorem block_sgb : (outsAt0 m c t).2.2.2.2.2.2.1 = fun i => gateRow (blkProj m c t (i 0)) 4096 (by omega) (i 1) := by
  unfold outsAt0
  dsimp only
  frame_open
  simp (disch := decide) only [↓ View.readCov_skip, ↓ View.readCov_cons_toLoadRect, ↓ View.readCov_fill]
  frame_out
  funext i
  idx_vars i
  exact (pay22_eq _ _ _ _ _ _ _ _).trans (congrArg gate (dot_units _ _ _ 4096 _ (by omega) _ _))

theorem block_sga : (outsAt0 m c t).2.2.2.2.2.1 = fun i => gateRow (blkProj m c t (i 0)) 3072 (by omega) (i 1) := by
  unfold outsAt0
  dsimp only
  frame_open
  simp (disch := decide) only [↓ View.readCov_skip, ↓ View.readCov_cons_toLoadRect, ↓ View.readCov_fill]
  frame_out
  exact gates_of_pieces _ _ _

theorem block_bb : (outsAt0 m c t).2.2.2.1 = fun i => convRow (blkProj m c t)
    (iblk m c 5 t (ix3 0 0 ⟨(i 1 : Fin 512), by omega⟩)) (iblk m c 5 t (ix3 0 0 ⟨512 + (i 1 : Fin 512), by omega⟩)) (iblk m c 5 t (ix3 0 0 ⟨1024 + (i 1 : Fin 512), by omega⟩)) (i 0) (i 1) := by
  unfold outsAt0
  dsimp only
  frame_open
  simp (disch := decide) only [↓ View.readCov_skip, ↓ View.readCov_cons_toLoadRect, ↓ View.readCov_fill]
  frame_out
  funext i
  idx_vars i
  refine (conv_eq _ _ _ _ _ _ _ i0 i1).trans ?_
  congr 1
  · pointwise!
  · pointwise!
  · pointwise!

/-! The weights handed on in bf16. -/

theorem block_wa : (outsAt0 m c t).2.2.2.2.2.2.2.1 = fun i => iblk m c 6 t (ix3 0 (i 0 : Fin 32) (i 1 : Fin 1024)) := by
  unfold outsAt0
  dsimp only
  frame_open
  simp (disch := decide) only [↓ View.readCov_skip, ↓ View.readCov_cons_toLoadRect, ↓ View.readCov_fill]
  frame_out
  funext i
  idx_vars i
  generalize iblk m c 6 t = w
  pointwise [k0_pay2]

theorem block_wb : (outsAt0 m c t).2.2.2.2.2.2.2.2.1 = fun i => iblk m c 7 t (ix3 0 (i 0 : Fin 32) (i 1 : Fin 1024)) := by
  unfold outsAt0
  dsimp only
  frame_open
  simp (disch := decide) only [↓ View.readCov_skip, ↓ View.readCov_cons_toLoadRect, ↓ View.readCov_fill]
  frame_out
  funext i
  idx_vars i
  generalize iblk m c 7 t = w
  pointwise [k0_pay3]

theorem block_wo : (outsAt0 m c t).2.2.2.2.2.2.2.2.2.1 = fun i => iblk m c 8 t (ix3 0 (i 0 : Fin 64) (i 1 : Fin 1024)) := by
  unfold outsAt0
  dsimp only
  frame_open
  simp (disch := decide) only [↓ View.readCov_skip, ↓ View.readCov_cons_toLoadRect, ↓ View.readCov_fill]
  frame_out
  funext i
  idx_vars i
  generalize iblk m c 8 t = w
  pointwise [k0_pay4]

theorem block_w1 : (outsAt0 m c t).2.2.2.2.2.2.2.2.2.2.1 = fun i => iblk m c 9 t (ix3 0 (i 0 : Fin 64) (i 1 : Fin 4096)) := by
  unfold outsAt0
  dsimp only
  frame_open
  simp (disch := decide) only [↓ View.readCov_skip, ↓ View.readCov_cons_toLoadRect, ↓ View.readCov_fill]
  frame_out
  funext i
  idx_vars i
  generalize iblk m c 9 t = w
  pointwise [k0_pay5]

theorem block_w2 : (outsAt0 m c t).2.2.2.2.2.2.2.2.2.2.2 = fun i => iblk m c 10 t (ix3 0 (i 0 : Fin 256) (i 1 : Fin 1024)) := by
  unfold outsAt0
  dsimp only
  frame_open
  simp (disch := decide) only [↓ View.readCov_skip, ↓ View.readCov_cons_toLoadRect, ↓ View.readCov_fill]
  frame_out
  funext i
  idx_vars i
  generalize iblk m c 10 t = w
  pointwise [k0_pay6]

end Cert.Kernel3Ideal.Proj
end
-- ==== Proof.ProjArray.lean ====
/- The projections' whole results, as functions of the whole arguments. -/
module

public import proofs.«01_k».proof.Proof.ProjBlock

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- All projected rows. -/
def projAll (x : FVec Ideal S16384x1024 .f32) (g : FVec Ideal S1x1024 .f32) (w : FVec Ideal S1x1024x5120 .f32) (r : Fin 16384) :
    Fin 5120 → EReal :=
  projRow (fun l => x (ix2 r l)) (fun l => g (ix2 0 l)) fun k n => w (ix3 0 k n)

/-- The rows of tile `t`. -/
def tile (P : Fin 16384 → Fin 5120 → EReal) (t : Fin 16) (r : Fin 1024) : Fin 5120 → EReal := P ⟨t * 1024 + r, by omega⟩

section
variable (P : Fin 16384 → Fin 5120 → EReal)

def queries (g : FVec Ideal S1x64 .f32) : S16384x512.Idx → EReal := fun i => queryRow (P (i 0)) (fun d => g (ix2 0 d)) (i 1)

def keys (g : FVec Ideal S1x64 .f32) : S16384x512.Idx → EReal := fun i => keyRow (P (i 0)) (fun d => g (ix2 0 d)) (i 1)

def values : S16384x512.Idx → EReal := fun i => part (P (i 0)) 1024 (by omega) (i 1)

/-- The gated convolution within each tile. -/
def convAt (w : FVec Ideal S1x3x512 .f32) (r : Fin 16384) (n : Fin 512) : EReal :=
  convRow (tile P ⟨r / 1024, by omega⟩) (w (ix3 0 0 n)) (w (ix3 0 1 n)) (w (ix3 0 2 n)) ⟨r % 1024, by omega⟩ n

def convs (w : FVec Ideal S1x3x512 .f32) : S16384x512.Idx → EReal := fun i => convAt P w (i 0) (i 1)

/-- Eight rows for each tile. -/
def edgeAt (w : FVec Ideal S1x3x512 .f32) (r : Fin 128) (n : Fin 512) : EReal :=
  edgesRow (tile P ⟨r / 8, by omega⟩) (w (ix3 0 0 n)) (w (ix3 0 2 n)) ⟨r % 8, by omega⟩ n

def edges (w : FVec Ideal S1x3x512 .f32) : S128x512.Idx → EReal := fun i => edgeAt P w (i 0) (i 1)

def gates (o : ℕ) (h : o + 1024 ≤ 5120) : S16384x1024.Idx → EReal := fun i => gateRow (P (i 0)) o h (i 1)
end

variable (m : (ℓ : Loc nD τ sig) → Buf (Elt Ideal) ℓ)

/-- The block each window takes at point `t`. -/
theorem idx (t : Fin cfg0.N) : win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, t.val, 0] ∧ win0_7.index t = ![0, t.val, 0] ∧ win0_8.index t = ![0, t.val, 0]
    ∧ win0_9.index t = ![0, t.val, 0] ∧ win0_10.index t = ![0, t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0] :=
  (by decide +kernel : ∀ t : Fin grid0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, t.val, 0] ∧ win0_7.index t = ![0, t.val, 0] ∧ win0_8.index t = ![0, t.val, 0]
    ∧ win0_9.index t = ![0, t.val, 0] ∧ win0_10.index t = ![0, t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0] ∧ win0_22.index t = ![t.val, 0]) t

/-- The kernel's projected rows. -/
abbrev P (c : Dev nD) : Fin 16384 → Fin 5120 → EReal :=
  projAll (m ((c : Thread nD τ).loc main_arg0)) (m ((c : Thread nD τ).loc main_arg1)) (m ((c : Thread nD τ).loc main_arg2))

theorem lt16 (t : Fin cfg0.N) : (t : ℕ) < 16 := t.isLt

theorem blkProj_eq (c : Dev nD) (t : Fin cfg0.N) : blkProj m c t = tile (P m c) ⟨t, lt16 t⟩ := by
  funext r
  unfold blkProj proj tile P projAll
  congr 1
  · funext l
    blk_point [iblk, V, idx t]
  · funext l
    blk_point [iblk, V, idx t]
  · funext k n
    blk_point [iblk, V, idx t]

/-- The queries. -/
theorem final_q (c : Dev nD) : (dats m 0 c).arrAt 11 cfg0.N = queries (P m c) (m ((c : Thread nD τ).loc main_arg3)) := by
  refine (dats m 0 c).arrAt_eq_of_covers 11 _ (by decide +kernel) fun t hf y => ?_
  blk_simp
  rw [after0_11, block_q]
  idx_vars y
  have hE : ∀ f : S16384x512.Idx → EReal, f (((View.whole main_v4_0).slice (win0_11.rect t)).emb (ix2 y0 y1))
      = f (ix2 (⟨t.val * 1024 + y0, by have := lt16 t; omega⟩ : Fin 16384) y1) := by
    intro f
    blk_point [idx t]
  have hg : (fun d => iblk m c 3 t (ix3 0 0 d)) = fun d => m ((c : Thread nD τ).loc main_arg3) (ix2 0 d) := by
    funext d
    blk_point [iblk, V, idx t]
  refine Eq.trans ?_ (hE (queries (P m c) (m ((c : Thread nD τ).loc main_arg3)))).symm
  exact congrArg₂ (fun p g => queryRow p g y1) (congrFun (blkProj_eq m c t) y0) hg

/-- The keys. -/
theorem final_k (c : Dev nD) : (dats m 0 c).arrAt 12 cfg0.N = keys (P m c) (m ((c : Thread nD τ).loc main_arg4)) := by
  refine (dats m 0 c).arrAt_eq_of_covers 12 _ (by decide +kernel) fun t hf y => ?_
  blk_simp
  rw [after0_12, block_k]
  idx_vars y
  have hE : ∀ f : S16384x512.Idx → EReal, f (((View.whole main_v4_1).slice (win0_12.rect t)).emb (ix2 y0 y1))
      = f (ix2 (⟨t.val * 1024 + y0, by have := lt16 t; omega⟩ : Fin 16384) y1) := by
    intro f
    blk_point [idx t]
  have hg : (fun d => iblk m c 4 t (ix3 0 0 d)) = fun d => m ((c : Thread nD τ).loc main_arg4) (ix2 0 d) := by
    funext d
    blk_point [iblk, V, idx t]
  refine Eq.trans ?_ (hE (keys (P m c) (m ((c : Thread nD τ).loc main_arg4)))).symm
  exact congrArg₂ (fun p g => keyRow p g y1) (congrFun (blkProj_eq m c t) y0) hg

/-- The values. -/
theorem final_v (c : Dev nD) : (dats m 0 c).arrAt 13 cfg0.N = values (P m c) := by
  refine (dats m 0 c).arrAt_eq_of_covers 13 _ (by decide +kernel) fun t hf y => ?_
  blk_simp
  rw [after0_13, block_v]
  idx_vars y
  have hE : ∀ f : S16384x512.Idx → EReal, f (((View.whole main_v4_2).slice (win0_13.rect t)).emb (ix2 y0 y1))
      = f (ix2 (⟨t.val * 1024 + y0, by have := lt16 t; omega⟩ : Fin 16384) y1) := by
    intro f
    blk_point [idx t]
  refine Eq.trans ?_ (hE (values (P m c))).symm
  exact congrArg (fun p => part p 1024 (by omega) y1) (congrFun (blkProj_eq m c t) y0)

theorem convAt_tile (P : Fin 16384 → Fin 5120 → EReal) (w : FVec Ideal S1x3x512 .f32) (t : Fin 16) (r : Fin 1024) (n : Fin 512) :
    convAt P w ⟨t * 1024 + r, by omega⟩ n
      = convRow (tile P t) (w (ix3 0 0 n)) (w (ix3 0 1 n)) (w (ix3 0 2 n)) r n := by
  have h1 : (⟨(t.val * 1024 + r.val) / 1024, by omega⟩ : Fin 16) = t := Fin.ext (by simp only; omega)
  have h2 : (⟨(t.val * 1024 + r.val) % 1024, by omega⟩ : Fin 1024) = r := Fin.ext (by simp only; omega)
  exact congrArg₂ (fun t r => convRow (tile P t) (w (ix3 0 0 n)) (w (ix3 0 1 n)) (w (ix3 0 2 n)) r n) h1 h2

theorem edgeAt_tile (P : Fin 16384 → Fin 5120 → EReal) (w : FVec Ideal S1x3x512 .f32) (t : Fin 16) (r : Fin 8) (n : Fin 512) :
    edgeAt P w ⟨t * 8 + r, by omega⟩ n = edgesRow (tile P t) (w (ix3 0 0 n)) (w (ix3 0 2 n)) r n := by
  have h1 : (⟨(t.val * 8 + r.val) / 8, by omega⟩ : Fin 16) = t := Fin.ext (by simp only; omega)
  have h2 : (⟨(t.val * 8 + r.val) % 8, by omega⟩ : Fin 8) = r := Fin.ext (by simp only; omega)
  exact congrArg₂ (fun t r => edgesRow (tile P t) (w (ix3 0 0 n)) (w (ix3 0 2 n)) r n) h1 h2

/-- The gated convolution. -/
theorem final_bb (c : Dev nD) : (dats m 0 c).arrAt 14 cfg0.N = convs (P m c) (m ((c : Thread nD τ).loc main_arg5)) := by
  refine (dats m 0 c).arrAt_eq_of_covers 14 _ (by decide +kernel) fun t hf y => ?_
  blk_simp
  rw [after0_14, block_bb]
  idx_vars y
  have hE : ∀ f : S16384x512.Idx → EReal, f (((View.whole main_v4_3).slice (win0_14.rect t)).emb (ix2 y0 y1))
      = f (ix2 (⟨t.val * 1024 + y0, by have := lt16 t; omega⟩ : Fin 16384) y1) := by
    intro f
    blk_point [idx t]
  have hw0 : iblk m c 5 t (ix3 0 0 (⟨y1, by omega⟩ : Fin 1536)) = m ((c : Thread nD τ).loc main_arg5) (ix3 0 0 y1) := by
    blk_point [iblk, V, idx t]
  have hw1 : iblk m c 5 t (ix3 0 0 (⟨512 + y1, by omega⟩ : Fin 1536)) = m ((c : Thread nD τ).loc main_arg5) (ix3 0 1 y1) := by
    blk_point [iblk, V, idx t]
  have hw2 : iblk m c 5 t (ix3 0 0 (⟨1024 + y1, by omega⟩ : Fin 1536)) = m ((c : Thread nD τ).loc main_arg5) (ix3 0 2 y1) := by
    blk_point [iblk, V, idx t]
  refine Eq.trans ?_ (hE (convs (P m c) (m ((c : Thread nD τ).loc main_arg5)))).symm
  refine Eq.trans ?_ (convAt_tile (P m c) (m ((c : Thread nD τ).loc main_arg5)) ⟨t, lt16 t⟩ y0 y1).symm
  rw [← hw0, ← hw1, ← hw2]
  exact congrArg (fun T => convRow T _ _ _ y0 y1) (blkProj_eq m c t)

/-- The edge rows. -/
theorem final_edges (c : Dev nD) : (dats m 0 c).arrAt 15 cfg0.N = edges (P m c) (m ((c : Thread nD τ).loc main_arg5)) := by
  refine (dats m 0 c).arrAt_eq_of_covers 15 _ (by decide +kernel) fun t hf y => ?_
  blk_simp
  rw [after0_15, block_edges]
  idx_vars y
  have hE : ∀ f : S128x512.Idx → EReal, f (((View.whole main_v4_4).slice (win0_15.rect t)).emb (ix2 y0 y1))
      = f (ix2 (⟨t.val * 8 + y0, by have := lt16 t; omega⟩ : Fin 128) y1) := by
    intro f
    blk_point [idx t]
  have hw0 : iblk m c 5 t (ix3 0 0 (⟨y1, by omega⟩ : Fin 1536)) = m ((c : Thread nD τ).loc main_arg5) (ix3 0 0 y1) := by
    blk_point [iblk, V, idx t]
  have hw2 : iblk m c 5 t (ix3 0 0 (⟨1024 + y1, by omega⟩ : Fin 1536)) = m ((c : Thread nD τ).loc main_arg5) (ix3 0 2 y1) := by
    blk_point [iblk, V, idx t]
  refine Eq.trans ?_ (hE (edges (P m c) (m ((c : Thread nD τ).loc main_arg5)))).symm
  refine Eq.trans ?_ (edgeAt_tile (P m c) (m ((c : Thread nD τ).loc main_arg5)) ⟨t, lt16 t⟩ y0 y1).symm
  rw [← hw0, ← hw2]
  exact congrArg (fun T => edgesRow T _ _ y0 y1) (blkProj_eq m c t)

/-- The attention branch's gates. -/
theorem final_sga (c : Dev nD) : (dats m 0 c).arrAt 16 cfg0.N = gates (P m c) 3072 (by omega) := by
  refine (dats m 0 c).arrAt_eq_of_covers 16 _ (by decide +kernel) fun t hf y => ?_
  blk_simp
  rw [after0_16, block_sga]
  idx_vars y
  have hE : ∀ f : S16384x1024.Idx → EReal, f (((View.whole main_v4_5).slice (win0_16.rect t)).emb (ix2 y0 y1))
      = f (ix2 (⟨t.val * 1024 + y0, by have := lt16 t; omega⟩ : Fin 16384) y1) := by
    intro f
    blk_point [idx t]
  refine Eq.trans ?_ (hE (gates (P m c) 3072 (by omega))).symm
  exact congrArg (fun p => gateRow p 3072 (by omega) y1) (congrFun (blkProj_eq m c t) y0)

/-- The convolution branch's gates. -/
theorem final_sgb (c : Dev nD) : (dats m 0 c).arrAt 17 cfg0.N = gates (P m c) 4096 (by omega) := by
  refine (dats m 0 c).arrAt_eq_of_covers 17 _ (by decide +kernel) fun t hf y => ?_
  blk_simp
  rw [after0_17, block_sgb]
  idx_vars y
  have hE : ∀ f : S16384x1024.Idx → EReal, f (((View.whole main_v4_6).slice (win0_17.rect t)).emb (ix2 y0 y1))
      = f (ix2 (⟨t.val * 1024 + y0, by have := lt16 t; omega⟩ : Fin 16384) y1) := by
    intro f
    blk_point [idx t]
  refine Eq.trans ?_ (hE (gates (P m c) 4096 (by omega))).symm
  exact congrArg (fun p => gateRow p 4096 (by omega) y1) (congrFun (blkProj_eq m c t) y0)

/-- A weight, recast. -/
theorem final_wa (c : Dev nD) : (dats m 0 c).arrAt 18 cfg0.N = fun i => m ((c : Thread nD τ).loc main_arg6) (ix3 0 (i 0) (i 1)) := by
  refine (dats m 0 c).arrAt_eq_of_covers 18 _ (by decide +kernel) fun t hf y => ?_
  blk_simp
  rw [after0_18, block_wa]
  idx_vars y
  blk_point [iblk, V, idx t]

/-- A weight, recast. -/
theorem final_wb (c : Dev nD) : (dats m 0 c).arrAt 19 cfg0.N = fun i => m ((c : Thread nD τ).loc main_arg7) (ix3 0 (i 0) (i 1)) := by
  refine (dats m 0 c).arrAt_eq_of_covers 19 _ (by decide +kernel) fun t hf y => ?_
  blk_simp
  rw [after0_19, block_wb]
  idx_vars y
  blk_point [iblk, V, idx t]

/-- A weight, recast. -/
theorem final_wo (c : Dev nD) : (dats m 0 c).arrAt 20 cfg0.N = fun i => m ((c : Thread nD τ).loc main_arg8) (ix3 0 (i 0) (i 1)) := by
  refine (dats m 0 c).arrAt_eq_of_covers 20 _ (by decide +kernel) fun t hf y => ?_
  blk_simp
  rw [after0_20, block_wo]
  idx_vars y
  blk_point [iblk, V, idx t]

/-- A weight, recast. -/
theorem final_w1 (c : Dev nD) : (dats m 0 c).arrAt 21 cfg0.N = fun i => m ((c : Thread nD τ).loc main_arg9) (ix3 0 (i 0) (i 1)) := by
  refine (dats m 0 c).arrAt_eq_of_covers 21 _ (by decide +kernel) fun t hf y => ?_
  blk_simp
  rw [after0_21, block_w1]
  idx_vars y
  blk_point [iblk, V, idx t]

/-- A weight, recast. -/
theorem final_w2 (c : Dev nD) : (dats m 0 c).arrAt 22 cfg0.N = fun i => m ((c : Thread nD τ).loc main_arg10) (ix3 0 (i 0) (i 1)) := by
  refine (dats m 0 c).arrAt_eq_of_covers 22 _ (by decide +kernel) fun t hf y => ?_
  blk_simp
  rw [after0_22, block_w2]
  idx_vars y
  blk_point [iblk, V, idx t]

end Cert.Kernel3Ideal.Proj
end
-- ==== Proof.ProjReference.lean ====
/- The projections' reference: each result at an index. -/
module

public import proofs.«01_k».proof.Proof.ProjArray
public import proofs.«01_k».proof.Proof.Gen.Reference3Ideal.Run

@[expose] public section

set_option maxRecDepth 16384

noncomputable section

namespace Cert.Reference3Ideal.Proj

open Cert.Reference3Ideal Cert.Reference3Ideal.Gen Idealize.ShloMosaic Idealize.ShloMosaic.TcCoe Idealize.SL.Sem
open Cert.Kernel3Ideal.Proj (projAll queries keys values convs edges gates convAt edgeAt queryRow keyRow headsRow headNorm scaled part gateRow gate convRow convIn edgesRow edgeRow tile)
open Cert.Kernel2Ideal.Mlp (unitRow)

/-! ## The rows -/

/-- All rows, normalised and projected. -/
def PROJ (x : FVec Ideal S16384x1024 .f32) (g : FVec Ideal S1x1024 .f32) (w : FVec Ideal S1x1024x5120 .f32) : FVec Ideal S16384x5120 .f32 :=
  Host.dotGeneral dot_S16384x1024_S1024x5120_S16384x5120_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))) (shapeCast _ w shapeCasts_S1x1024x5120_S1024x5120)

theorem PROJ_at (x : FVec Ideal S16384x1024 .f32) (g : FVec Ideal S1x1024 .f32) (w : FVec Ideal S1x1024x5120 .f32) (r : Fin 16384) (n : Fin 5120) :
    PROJ x g w (ix2 r n) = projAll x g w r n := by
  simp only [Cert.Kernel3Ideal.Proj.projAll, Cert.Kernel3Ideal.Proj.projRow, Cert.Kernel2Ideal.Mlp.unitRow]
  pointwise! [PROJ]

/-- An array's rows. -/
def rows (P : FVec Ideal S16384x5120 .f32) (r : Fin 16384) (n : Fin 5120) : EReal := P (ix2 r n)

theorem rows_PROJ (x : FVec Ideal S16384x1024 .f32) (g : FVec Ideal S1x1024 .f32) (w : FVec Ideal S1x1024x5120 .f32) : rows (PROJ x g w) = projAll x g w := by
  funext r n
  exact PROJ_at x g w r n

/-! ## Queries, keys and values -/

/-- Every head of every row, normalised, times the gain. -/
def HEADS (H : FVec Ideal S16384x8x64 .f32) (g : FVec Ideal S1x64 .f32) : FVec Ideal S16384x8x64 .f32 :=
  mulf (mulf H (broadcastInDim S16384x8x64 ![0, 1, 2] bcast_S16384x8x1_S16384x8x64_0_1_2 (Host.rsqrt (addf (Host.divf (broadcastInDim S16384x8x1 ![0, 1] bcast_S16384x8_S16384x8x1_0_1 (Host.reduceAdd (mulf H H) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32)))))) (broadcastInDim S16384x8x64 ![0, 1, 2] bcast_S1x1x64_S16384x8x64_0_1_2 (broadcastInDim S1x1x64 ![2] bcast_S64_S1x1x64_2 (shapeCast _ g shapeCasts_S1x64_S64)))

theorem HEADS_at (H : FVec Ideal S16384x8x64 .f32) (g : FVec Ideal S1x64 .f32) (r : Fin 16384) (h : Fin 8) (d : Fin 64) :
    HEADS H g (ix3 r h d) = headNorm (fun e => H (ix3 r h e)) d * g (ix2 0 d) := by
  unfold headNorm
  pointwise! [HEADS]

/-- 512 columns as eight heads. -/
def SPLIT (s : FVec Ideal S16384x512 .f32) : FVec Ideal S16384x8x64 .f32 := shapeCast _ s shapeCasts_S16384x512_S16384x8x64

theorem SPLIT_at (s : FVec Ideal S16384x512 .f32) (r : Fin 16384) (h : Fin 8) (d : Fin 64) :
    SPLIT s (ix3 r h d) = s (ix2 r ⟨64 * h + d, by omega⟩) := by
  pointwise [SPLIT]
  exact congrArg s (congrArg (ix2 r) (Fin.ext (by simp only; omega)))

def Q (P : FVec Ideal S16384x5120 .f32) (g : FVec Ideal S1x64 .f32) : FVec Ideal S16384x512 .bf16 :=
  truncf .bf16 (shapeCast _ (mulf (HEADS (SPLIT (extractStridedSlice S16384x512 ![0, 0] P slices_S16384x5120_S16384x512_0_0)) g) (broadcastInDim S16384x8x64 ![] bcast_S_S16384x8x64 (constant S_ .f32 0x3E38AA3B#32))) shapeCasts_S16384x8x64_S16384x512) bitsLt_bf16_f32

def K (P : FVec Ideal S16384x5120 .f32) (g : FVec Ideal S1x64 .f32) : FVec Ideal S16384x512 .bf16 :=
  truncf .bf16 (shapeCast _ (HEADS (SPLIT (extractStridedSlice S16384x512 ![0, 512] P slices_S16384x5120_S16384x512_0_512)) g) shapeCasts_S16384x8x64_S16384x512) bitsLt_bf16_f32

def V (P : FVec Ideal S16384x5120 .f32) : FVec Ideal S16384x512 .bf16 := truncf .bf16 (extractStridedSlice S16384x512 ![0, 1024] P slices_S16384x5120_S16384x512_0_1024) bitsLt_bf16_f32

theorem cut_0 (P : FVec Ideal S16384x5120 .f32) (r : Fin 16384) (n : Fin 512) : (extractStridedSlice S16384x512 ![0, 0] P slices_S16384x5120_S16384x512_0_0) (ix2 r n) = part (rows P r) 0 (by omega) n := by
  unfold part rows
  pointwise

theorem cut_512 (P : FVec Ideal S16384x5120 .f32) (r : Fin 16384) (n : Fin 512) : (extractStridedSlice S16384x512 ![0, 512] P slices_S16384x5120_S16384x512_0_512) (ix2 r n) = part (rows P r) 512 (by omega) n := by
  unfold part rows
  pointwise

theorem Q_eq (P : FVec Ideal S16384x5120 .f32) (g : FVec Ideal S1x64 .f32) : Q P g = queries (rows P) g := by
  funext i
  idx_vars i
  unfold queries queryRow headsRow scaled
  pointwise [Q]
  rw [HEADS_at, mul_assoc]
  simp only [SPLIT_at, cut_0]

theorem K_eq (P : FVec Ideal S16384x5120 .f32) (g : FVec Ideal S1x64 .f32) : K P g = keys (rows P) g := by
  funext i
  idx_vars i
  unfold keys keyRow headsRow
  pointwise [K]
  rw [HEADS_at]
  simp only [SPLIT_at, cut_512]

theorem V_eq (P : FVec Ideal S16384x5120 .f32) : V P = values (rows P) := by
  funext i
  idx_vars i
  unfold values part rows
  pointwise [V]

/-! ## The gated convolution -/

/-- The padding's value. -/
theorem zero_eq : (FloatOps.sitofp (F := Ideal) FTy.f32 0#32 : EReal) = 0 := by
  show (((0#32 : BitVec 32).toInt : ℝ) : EReal) = 0
  simp

/-- The rows in sixteen tiles. -/
def TILES (s : FVec Ideal S16384x512 .f32) : FVec Ideal S16x1024x512 .f32 := shapeCast _ s shapeCasts_S16384x512_S16x1024x512

theorem TILES_at (s : FVec Ideal S16384x512 .f32) (t : Fin 16) (r : Fin 1024) (n : Fin 512) :
    TILES s (ix3 t r n) = s (ix2 ⟨t * 1024 + r, by omega⟩ n) := by
  pointwise [TILES]

/-- What the convolution runs over, and its outer gate. -/
def Z (P : FVec Ideal S16384x5120 .f32) : FVec Ideal S16x1024x512 .f32 := mulf (TILES (extractStridedSlice S16384x512 ![0, 2048] P slices_S16384x5120_S16384x512_0_2048)) (TILES (extractStridedSlice S16384x512 ![0, 2560] P slices_S16384x5120_S16384x512_0_2560))

def CB (P : FVec Ideal S16384x5120 .f32) : FVec Ideal S16x1024x512 .f32 := TILES (extractStridedSlice S16384x512 ![0, 1536] P slices_S16384x5120_S16384x512_0_1536)

theorem Z_at (P : FVec Ideal S16384x5120 .f32) (t : Fin 16) (r : Fin 1024) (n : Fin 512) : Z P (ix3 t r n) = convIn (tile (rows P) t r) n := by
  unfold convIn part tile rows
  pointwise [Z, TILES]

theorem CB_at (P : FVec Ideal S16384x5120 .f32) (t : Fin 16) (r : Fin 1024) (n : Fin 512) : CB P (ix3 t r n) = part (tile (rows P) t r) 1536 (by omega) n := by
  unfold part tile rows
  pointwise [CB, TILES]

/-- One tap's weights. -/
def TAP0 (w : FVec Ideal S1x3x512 .f32) : FVec Ideal S512 .f32 := shapeCast _ (extractStridedSlice S1x512 ![0, 0] (shapeCast _ w shapeCasts_S1x3x512_S3x512) slices_S3x512_S1x512_0_0) shapeCasts_S1x512_S512

def TAP1 (w : FVec Ideal S1x3x512 .f32) : FVec Ideal S512 .f32 := shapeCast _ (extractStridedSlice S1x512 ![1, 0] (shapeCast _ w shapeCasts_S1x3x512_S3x512) slices_S3x512_S1x512_1_0) shapeCasts_S1x512_S512

def TAP2 (w : FVec Ideal S1x3x512 .f32) : FVec Ideal S512 .f32 := shapeCast _ (extractStridedSlice S1x512 ![2, 0] (shapeCast _ w shapeCasts_S1x3x512_S3x512) slices_S3x512_S1x512_2_0) shapeCasts_S1x512_S512

theorem TAP_at (w : FVec Ideal S1x3x512 .f32) (n : Fin 512) : TAP0 w (ix1 n) = w (ix3 0 0 n) ∧ TAP1 w (ix1 n) = w (ix3 0 1 n) ∧ TAP2 w (ix1 n) = w (ix3 0 2 n) := by
  refine ⟨?_, ?_, ?_⟩
  · pointwise [TAP0]
  · pointwise [TAP1]
  · pointwise [TAP2]

/-- Each tile with a row of zeros before it and one after it. -/
def PADDED (z : FVec Ideal S16x1024x512 .f32) : FVec Ideal S16x1026x512 .f32 :=
  pad S16x1026x512 ![0, 1, 0] ![0, 1, 0] ![0, 0, 0] z (sitofp .f32 (constantI S_ 32 0#32)) pads_S16x1024x512_S16x1026x512_000_110_000 h_S_

theorem PADDED_at (z : FVec Ideal S16x1024x512 .f32) (t : Fin 16) (r : Fin 1026) (n : Fin 512) :
    PADDED z (ix3 t r n) = if h : 1 ≤ (r : ℕ) ∧ (r : ℕ) - 1 < 1024 then z (ix3 t ⟨r - 1, h.2⟩ n) else 0 := by
  pointwise [PADDED]
  rw [zero_eq]

def BB (z cb : FVec Ideal S16x1024x512 .f32) (w : FVec Ideal S1x3x512 .f32) : FVec Ideal S16384x512 .bf16 :=
  truncf .bf16 (shapeCast _ (mulf cb (addf (addf (mulf (extractStridedSlice S16x1024x512 ![0, 0, 0] (PADDED z) slices_S16x1026x512_S16x1024x512_0_0_0) (broadcastInDim S16x1024x512 ![0, 1, 2] bcast_S1x1x512_S16x1024x512_0_1_2 (broadcastInDim S1x1x512 ![2] bcast_S512_S1x1x512_2 (TAP0 w)))) (mulf (extractStridedSlice S16x1024x512 ![0, 1, 0] (PADDED z) slices_S16x1026x512_S16x1024x512_0_1_0) (broadcastInDim S16x1024x512 ![0, 1, 2] bcast_S1x1x512_S16x1024x512_0_1_2 (broadcastInDim S1x1x512 ![2] bcast_S512_S1x1x512_2 (TAP1 w))))) (mulf (extractStridedSlice S16x1024x512 ![0, 2, 0] (PADDED z) slices_S16x1026x512_S16x1024x512_0_2_0) (broadcastInDim S16x1024x512 ![0, 1, 2] bcast_S1x1x512_S16x1024x512_0_1_2 (broadcastInDim S1x1x512 ![2] bcast_S512_S1x1x512_2 (TAP2 w)))))) shapeCasts_S16x1024x512_S16384x512) bitsLt_bf16_f32

theorem BB_at (z cb : FVec Ideal S16x1024x512 .f32) (w : FVec Ideal S1x3x512 .f32) (r : Fin 16384) (n : Fin 512) :
    BB z cb w (ix2 r n) = cb (ix3 ⟨r / 1024, by omega⟩ ⟨r % 1024, by omega⟩ n)
      * (PADDED z (ix3 ⟨r / 1024, by omega⟩ ⟨r % 1024, by omega⟩ n) * w (ix3 0 0 n)
        + PADDED z (ix3 ⟨r / 1024, by omega⟩ ⟨1 + r % 1024, by omega⟩ n) * w (ix3 0 1 n)
        + PADDED z (ix3 ⟨r / 1024, by omega⟩ ⟨2 + r % 1024, by omega⟩ n) * w (ix3 0 2 n)) := by
  pointwise [BB]
  rw [(TAP_at w n).1, (TAP_at w n).2.1, (TAP_at w n).2.2]

/-- The three taps read the row before, the row itself and the row after, zero outside the tile. -/
theorem taps (z : FVec Ideal S16x1024x512 .f32) (t : Fin 16) (r : Fin 1024) (n : Fin 512) :
    PADDED z (ix3 t ⟨r, by omega⟩ n) = (if h : (r : ℕ) = 0 then 0 else z (ix3 t ⟨r - 1, by omega⟩ n))
      ∧ PADDED z (ix3 t ⟨1 + r, by omega⟩ n) = z (ix3 t r n)
      ∧ PADDED z (ix3 t ⟨2 + r, by omega⟩ n) = (if h : (r : ℕ) < 1023 then z (ix3 t ⟨r + 1, by omega⟩ n) else 0) := by
  rw [PADDED_at, PADDED_at, PADDED_at]
  refine ⟨?_, ?_, ?_⟩
  · by_cases h : (r : ℕ) = 0
    · rw [dif_pos h, dif_neg (by simp only; omega)]
    · rw [dif_neg h, dif_pos (by simp only; omega)]
  · rw [dif_pos (by simp only; omega)]
    exact congrArg (fun r => z (ix3 t r n)) (Fin.ext (by simp only; omega))
  · by_cases h : (r : ℕ) < 1023
    · rw [dif_pos h, dif_pos (by simp only; omega)]
      exact congrArg (fun r => z (ix3 t r n)) (Fin.ext (by simp only; omega))
    · rw [dif_neg h, dif_neg (by simp only; omega)]

theorem BB_eq (P : FVec Ideal S16384x5120 .f32) (w : FVec Ideal S1x3x512 .f32) : BB (Z P) (CB P) w = convs (rows P) w := by
  funext i
  idx_vars i
  unfold convs convAt convRow
  obtain ⟨h0, h1, h2⟩ := taps (Z P) ⟨i0 / 1024, by omega⟩ ⟨i0 % 1024, by omega⟩ i1
  refine (BB_at _ _ _ _ _).trans ?_
  rw [h0, h1, h2]
  simp only [Z_at, CB_at]
  rfl

/-! ## The edge rows -/

/-- Four rows one after another, then the padding. -/
theorem edge_cases (t j : ℕ) (ht : t < 16) (z0 z1 c0 c1 p : EReal) (hp : p = 0) :
    (if h : t < 16 ∧ j < 4 then if h1 : j < 1 then z0 else if h2 : j - 1 < 1 then z1 else if h3 : j - 1 - 1 < 1 then c0 else c1 else p)
      = if j = 0 then z0 else if j = 1 then z1 else if j = 2 then c0 else if j = 3 then c1 else 0 := by
  subst hp
  by_cases h : j < 4
  · interval_cases j <;> simp [ht]
  · have e : j ≠ 0 ∧ j ≠ 1 ∧ j ≠ 2 ∧ j ≠ 3 := by omega
    simp [h, e]

def EDGES (z cb : FVec Ideal S16x1024x512 .f32) (a b : FVec Ideal S512 .f32) : FVec Ideal S128x512 .f32 :=
  shapeCast _ (pad S16x8x512 ![0, 0, 0] ![0, 4, 0] ![0, 0, 0] ((concatenate S16x4x512 1 [⟨S16x1x512, ((broadcastInDim S16x1x512 ![0, 2] bcast_S16x512_S16x1x512_0_2 (shapeCast _ (extractStridedSlice S16x1x512 ![0, 0, 0] z slices_S16x1024x512_S16x1x512_0_0_0) shapeCasts_S16x1x512_S16x512)) : (⟨S16x1x512, .f32⟩ : BufTy).Contents (Elt Ideal))⟩, ⟨S16x1x512, ((broadcastInDim S16x1x512 ![0, 2] bcast_S16x512_S16x1x512_0_2 (shapeCast _ (extractStridedSlice S16x1x512 ![0, 1023, 0] z slices_S16x1024x512_S16x1x512_0_1023_0) shapeCasts_S16x1x512_S16x512)) : (⟨S16x1x512, .f32⟩ : BufTy).Contents (Elt Ideal))⟩, ⟨S16x1x512, ((broadcastInDim S16x1x512 ![0, 2] bcast_S16x512_S16x1x512_0_2 (mulf (shapeCast _ (extractStridedSlice S16x1x512 ![0, 0, 0] cb slices_S16x1024x512_S16x1x512_0_0_0) shapeCasts_S16x1x512_S16x512) (broadcastInDim S16x512 ![0, 1] bcast_S1x512_S16x512_0_1 (broadcastInDim S1x512 ![1] bcast_S512_S1x512_1 a)))) : (⟨S16x1x512, .f32⟩ : BufTy).Contents (Elt Ideal))⟩, ⟨S16x1x512, ((broadcastInDim S16x1x512 ![0, 2] bcast_S16x512_S16x1x512_0_2 (mulf (shapeCast _ (extractStridedSlice S16x1x512 ![0, 1023, 0] cb slices_S16x1024x512_S16x1x512_0_1023_0) shapeCasts_S16x1x512_S16x512) (broadcastInDim S16x512 ![0, 1] bcast_S1x512_S16x512_0_1 (broadcastInDim S1x512 ![1] bcast_S512_S1x512_1 b)))) : (⟨S16x1x512, .f32⟩ : BufTy).Contents (Elt Ideal))⟩] concatenates_S16x1x512_S16x1x512_S16x1x512_S16x1x512_S16x4x512_d1 : (⟨S16x4x512, .f32⟩ : BufTy).Contents (Elt Ideal))) (sitofp .f32 (constantI S_ 32 0#32)) pads_S16x4x512_S16x8x512_000_040_000 h_S_) shapeCasts_S16x8x512_S128x512

theorem EDGES_at (z cb : FVec Ideal S16x1024x512 .f32) (a b : FVec Ideal S512 .f32) (r : Fin 128) (n : Fin 512) :
    EDGES z cb a b (ix2 r n) = edgeRow (fun s => z (ix3 ⟨r / 8, by omega⟩ s n)) (fun s => cb (ix3 ⟨r / 8, by omega⟩ s n))
      (a (ix1 n)) (b (ix1 n)) ⟨r % 8, by omega⟩ := by
  generalize hE : edgeRow (fun s => z (ix3 ⟨r / 8, by omega⟩ s n)) (fun s => cb (ix3 ⟨r / 8, by omega⟩ s n))
      (a (ix1 n)) (b (ix1 n)) ⟨r % 8, by omega⟩ = e
  pointwise [EDGES]
  subst hE
  exact edge_cases (r / 8) (r % 8) (by omega) (z (ix3 ⟨r / 8, by omega⟩ 0 n)) (z (ix3 ⟨r / 8, by omega⟩ 1023 n))
    (cb (ix3 ⟨r / 8, by omega⟩ 0 n) * a (ix1 n)) (cb (ix3 ⟨r / 8, by omega⟩ 1023 n) * b (ix1 n)) _ zero_eq

theorem EDGES_eq (P : FVec Ideal S16384x5120 .f32) (w : FVec Ideal S1x3x512 .f32) : EDGES (Z P) (CB P) (TAP0 w) (TAP2 w) = edges (rows P) w := by
  funext i
  idx_vars i
  unfold edges edgeAt edgesRow
  refine (EDGES_at _ _ _ _ _ _).trans ?_
  rw [(TAP_at w i1).1, (TAP_at w i1).2.2]
  simp only [Z_at, CB_at]
  rfl

/-! ## The gates and the weights -/

def GA (P : FVec Ideal S16384x5120 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3072] P slices_S16384x5120_S16384x1024_0_3072))))) bitsLt_bf16_f32

def GB (P : FVec Ideal S16384x5120 .f32) : FVec Ideal S16384x1024 .bf16 :=
  truncf .bf16 (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 4096] P slices_S16384x5120_S16384x1024_0_4096))))) bitsLt_bf16_f32

theorem GA_eq (P : FVec Ideal S16384x5120 .f32) : GA P = gates (rows P) 3072 (by omega) := by
  funext i
  idx_vars i
  unfold gates gateRow gate rows
  pointwise [GA]

theorem GB_eq (P : FVec Ideal S16384x5120 .f32) : GB P = gates (rows P) 4096 (by omega) := by
  funext i
  idx_vars i
  unfold gates gateRow gate rows
  pointwise [GB]

/-! ## The results as functions of the arguments -/

section
variable (x : FVec Ideal S16384x1024 .f32) (g : FVec Ideal S1x1024 .f32) (w : FVec Ideal S1x1024x5120 .f32) (h : FVec Ideal S1x64 .f32) (v : FVec Ideal S1x3x512 .f32)

theorem q_full : Q (PROJ x g w) h = queries (projAll x g w) h := (Q_eq _ _).trans (by rw [rows_PROJ])

theorem k_full : K (PROJ x g w) h = keys (projAll x g w) h := (K_eq _ _).trans (by rw [rows_PROJ])

theorem v_full : V (PROJ x g w) = values (projAll x g w) := (V_eq _).trans (by rw [rows_PROJ])

theorem convs_full : BB (Z (PROJ x g w)) (CB (PROJ x g w)) v = convs (projAll x g w) v := (BB_eq _ _).trans (by rw [rows_PROJ])

theorem edges_full : EDGES (Z (PROJ x g w)) (CB (PROJ x g w)) (TAP0 v) (TAP2 v) = edges (projAll x g w) v :=
  (EDGES_eq _ _).trans (by rw [rows_PROJ])

theorem ga_full : GA (PROJ x g w) = gates (projAll x g w) 3072 (by omega) := (GA_eq _).trans (by rw [rows_PROJ])

theorem gb_full : GB (PROJ x g w) = gates (projAll x g w) 4096 (by omega) := (GB_eq _).trans (by rw [rows_PROJ])
end

theorem cast_branch (w : FVec Ideal S1x512x1024 .f32) :
    truncf .bf16 (shapeCast _ w shapeCasts_S1x512x1024_S512x1024) bitsLt_bf16_f32 = fun i => w (ix3 0 (i 0) (i 1)) := by
  funext i
  idx_vars i
  pointwise

theorem cast_out (w : FVec Ideal S1x1024x1024 .f32) :
    truncf .bf16 (shapeCast _ w shapeCasts_S1x1024x1024_S1024x1024) bitsLt_bf16_f32 = fun i => w (ix3 0 (i 0) (i 1)) := by
  funext i
  idx_vars i
  pointwise

theorem cast_up (w : FVec Ideal S1x1024x4096 .f32) :
    truncf .bf16 (shapeCast _ w shapeCasts_S1x1024x4096_S1024x4096) bitsLt_bf16_f32 = fun i => w (ix3 0 (i 0) (i 1)) := by
  funext i
  idx_vars i
  pointwise

theorem cast_down (w : FVec Ideal S1x4096x1024 .f32) :
    truncf .bf16 (shapeCast _ w shapeCasts_S1x4096x1024_S4096x1024) bitsLt_bf16_f32 = fun i => w (ix3 0 (i 0) (i 1)) := by
  funext i
  idx_vars i
  pointwise

end Cert.Reference3Ideal.Proj

end
-- ==== Proof.ProjClaims.lean ====
/- What is claimed of the projections' call. -/
module

public import proofs.«01_k».proof.Defs
public import proofs.«01_k».proof.Proof.ProjReference
public import proofs.«01_k».proof.Proof.Gen.Kernel3.Frame
public import Idealize.ShloMosaic.Lib.Claim
public import Idealize.ShloMosaic.Lib.Quiescent

@[expose] public section

set_option maxRecDepth 16384

noncomputable section

namespace Cert.Proof.ProjClaims

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono
    (fun r h => ⟨fun c => (h c).2.2.2.2.2.2.2.2.2.2.2.2, sem_eq_zero_of_no_sems (by decide) r.2⟩)
    (Cert.Reference3Ideal.Value.run (F := Ideal) m ρ)

/-- Nothing is named in this call: the two programs are one. -/
theorem preserves : Cert.preserves_Kernel3_Kernel3Ideal := trivial

/-- Both runs end with the same twelve functions of the arguments. -/
theorem algebraic : Cert.algebraic_Kernel3Ideal_Reference3Ideal := by
  intro m g m' g' _ h
  refine ⟨fun c => Cert.Kernel3Ideal.Proj.queries (Cert.Kernel3Ideal.Proj.P m c) (m ((c : Thread Cert.Kernel3Ideal.nD Cert.Kernel3Ideal.τ).loc Cert.Kernel3Ideal.main_arg3)),
    fun c => Cert.Kernel3Ideal.Proj.keys (Cert.Kernel3Ideal.Proj.P m c) (m ((c : Thread Cert.Kernel3Ideal.nD Cert.Kernel3Ideal.τ).loc Cert.Kernel3Ideal.main_arg4)),
    fun c => Cert.Kernel3Ideal.Proj.values (Cert.Kernel3Ideal.Proj.P m c),
    fun c => Cert.Kernel3Ideal.Proj.convs (Cert.Kernel3Ideal.Proj.P m c) (m ((c : Thread Cert.Kernel3Ideal.nD Cert.Kernel3Ideal.τ).loc Cert.Kernel3Ideal.main_arg5)),
    fun c => Cert.Kernel3Ideal.Proj.edges (Cert.Kernel3Ideal.Proj.P m c) (m ((c : Thread Cert.Kernel3Ideal.nD Cert.Kernel3Ideal.τ).loc Cert.Kernel3Ideal.main_arg5)),
    fun c => Cert.Kernel3Ideal.Proj.gates (Cert.Kernel3Ideal.Proj.P m c) 3072 (by omega),
    fun c => Cert.Kernel3Ideal.Proj.gates (Cert.Kernel3Ideal.Proj.P m c) 4096 (by omega),
    fun c => fun i => (m ((c : Thread Cert.Kernel3Ideal.nD Cert.Kernel3Ideal.τ).loc Cert.Kernel3Ideal.main_arg6)) (Idealize.ShloMosaic.ValueIdx.ix3 0 (i 0) (i 1)),
    fun c => fun i => (m ((c : Thread Cert.Kernel3Ideal.nD Cert.Kernel3Ideal.τ).loc Cert.Kernel3Ideal.main_arg7)) (Idealize.ShloMosaic.ValueIdx.ix3 0 (i 0) (i 1)),
    fun c => fun i => (m ((c : Thread Cert.Kernel3Ideal.nD Cert.Kernel3Ideal.τ).loc Cert.Kernel3Ideal.main_arg8)) (Idealize.ShloMosaic.ValueIdx.ix3 0 (i 0) (i 1)),
    fun c => fun i => (m ((c : Thread Cert.Kernel3Ideal.nD Cert.Kernel3Ideal.τ).loc Cert.Kernel3Ideal.main_arg9)) (Idealize.ShloMosaic.ValueIdx.ix3 0 (i 0) (i 1)),
    fun c => fun i => (m ((c : Thread Cert.Kernel3Ideal.nD Cert.Kernel3Ideal.τ).loc Cert.Kernel3Ideal.main_arg10)) (Idealize.ShloMosaic.ValueIdx.ix3 0 (i 0) (i 1)), ?_, ?_⟩
  · refine (θ_run Cert.Kernel3Ideal.defs _ _).mono (fun r hr c => ?_) (Cert.Kernel3Ideal.Value.run_blocks m g)
    obtain ⟨e0, e1, e2, e3, e4, e5, e6, e7, e8, e9, e10, e11, rest⟩ := hr c
    exact ⟨e0.trans (Cert.Kernel3Ideal.Proj.final_q m c), e1.trans (Cert.Kernel3Ideal.Proj.final_k m c), e2.trans (Cert.Kernel3Ideal.Proj.final_v m c), e3.trans (Cert.Kernel3Ideal.Proj.final_bb m c), e4.trans (Cert.Kernel3Ideal.Proj.final_edges m c), e5.trans (Cert.Kernel3Ideal.Proj.final_sga m c), e6.trans (Cert.Kernel3Ideal.Proj.final_sgb m c), e7.trans (Cert.Kernel3Ideal.Proj.final_wa m c), e8.trans (Cert.Kernel3Ideal.Proj.final_wb m c), e9.trans (Cert.Kernel3Ideal.Proj.final_wo m c), e10.trans (Cert.Kernel3Ideal.Proj.final_w1 m c), e11.trans (Cert.Kernel3Ideal.Proj.final_w2 m c), rest⟩
  · refine (θ_run Cert.Reference3Ideal.defs _ _).mono (fun r hr c => ?_) (Cert.Reference3Ideal.Value.run (F := Ideal) m' g')
    obtain ⟨e0, e1, e2, e3, e4, e5, e6, e7, e8, e9, e10, e11, rest⟩ := hr c
    obtain ⟨h0, h1, h2, h3, h4, h5, h6, h7, h8, h9, h10⟩ := h c
    refine ⟨e0.trans ?_, e1.trans ?_, e2.trans ?_, e3.trans ?_, e4.trans ?_, e5.trans ?_, e6.trans ?_, e7.trans ?_, e8.trans ?_, e9.trans ?_, e10.trans ?_, e11.trans ?_, rest⟩
    · refine (Cert.Reference3Ideal.Proj.q_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))).trans ?_
      rw [h0, h1, h2, h3]
    · refine (Cert.Reference3Ideal.Proj.k_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg4))).trans ?_
      rw [h0, h1, h2, h4]
    · refine (Cert.Reference3Ideal.Proj.v_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
      rw [h0, h1, h2]
    · refine (Cert.Reference3Ideal.Proj.convs_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))).trans ?_
      rw [h0, h1, h2, h5]
    · refine (Cert.Reference3Ideal.Proj.edges_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg5))).trans ?_
      rw [h0, h1, h2, h5]
    · refine (Cert.Reference3Ideal.Proj.ga_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
      rw [h0, h1, h2]
    · refine (Cert.Reference3Ideal.Proj.gb_full (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))).trans ?_
      rw [h0, h1, h2]
    · refine (Cert.Reference3Ideal.Proj.cast_branch (m' ((c.tc : Thread Cert.Reference3Ideal.nD Cert.Reference3Ideal.τ).loc Cert.Reference3Ideal.main_arg6))).trans ?_
      rw [h6]
      rfl
    · refine (Cert.Reference3Ideal.Proj.cast_branch (m' ((c.tc : Thread Cert.Reference3Ideal.nD Cert.Reference3Ideal.τ).loc Cert.Reference3Ideal.main_arg7))).trans ?_
      rw [h7]
      rfl
    · refine (Cert.Reference3Ideal.Proj.cast_out (m' ((c.tc : Thread Cert.Reference3Ideal.nD Cert.Reference3Ideal.τ).loc Cert.Reference3Ideal.main_arg8))).trans ?_
      rw [h8]
      rfl
    · refine (Cert.Reference3Ideal.Proj.cast_up (m' ((c.tc : Thread Cert.Reference3Ideal.nD Cert.Reference3Ideal.τ).loc Cert.Reference3Ideal.main_arg9))).trans ?_
      rw [h9]
      rfl
    · refine (Cert.Reference3Ideal.Proj.cast_down (m' ((c.tc : Thread Cert.Reference3Ideal.nD Cert.Reference3Ideal.τ).loc Cert.Reference3Ideal.main_arg10))).trans ?_
      rw [h10]
      rfl

end Cert.Proof.ProjClaims

end
-- ==== Proof.lean ====
/- The claim, assembled from the claims of the three calls. -/
module

public import proofs.«01_k».proof.Defs
public import proofs.«01_k».proof.Proof.MixerClaims
public import proofs.«01_k».proof.Proof.MlpClaims
public import proofs.«01_k».proof.Proof.ProjClaims
public import proofs.«01_k».proof.Proof.Gen.Kernel2Ideal.Value
public import proofs.«01_k».proof.Proof.Gen.Reference2Ideal.Run
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_attention_gate_closed.Gen.facts,
    Cert.Post_is_conv_branch_where_closed.Gen.facts, Cert.Post_is_conv_branch.Gen.facts,
    MixerClaims.frame_p, MixerClaims.frame_pi, MixerClaims.frame_closed, MixerClaims.frame_ri, MlpClaims.frame_p, MlpClaims.frame_pi, MlpClaims.frame_ri,
    ProjClaims.frame_p, ProjClaims.frame_pi, ProjClaims.frame_ri,
    MixerClaims.preserves, MixerClaims.holds, MixerClaims.holds_closed, MlpClaims.preserves, MlpClaims.algebraic, ProjClaims.preserves, ProjClaims.algebraic⟩

end Cert.Proof

end
